-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Experts (m : (ℓ : Loc Cert.Experts.nD Cert.Experts.τ Cert.Experts.sig) → Buf (Elt Bits) ℓ) : Prop :=
  True

def Pre_ExpertsIdeal (m : (ℓ : Loc Cert.ExpertsIdeal.nD Cert.ExpertsIdeal.τ Cert.ExpertsIdeal.sig) → Buf (Elt Ideal) ℓ) : Prop :=
  True

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4))
      ∧ r.2.sem = fun _ => 0)

def quiescent_Experts [hExperts : Cert.Experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4)
      ∧ r.2.mem ((c.tc : Thread Cert.Experts.nD Cert.Experts.τ).loc Cert.Experts.main_arg5) = m ((c.tc : Thread Cert.Experts.nD Cert.Experts.τ).loc Cert.Experts.main_arg5))
      ∧ r.2.sem = fun _ => 0)

def quiescent_ExpertsIdeal [hExpertsIdeal : Cert.ExpertsIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
      ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4)
      ∧ r.2.mem ((c.tc : Thread Cert.ExpertsReferenceIdeal.nD Cert.ExpertsReferenceIdeal.τ).loc Cert.ExpertsReferenceIdeal.main_arg5) = m ((c.tc : Thread Cert.ExpertsReferenceIdeal.nD Cert.ExpertsReferenceIdeal.τ).loc Cert.ExpertsReferenceIdeal.main_arg5))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1)
      ∧ r.2.mem ((c.tc : Thread Cert.Memory.nD Cert.Memory.τ).loc Cert.Memory.main_arg2) = m ((c.tc : Thread Cert.Memory.nD Cert.Memory.τ).loc Cert.Memory.main_arg2))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
      ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1)
      ∧ r.2.mem ((c.tc : Thread Cert.MemoryReferenceIdeal.nD Cert.MemoryReferenceIdeal.τ).loc Cert.MemoryReferenceIdeal.main_arg2) = m ((c.tc : Thread Cert.MemoryReferenceIdeal.nD Cert.MemoryReferenceIdeal.τ).loc Cert.MemoryReferenceIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)) →
    ∃ (v0 : (c : Dev Cert.DenseIdeal.nD) → Buf (Elt Ideal) ((c.tc : Thread Cert.DenseIdeal.nD Cert.DenseIdeal.τ).loc Cert.DenseIdeal.main_v5)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v5) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v22) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)
      ∧ m' ((c.tc : Thread Cert.ExpertsReferenceIdeal.nD Cert.ExpertsReferenceIdeal.τ).loc Cert.ExpertsReferenceIdeal.main_arg5) = m ((c.tc : Thread Cert.ExpertsIdeal.nD Cert.ExpertsIdeal.τ).loc Cert.ExpertsIdeal.main_arg5)) →
    ∃ (v0 : (c : Dev Cert.ExpertsIdeal.nD) → Buf (Elt Ideal) ((c.tc : Thread Cert.ExpertsIdeal.nD Cert.ExpertsIdeal.τ).loc Cert.ExpertsIdeal.main_v80)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v80) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)
          ∧ r.2.mem ((c.tc : Thread Cert.ExpertsIdeal.nD Cert.ExpertsIdeal.τ).loc Cert.ExpertsIdeal.main_arg5) = m ((c.tc : Thread Cert.ExpertsIdeal.nD Cert.ExpertsIdeal.τ).loc Cert.ExpertsIdeal.main_arg5))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v110) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4)
          ∧ r.2.mem ((c.tc : Thread Cert.ExpertsReferenceIdeal.nD Cert.ExpertsReferenceIdeal.τ).loc Cert.ExpertsReferenceIdeal.main_arg5) = m' ((c.tc : Thread Cert.ExpertsReferenceIdeal.nD Cert.ExpertsReferenceIdeal.τ).loc Cert.ExpertsReferenceIdeal.main_arg5))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)
      ∧ m' ((c.tc : Thread Cert.MemoryReferenceIdeal.nD Cert.MemoryReferenceIdeal.τ).loc Cert.MemoryReferenceIdeal.main_arg2) = m ((c.tc : Thread Cert.MemoryIdeal.nD Cert.MemoryIdeal.τ).loc Cert.MemoryIdeal.main_arg2)) →
    ∃ (v0 : (c : Dev Cert.MemoryIdeal.nD) → Buf (Elt Ideal) ((c.tc : Thread Cert.MemoryIdeal.nD Cert.MemoryIdeal.τ).loc Cert.MemoryIdeal.main_v4_0)) (v1 : (c : Dev Cert.MemoryIdeal.nD) → Buf (Elt Ideal) ((c.tc : Thread Cert.MemoryIdeal.nD Cert.MemoryIdeal.τ).loc Cert.MemoryIdeal.main_v4_1)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v4_0) = v0 c
          ∧ r.2.mem ((c.tc : Thread Cert.MemoryIdeal.nD Cert.MemoryIdeal.τ).loc Cert.MemoryIdeal.main_v4_1) = v1 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)
          ∧ r.2.mem ((c.tc : Thread Cert.MemoryIdeal.nD Cert.MemoryIdeal.τ).loc Cert.MemoryIdeal.main_arg2) = m ((c.tc : Thread Cert.MemoryIdeal.nD Cert.MemoryIdeal.τ).loc Cert.MemoryIdeal.main_arg2))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v14) = v0 c
          ∧ r.2.mem ((c.tc : Thread Cert.MemoryReferenceIdeal.nD Cert.MemoryReferenceIdeal.τ).loc Cert.MemoryReferenceIdeal.main_v15) = v1 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1)
          ∧ r.2.mem ((c.tc : Thread Cert.MemoryReferenceIdeal.nD Cert.MemoryReferenceIdeal.τ).loc Cert.MemoryReferenceIdeal.main_arg2) = m' ((c.tc : Thread Cert.MemoryReferenceIdeal.nD Cert.MemoryReferenceIdeal.τ).loc Cert.MemoryReferenceIdeal.main_arg2))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)) →
    ∃ (v0 : (c : Dev Cert.ProjIdeal.nD) → Buf (Elt Ideal) ((c.tc : Thread Cert.ProjIdeal.nD Cert.ProjIdeal.τ).loc Cert.ProjIdeal.main_v173_0)) (v1 : (c : Dev Cert.ProjIdeal.nD) → Buf (Elt Ideal) ((c.tc : Thread Cert.ProjIdeal.nD Cert.ProjIdeal.τ).loc Cert.ProjIdeal.main_v173_3)) (v2 : (c : Dev Cert.ProjIdeal.nD) → Buf (Elt Ideal) ((c.tc : Thread Cert.ProjIdeal.nD Cert.ProjIdeal.τ).loc Cert.ProjIdeal.main_v173_6)) (v3 : (c : Dev Cert.ProjIdeal.nD) → Buf (Elt Ideal) ((c.tc : Thread Cert.ProjIdeal.nD Cert.ProjIdeal.τ).loc Cert.ProjIdeal.main_v173_7)) (v4 : (c : Dev Cert.ProjIdeal.nD) → Buf (Elt Ideal) ((c.tc : Thread Cert.ProjIdeal.nD Cert.ProjIdeal.τ).loc Cert.ProjIdeal.main_v173_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v173_0) = v0 c
          ∧ r.2.mem ((c.tc : Thread Cert.ProjIdeal.nD Cert.ProjIdeal.τ).loc Cert.ProjIdeal.main_v173_3) = v1 c
          ∧ r.2.mem ((c.tc : Thread Cert.ProjIdeal.nD Cert.ProjIdeal.τ).loc Cert.ProjIdeal.main_v173_6) = v2 c
          ∧ r.2.mem ((c.tc : Thread Cert.ProjIdeal.nD Cert.ProjIdeal.τ).loc Cert.ProjIdeal.main_v173_7) = v3 c
          ∧ r.2.mem ((c.tc : Thread Cert.ProjIdeal.nD Cert.ProjIdeal.τ).loc Cert.ProjIdeal.main_v173_9) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v28) = v0 c
          ∧ r.2.mem ((c.tc : Thread Cert.ProjReferenceIdeal.nD Cert.ProjReferenceIdeal.τ).loc Cert.ProjReferenceIdeal.main_v29) = v1 c
          ∧ r.2.mem ((c.tc : Thread Cert.ProjReferenceIdeal.nD Cert.ProjReferenceIdeal.τ).loc Cert.ProjReferenceIdeal.main_v30) = v2 c
          ∧ r.2.mem ((c.tc : Thread Cert.ProjReferenceIdeal.nD Cert.ProjReferenceIdeal.τ).loc Cert.ProjReferenceIdeal.main_v31) = v3 c
          ∧ r.2.mem ((c.tc : Thread Cert.ProjReferenceIdeal.nD Cert.ProjReferenceIdeal.τ).loc Cert.ProjReferenceIdeal.main_v32) = v4 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3))

def Claim : Prop :=
  ∃ (hKernel : Cert.Kernel.Facts) (hKernelIdeal : Cert.KernelIdeal.Facts) (hReferenceIdeal : Cert.ReferenceIdeal.Facts) (hDense : Cert.Dense.Facts) (hDenseIdeal : Cert.DenseIdeal.Facts) (hDenseReferenceIdeal : Cert.DenseReferenceIdeal.Facts) (hExperts : Cert.Experts.Facts) (hExpertsIdeal : Cert.ExpertsIdeal.Facts) (hExpertsReferenceIdeal : Cert.ExpertsReferenceIdeal.Facts) (hMemory : Cert.Memory.Facts) (hMemoryIdeal : Cert.MemoryIdeal.Facts) (hMemoryReferenceIdeal : Cert.MemoryReferenceIdeal.Facts) (hProj : Cert.Proj.Facts) (hProjIdeal : Cert.ProjIdeal.Facts) (hProjReferenceIdeal : Cert.ProjReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dense (hDense := hDense)
    ∧ quiescent_DenseIdeal (hDenseIdeal := hDenseIdeal)
    ∧ quiescent_DenseReferenceIdeal (hDenseReferenceIdeal := hDenseReferenceIdeal)
    ∧ quiescent_Experts (hExperts := hExperts)
    ∧ quiescent_ExpertsIdeal (hExpertsIdeal := hExpertsIdeal)
    ∧ quiescent_ExpertsReferenceIdeal (hExpertsReferenceIdeal := hExpertsReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Proj (hProj := hProj)
    ∧ quiescent_ProjIdeal (hProjIdeal := hProjIdeal)
    ∧ quiescent_ProjReferenceIdeal (hProjReferenceIdeal := hProjReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dense_DenseIdeal
    ∧ algebraic_DenseIdeal_DenseReferenceIdeal (hDenseIdeal := hDenseIdeal) (hDenseReferenceIdeal := hDenseReferenceIdeal)
    ∧ preserves_Experts_ExpertsIdeal
    ∧ algebraic_ExpertsIdeal_ExpertsReferenceIdeal (hExpertsIdeal := hExpertsIdeal) (hExpertsReferenceIdeal := hExpertsReferenceIdeal)
    ∧ preserves_Memory_MemoryIdeal
    ∧ algebraic_MemoryIdeal_MemoryReferenceIdeal (hMemoryIdeal := hMemoryIdeal) (hMemoryReferenceIdeal := hMemoryReferenceIdeal)
    ∧ preserves_Proj_ProjIdeal
    ∧ algebraic_ProjIdeal_ProjReferenceIdeal (hProjIdeal := hProjIdeal) (hProjReferenceIdeal := hProjReferenceIdeal)
-- ==== Pre_finite.lean ====
abbrev S4x4096x8x64 : Shape := ⟨4, ![4, 4096, 8, 64]⟩
abbrev S4x4096x8 : Shape := ⟨3, ![4, 4096, 8]⟩
abbrev S_ : Shape := ⟨0, ![]⟩

class Facts : Prop where
  bcast_S_S4x4096x8x64 : S_.BroadcastsInDim S4x4096x8x64 (![] : Fin 0 → Fin S4x4096x8x64.rank)
  reducesTo_S4x4096x8x64_S_d0_1_2_3 : S4x4096x8x64.ReducesTo [0, 1, 2, 3] S_
  h_S_ : 0 < S_.numel
  bcast_S_S4x4096x8 : S_.BroadcastsInDim S4x4096x8 (![] : Fin 0 → Fin S4x4096x8.rank)
  reducesTo_S4x4096x8_S_d0_1_2 : S4x4096x8.ReducesTo [0, 1, 2] S_

variable [Facts]

def fn {F : FTy → Type} [FloatOps F] (main_arg0 : FVec F S4x4096x8x64 .f32) (main_arg1 : FVec F S4x4096x8x64 .f32) (main_arg2 : FVec F S4x4096x8x64 .f32) (main_arg3 : FVec F S4x4096x8 .f32) : IVec S_ 1 :=
  let main_v0 : FVec F S4x4096x8x64 .f32 := Host.absf main_arg0
  let main_cst : FVec F S_ .f32 := constant S_ .f32 0x7F800000#32
  let main_v1 : FVec F S4x4096x8x64 .f32 := broadcastInDim S4x4096x8x64 ![] bcast_S_S4x4096x8x64 main_cst
  let main_v2 : IVec S4x4096x8x64 1 := cmpf .olt main_v0 main_v1
  let main_c : IVec S_ 1 := constantI S_ 1 1#1
  let main_v3 : IVec S_ 1 := (fun x v => Host.reduce IntOp.andi x v reducesTo_S4x4096x8x64_S_d0_1_2_3 h_S_) main_v2 main_c
  let main_v4 : FVec F S4x4096x8x64 .f32 := Host.absf main_arg1
  let main_cst_0 : FVec F S_ .f32 := constant S_ .f32 0x7F800000#32
  let main_v5 : FVec F S4x4096x8x64 .f32 := broadcastInDim S4x4096x8x64 ![] bcast_S_S4x4096x8x64 main_cst_0
  let main_v6 : IVec S4x4096x8x64 1 := cmpf .olt main_v4 main_v5
  let main_c_1 : IVec S_ 1 := constantI S_ 1 1#1
  let main_v7 : IVec S_ 1 := (fun x v => Host.reduce IntOp.andi x v reducesTo_S4x4096x8x64_S_d0_1_2_3 h_S_) main_v6 main_c_1
  let main_v8 : IVec S_ 1 := andi main_v3 main_v7
  let main_v9 : FVec F S4x4096x8 .f32 := Host.absf main_arg3
  let main_cst_2 : FVec F S_ .f32 := constant S_ .f32 0x7F800000#32
  let main_v10 : FVec F S4x4096x8 .f32 := broadcastInDim S4x4096x8 ![] bcast_S_S4x4096x8 main_cst_2
  let main_v11 : IVec S4x4096x8 1 := cmpf .olt main_v9 main_v10
  let main_c_3 : IVec S_ 1 := constantI S_ 1 1#1
  let main_v12 : IVec S_ 1 := (fun x v => Host.reduce IntOp.andi x v reducesTo_S4x4096x8_S_d0_1_2 h_S_) main_v11 main_c_3
  let main_v13 : IVec S_ 1 := andi main_v8 main_v12
  main_v13
-- ==== Kernel.lean ====
abbrev S4x4096x8x64 : Shape := ⟨4, ![4, 4096, 8, 64]⟩
abbrev S4x4096x8 : Shape := ⟨3, ![4, 4096, 8]⟩
abbrev S16384x512 : Shape := ⟨2, ![16384, 512]⟩
abbrev S_ : Shape := ⟨0, ![]⟩
abbrev S4x8x512x512 : Shape := ⟨4, ![4, 8, 512, 512]⟩
abbrev S4x8x4096 : Shape := ⟨3, ![4, 8, 4096]⟩
abbrev S4x8x8x512 : Shape := ⟨4, ![4, 8, 8, 512]⟩
abbrev S512x128 : Shape := ⟨2, ![512, 128]⟩
abbrev S1x8x128x512 : Shape := ⟨4, ![1, 8, 128, 512]⟩
abbrev S1x8x8x512 : Shape := ⟨4, ![1, 8, 8, 512]⟩
abbrev S1x128 : Shape := ⟨2, ![1, 128]⟩
abbrev S512x512 : Shape := ⟨2, ![512, 512]⟩
abbrev S512x1 : Shape := ⟨2, ![512, 1]⟩
abbrev S1x1x128x512 : Shape := ⟨4, ![1, 1, 128, 512]⟩
abbrev S128x512 : Shape := ⟨2, ![128, 512]⟩
abbrev S1x1x1x512 : Shape := ⟨4, ![1, 1, 1, 512]⟩
abbrev S1x1x512 : Shape := ⟨3, ![1, 1, 512]⟩
abbrev S1x512 : Shape := ⟨2, ![1, 512]⟩
abbrev S512 : Shape := ⟨1, ![512]⟩

abbrev nBuf : Space → Nat
  | .hbm => 21
  | .vmem => 10
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x8, .f32⟩
  | .hbm, ⟨4, _⟩ => ⟨S16384x512, .f32⟩
  | .hbm, ⟨5, _⟩ => ⟨S_, .f32⟩
  | .hbm, ⟨6, _⟩ => ⟨S16384x512, .f32⟩
  | .hbm, ⟨7, _⟩ => ⟨S16384x512, .f32⟩
  | .hbm, ⟨8, _⟩ => ⟨S16384x512, .bf16⟩
  | .hbm, ⟨9, _⟩ => ⟨S4x8x512x512, .f32⟩
  | .hbm, ⟨10, _⟩ => ⟨S4x8x512x512, .f32⟩
  | .hbm, ⟨11, _⟩ => ⟨S4x8x512x512, .bf16⟩
  | .hbm, ⟨12, _⟩ => ⟨S4x8x512x512, .f32⟩
  | .hbm, ⟨13, _⟩ => ⟨S4x8x512x512, .f32⟩
  | .hbm, ⟨14, _⟩ => ⟨S4x8x512x512, .bf16⟩
  | .hbm, ⟨15, _⟩ => ⟨S4x8x4096, .f32⟩
  | .hbm, ⟨16, _⟩ => ⟨S_, .f32⟩
  | .hbm, ⟨17, _⟩ => ⟨S_, .f32⟩
  | .hbm, ⟨18, _⟩ => ⟨S4x8x4096, .f32⟩
  | .hbm, ⟨19, _⟩ => ⟨S4x8x8x512, .f32⟩
  | .hbm, ⟨20, _⟩ => ⟨S16384x512, .bf16⟩
  | .local _ .vmem, ⟨0, _⟩ => ⟨S512x128, .bf16⟩
  | .local _ .vmem, ⟨1, _⟩ => ⟨S512x128, .bf16⟩
  | .local _ .vmem, ⟨2, _⟩ => ⟨S1x8x128x512, .bf16⟩
  | .local _ .vmem, ⟨3, _⟩ => ⟨S1x8x128x512, .bf16⟩
  | .local _ .vmem, ⟨4, _⟩ => ⟨S1x8x128x512, .bf16⟩
  | .local _ .vmem, ⟨5, _⟩ => ⟨S1x8x128x512, .bf16⟩
  | .local _ .vmem, ⟨6, _⟩ => ⟨S1x8x8x512, .f32⟩
  | .local _ .vmem, ⟨7, _⟩ => ⟨S1x8x8x512, .f32⟩
  | .local _ .vmem, ⟨8, _⟩ => ⟨S512x128, .bf16⟩
  | .local _ .vmem, ⟨9, _⟩ => ⟨S512x128, .bf16⟩
  | _, _ => ⟨S4x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_call0_cst : Ref sig .tc := ⟨.hbm, 16, rfl⟩
abbrev main_call0_call0_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 8], ![false, false, false]⟩

@[reducible] def k0_t1_loop (i : grid0.Coords) : Scf.Loop 32 :=
  let c0_i32_20 : BitVec 32 := 0#32
  let arg2 : BitVec 32 := BitVec.ofNat 32 (i 2).val
  let c0_i32_5 : BitVec 32 := 0#32
  let v27 : BitVec 1 := Scalar.cmpi .sgt arg2 c0_i32_5
  let v28 : BitVec 32 := Scalar.extui v27
  let c0_i32_6 : BitVec 32 := 0#32
  let v29 : BitVec 1 := Scalar.cmpi .slt arg2 c0_i32_6
  let v30 : BitVec 32 := Scalar.extui v29
  let v31 : BitVec 32 := Scalar.subi v28 v30
  let c1_i32 : BitVec 32 := 1#32
  let c0_i32_7 : BitVec 32 := 0#32
  let v32 : BitVec 1 := Scalar.cmpi .sgt c1_i32 c0_i32_7
  let v33 : BitVec 32 := Scalar.extui v32
  let c0_i32_8 : BitVec 32 := 0#32
  let v34 : BitVec 1 := Scalar.cmpi .slt c1_i32 c0_i32_8
  let v35 : BitVec 32 := Scalar.extui v34
  let v36 : BitVec 32 := Scalar.subi v33 v35
  let v37 : BitVec 1 := Scalar.cmpi .ne v31 v36
  let v38 : BitVec 32 := Scalar.remsi arg2 c1_i32
  let c0_i32_9 : BitVec 32 := 0#32
  let v39 : BitVec 1 := Scalar.cmpi .ne v38 c0_i32_9
  let v40 : BitVec 1 := Scalar.andi v37 v39
  let v26 : BitVec 32 := Scalar.divsi arg2 c1_i32
  let c1_i32_10 : BitVec 32 := 1#32
  let v41 : BitVec 32 := Scalar.subi v26 c1_i32_10
  let v42 : BitVec 32 := Scalar.select v40 v41 v26
  let v62 : BitVec 32 := Scalar.subi v42 c0_i32_20
  let c1_i32_21 : BitVec 32 := 1#32
  let v64 : BitVec 32 := Scalar.divsi v62 c1_i32_21
  let v65 : BitVec 32 := Scalar.muli v64 c1_i32_21
  let v66 : BitVec 32 := Scalar.addi c0_i32_20 v65
  let c1_i32_22 : BitVec 32 := 1#32
  ⟨c0_i32_20, v66, c1_i32_22⟩
def k0_off1 (i : grid0.Coords) (k0_t1 : Fin (k0_t1_loop i).trips) : Fin 4 → Nat :=
  let c0_50 : Index := 0#32
  let c0_i32_20 : BitVec 32 := 0#32
  let c1_i32_22 : BitVec 32 := 1#32
  let arg8 : BitVec 32 := Scf.iv c0_i32_20 c1_i32_22 k0_t1
  let v143 : Index := Scalar.indexCast arg8
  let c0_51 : Index := 0#32
  let c0_52 : Index := 0#32
  ![0, v143.toNat, 0, 0]
def k0_off2 (i : grid0.Coords) (k0_t1 : Fin (k0_t1_loop i).trips) (c0_i32_57 : BitVec 32) : Fin 4 → Nat :=
  let c0_58 : Index := 0#32
  let c2_i32_56 : BitVec 32 := 2#32
  let arg1 : BitVec 32 := BitVec.ofNat 32 (i 1).val
  let v149 : BitVec 32 := Scalar.muli c2_i32_56 arg1
  let v150 : BitVec 32 := Scalar.addi v149 c0_i32_57
  let v151 : Index := Scalar.indexCast v150
  let c0_i32_20 : BitVec 32 := 0#32
  let c1_i32_22 : BitVec 32 := 1#32
  let arg8 : BitVec 32 := Scf.iv c0_i32_20 c1_i32_22 k0_t1
  let v152 : Index := Scalar.indexCast arg8
  let c0_59 : Index := 0#32
  ![0, v151.toNat, v152.toNat, 0]
@[reducible] def k0_t2_loop (i : grid0.Coords) : Scf.Loop 32 :=
  let c0_i32_20 : BitVec 32 := 0#32
  let arg2 : BitVec 32 := BitVec.ofNat 32 (i 2).val
  let c0_i32_5 : BitVec 32 := 0#32
  let v27 : BitVec 1 := Scalar.cmpi .sgt arg2 c0_i32_5
  let v28 : BitVec 32 := Scalar.extui v27
  let c0_i32_6 : BitVec 32 := 0#32
  let v29 : BitVec 1 := Scalar.cmpi .slt arg2 c0_i32_6
  let v30 : BitVec 32 := Scalar.extui v29
  let v31 : BitVec 32 := Scalar.subi v28 v30
  let c1_i32 : BitVec 32 := 1#32
  let c0_i32_7 : BitVec 32 := 0#32
  let v32 : BitVec 1 := Scalar.cmpi .sgt c1_i32 c0_i32_7
  let v33 : BitVec 32 := Scalar.extui v32
  let c0_i32_8 : BitVec 32 := 0#32
  let v34 : BitVec 1 := Scalar.cmpi .slt c1_i32 c0_i32_8
  let v35 : BitVec 32 := Scalar.extui v34
  let v36 : BitVec 32 := Scalar.subi v33 v35
  let v37 : BitVec 1 := Scalar.cmpi .ne v31 v36
  let v38 : BitVec 32 := Scalar.remsi arg2 c1_i32
  let c0_i32_9 : BitVec 32 := 0#32
  let v39 : BitVec 1 := Scalar.cmpi .ne v38 c0_i32_9
  let v40 : BitVec 1 := Scalar.andi v37 v39
  let v26 : BitVec 32 := Scalar.divsi arg2 c1_i32
  let c1_i32_10 : BitVec 32 := 1#32
  let v41 : BitVec 32 := Scalar.subi v26 c1_i32_10
  let v42 : BitVec 32 := Scalar.select v40 v41 v26
  let v62 : BitVec 32 := Scalar.subi v42 c0_i32_20
  let c1_i32_21 : BitVec 32 := 1#32
  let v64 : BitVec 32 := Scalar.divsi v62 c1_i32_21
  let v65 : BitVec 32 := Scalar.muli v64 c1_i32_21
  let v66 : BitVec 32 := Scalar.addi c0_i32_20 v65
  let v63 : BitVec 32 := Scalar.addi c0_i32_20 v62
  let c1_i32_23 : BitVec 32 := 1#32
  ⟨v66, v63, c1_i32_23⟩
def k0_off3 (i : grid0.Coords) (k0_t2 : Fin (k0_t2_loop i).trips) : Fin 4 → Nat :=
  let c0_50 : Index := 0#32
  let c0_i32_20 : BitVec 32 := 0#32
  let arg2 : BitVec 32 := BitVec.ofNat 32 (i 2).val
  let c0_i32_5 : BitVec 32 := 0#32
  let v27 : BitVec 1 := Scalar.cmpi .sgt arg2 c0_i32_5
  let v28 : BitVec 32 := Scalar.extui v27
  let c0_i32_6 : BitVec 32 := 0#32
  let v29 : BitVec 1 := Scalar.cmpi .slt arg2 c0_i32_6
  let v30 : BitVec 32 := Scalar.extui v29
  let v31 : BitVec 32 := Scalar.subi v28 v30
  let c1_i32 : BitVec 32 := 1#32
  let c0_i32_7 : BitVec 32 := 0#32
  let v32 : BitVec 1 := Scalar.cmpi .sgt c1_i32 c0_i32_7
  let v33 : BitVec 32 := Scalar.extui v32
  let c0_i32_8 : BitVec 32 := 0#32
  let v34 : BitVec 1 := Scalar.cmpi .slt c1_i32 c0_i32_8
  let v35 : BitVec 32 := Scalar.extui v34
  let v36 : BitVec 32 := Scalar.subi v33 v35
  let v37 : BitVec 1 := Scalar.cmpi .ne v31 v36
  let v38 : BitVec 32 := Scalar.remsi arg2 c1_i32
  let c0_i32_9 : BitVec 32 := 0#32
  let v39 : BitVec 1 := Scalar.cmpi .ne v38 c0_i32_9
  let v40 : BitVec 1 := Scalar.andi v37 v39
  let v26 : BitVec 32 := Scalar.divsi arg2 c1_i32
  let c1_i32_10 : BitVec 32 := 1#32
  let v41 : BitVec 32 := Scalar.subi v26 c1_i32_10
  let v42 : BitVec 32 := Scalar.select v40 v41 v26
  let v62 : BitVec 32 := Scalar.subi v42 c0_i32_20
  let c1_i32_21 : BitVec 32 := 1#32
  let v64 : BitVec 32 := Scalar.divsi v62 c1_i32_21
  let v65 : BitVec 32 := Scalar.muli v64 c1_i32_21
  let v66 : BitVec 32 := Scalar.addi c0_i32_20 v65
  let c1_i32_23 : BitVec 32 := 1#32
  let arg8 : BitVec 32 := Scf.iv v66 c1_i32_23 k0_t2
  let v143 : Index := Scalar.indexCast arg8
  let c0_51 : Index := 0#32
  let c0_52 : Index := 0#32
  ![0, v143.toNat, 0, 0]
def k0_off4 (i : grid0.Coords) (k0_t2 : Fin (k0_t2_loop i).trips) (c0_i32_57 : BitVec 32) : Fin 4 → Nat :=
  let c0_58 : Index := 0#32
  let c2_i32_56 : BitVec 32 := 2#32
  let arg1 : BitVec 32 := BitVec.ofNat 32 (i 1).val
  let v149 : BitVec 32 := Scalar.muli c2_i32_56 arg1
  let v150 : BitVec 32 := Scalar.addi v149 c0_i32_57
  let v151 : Index := Scalar.indexCast v150
  let c0_i32_20 : BitVec 32 := 0#32
  let arg2 : BitVec 32 := BitVec.ofNat 32 (i 2).val
  let c0_i32_5 : BitVec 32 := 0#32
  let v27 : BitVec 1 := Scalar.cmpi .sgt arg2 c0_i32_5
  let v28 : BitVec 32 := Scalar.extui v27
  let c0_i32_6 : BitVec 32 := 0#32
  let v29 : BitVec 1 := Scalar.cmpi .slt arg2 c0_i32_6
  let v30 : BitVec 32 := Scalar.extui v29
  let v31 : BitVec 32 := Scalar.subi v28 v30
  let c1_i32 : BitVec 32 := 1#32
  let c0_i32_7 : BitVec 32 := 0#32
  let v32 : BitVec 1 := Scalar.cmpi .sgt c1_i32 c0_i32_7
  let v33 : BitVec 32 := Scalar.extui v32
  let c0_i32_8 : BitVec 32 := 0#32
  let v34 : BitVec 1 := Scalar.cmpi .slt c1_i32 c0_i32_8
  let v35 : BitVec 32 := Scalar.extui v34
  let v36 : BitVec 32 := Scalar.subi v33 v35
  let v37 : BitVec 1 := Scalar.cmpi .ne v31 v36
  let v38 : BitVec 32 := Scalar.remsi arg2 c1_i32
  let c0_i32_9 : BitVec 32 := 0#32
  let v39 : BitVec 1 := Scalar.cmpi .ne v38 c0_i32_9
  let v40 : BitVec 1 := Scalar.andi v37 v39
  let v26 : BitVec 32 := Scalar.divsi arg2 c1_i32
  let c1_i32_10 : BitVec 32 := 1#32
  let v41 : BitVec 32 := Scalar.subi v26 c1_i32_10
  let v42 : BitVec 32 := Scalar.select v40 v41 v26
  let v62 : BitVec 32 := Scalar.subi v42 c0_i32_20
  let c1_i32_21 : BitVec 32 := 1#32
  let v64 : BitVec 32 := Scalar.divsi v62 c1_i32_21
  let v65 : BitVec 32 := Scalar.muli v64 c1_i32_21
  let v66 : BitVec 32 := Scalar.addi c0_i32_20 v65
  let c1_i32_23 : BitVec 32 := 1#32
  let arg8 : BitVec 32 := Scf.iv v66 c1_i32_23 k0_t2
  let v152 : Index := Scalar.indexCast arg8
  let c0_59 : Index := 0#32
  ![0, v151.toNat, v152.toNat, 0]
def k0_off5 (i : grid0.Coords) : Fin 4 → Nat :=
  let c0_24 : Index := 0#32
  let arg2 : BitVec 32 := BitVec.ofNat 32 (i 2).val
  let c0_i32_5 : BitVec 32 := 0#32
  let v27 : BitVec 1 := Scalar.cmpi .sgt arg2 c0_i32_5
  let v28 : BitVec 32 := Scalar.extui v27
  let c0_i32_6 : BitVec 32 := 0#32
  let v29 : BitVec 1 := Scalar.cmpi .slt arg2 c0_i32_6
  let v30 : BitVec 32 := Scalar.extui v29
  let v31 : BitVec 32 := Scalar.subi v28 v30
  let c1_i32 : BitVec 32 := 1#32
  let c0_i32_7 : BitVec 32 := 0#32
  let v32 : BitVec 1 := Scalar.cmpi .sgt c1_i32 c0_i32_7
  let v33 : BitVec 32 := Scalar.extui v32
  let c0_i32_8 : BitVec 32 := 0#32
  let v34 : BitVec 1 := Scalar.cmpi .slt c1_i32 c0_i32_8
  let v35 : BitVec 32 := Scalar.extui v34
  let v36 : BitVec 32 := Scalar.subi v33 v35
  let v37 : BitVec 1 := Scalar.cmpi .ne v31 v36
  let v38 : BitVec 32 := Scalar.remsi arg2 c1_i32
  let c0_i32_9 : BitVec 32 := 0#32
  let v39 : BitVec 1 := Scalar.cmpi .ne v38 c0_i32_9
  let v40 : BitVec 1 := Scalar.andi v37 v39
  let v26 : BitVec 32 := Scalar.divsi arg2 c1_i32
  let c1_i32_10 : BitVec 32 := 1#32
  let v41 : BitVec 32 := Scalar.subi v26 c1_i32_10
  let v42 : BitVec 32 := Scalar.select v40 v41 v26
  let v69 : Index := Scalar.indexCast v42
  let c0_25 : Index := 0#32
  let c0_26 : Index := 0#32
  ![0, v69.toNat, 0, 0]
def k0_off6 (i : grid0.Coords) (c0_i32_30 : BitVec 32) : Fin 4 → Nat :=
  let c0_31 : Index := 0#32
  let c2_i32 : BitVec 32 := 2#32
  let arg1 : BitVec 32 := BitVec.ofNat 32 (i 1).val
  let v75 : BitVec 32 := Scalar.muli c2_i32 arg1
  let v76 : BitVec 32 := Scalar.addi v75 c0_i32_30
  let v77 : Index := Scalar.indexCast v76
  let arg2 : BitVec 32 := BitVec.ofNat 32 (i 2).val
  let c0_i32_5 : BitVec 32 := 0#32
  let v27 : BitVec 1 := Scalar.cmpi .sgt arg2 c0_i32_5
  let v28 : BitVec 32 := Scalar.extui v27
  let c0_i32_6 : BitVec 32 := 0#32
  let v29 : BitVec 1 := Scalar.cmpi .slt arg2 c0_i32_6
  let v30 : BitVec 32 := Scalar.extui v29
  let v31 : BitVec 32 := Scalar.subi v28 v30
  let c1_i32 : BitVec 32 := 1#32
  let c0_i32_7 : BitVec 32 := 0#32
  let v32 : BitVec 1 := Scalar.cmpi .sgt c1_i32 c0_i32_7
  let v33 : BitVec 32 := Scalar.extui v32
  let c0_i32_8 : BitVec 32 := 0#32
  let v34 : BitVec 1 := Scalar.cmpi .slt c1_i32 c0_i32_8
  let v35 : BitVec 32 := Scalar.extui v34
  let v36 : BitVec 32 := Scalar.subi v33 v35
  let v37 : BitVec 1 := Scalar.cmpi .ne v31 v36
  let v38 : BitVec 32 := Scalar.remsi arg2 c1_i32
  let c0_i32_9 : BitVec 32 := 0#32
  let v39 : BitVec 1 := Scalar.cmpi .ne v38 c0_i32_9
  let v40 : BitVec 1 := Scalar.andi v37 v39
  let v26 : BitVec 32 := Scalar.divsi arg2 c1_i32
  let c1_i32_10 : BitVec 32 := 1#32
  let v41 : BitVec 32 := Scalar.subi v26 c1_i32_10
  let v42 : BitVec 32 := Scalar.select v40 v41 v26
  let v78 : Index := Scalar.indexCast v42
  let c0_32 : Index := 0#32
  ![0, v77.toNat, v78.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x8x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S4x4096x8x64 : Shape := ⟨4, ![4, 4096, 8, 64]⟩
abbrev S4x4096x8 : Shape := ⟨3, ![4, 4096, 8]⟩
abbrev S_ : Shape := ⟨0, ![]⟩
abbrev S4x8x4096x4096 : Shape := ⟨4, ![4, 8, 4096, 4096]⟩
abbrev S4x8x4096 : Shape := ⟨3, ![4, 8, 4096]⟩
abbrev S4x8x4096x1 : Shape := ⟨4, ![4, 8, 4096, 1]⟩
abbrev S4x8x1x4096 : Shape := ⟨4, ![4, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S4x8x64x4096 : Shape := ⟨4, ![4, 8, 64, 4096]⟩
abbrev S16384x512 : Shape := ⟨2, ![16384, 512]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x8x64, .f32⟩
  | .hbm, ⟨1, _⟩ => ⟨S4x4096x8x64, .f32⟩
  | .hbm, ⟨2, _⟩ => ⟨S4x4096x8x64, .f32⟩
  | .hbm, ⟨3, _⟩ => ⟨S4x4096x8, .f32⟩
  | .hbm, ⟨4, _⟩ => ⟨S_, .f32⟩
  | .hbm, ⟨5, _⟩ => ⟨S_, .f32⟩
  | .hbm, ⟨6, _⟩ => ⟨S4x4096x8, .f32⟩
  | .hbm, ⟨7, _⟩ => ⟨S4x8x4096x4096, .f32⟩
  | .hbm, ⟨8, _⟩ => ⟨S_, .f32⟩
  | .hbm, ⟨9, _⟩ => ⟨S4x8x4096x4096, .f32⟩
  | .hbm, ⟨10, _⟩ => ⟨S4x8x4096x4096, .f32⟩
  | .hbm, ⟨11, _⟩ => ⟨S4x8x4096, .f32⟩
  | .hbm, ⟨12, _⟩ => ⟨S4x8x4096x1, .f32⟩
  | .hbm, ⟨13, _⟩ => ⟨S4x8x4096x4096, .f32⟩
  | .hbm, ⟨14, _⟩ => ⟨S4x8x4096x4096, .f32⟩
  | .hbm, ⟨15, _⟩ => ⟨S4x8x1x4096, .f32⟩
  | .hbm, ⟨16, _⟩ => ⟨S4x8x4096x4096, .f32⟩
  | .hbm, ⟨17, _⟩ => ⟨S4x8x4096x4096, .f32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S4x8x4096x4096, .i1⟩
  | .hbm, ⟨27, _⟩ => ⟨S4x8x4096x4096, .f32⟩
  | .hbm, ⟨28, _⟩ => ⟨S4x8x4096x4096, .f32⟩
  | .hbm, ⟨29, _⟩ => ⟨S_, .f32⟩
  | .hbm, ⟨30, _⟩ => ⟨S4x8x4096, .f32⟩
  | .hbm, ⟨31, _⟩ => ⟨S_, .f32⟩
  | .hbm, ⟨32, _⟩ => ⟨S4x8x4096, .f32⟩
  | .hbm, ⟨33, _⟩ => ⟨S4x8x4096, .f32⟩
  | .hbm, ⟨34, _⟩ => ⟨S4x8x4096x1, .f32⟩
  | .hbm, ⟨35, _⟩ => ⟨S4x8x4096x4096, .f32⟩
  | .hbm, ⟨36, _⟩ => ⟨S4x8x4096x4096, .f32⟩
  | .hbm, ⟨37, _⟩ => ⟨S4x8x4096x4096, .f32⟩
  | .hbm, ⟨38, _⟩ => ⟨S_, .f32⟩
  | .hbm, ⟨39, _⟩ => ⟨S4x8x4096, .f32⟩
  | .hbm, ⟨40, _⟩ => ⟨S4x8x4096x1, .f32⟩
  | .hbm, ⟨41, _⟩ => ⟨S4x8x4096x4096, .f32⟩
  | .hbm, ⟨42, _⟩ => ⟨S4x8x4096x4096, .f32⟩
  | .hbm, ⟨43, _⟩ => ⟨S4x8x64x4096, .f32⟩
  | .hbm, ⟨44, _⟩ => ⟨S4x4096x8x64, .f32⟩
  | .hbm, ⟨45, _⟩ => ⟨S16384x512, .f32⟩
  | .hbm, ⟨46, _⟩ => ⟨S16384x512, .bf16⟩
  | _, _ => ⟨S4x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_call0_cst : Ref sig .tc := ⟨.hbm, 4, rfl⟩
abbrev main_call0_call0_v0 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Dense.lean ====
abbrev S4x4096x1024 : Shape := ⟨3, ![4, 4096, 1024]⟩
abbrev S1024 : Shape := ⟨1, ![1024]⟩
abbrev S1x1024x2816 : Shape := ⟨3, ![1, 1024, 2816]⟩
abbrev S1x2816x1024 : Shape := ⟨3, ![1, 2816, 1024]⟩
abbrev S16384x1024 : Shape := ⟨2, ![16384, 1024]⟩
abbrev S1x1024 : Shape := ⟨2, ![1, 1024]⟩
abbrev S1024x1024 : Shape := ⟨2, ![1024, 1024]⟩
abbrev S1x1024x256 : Shape := ⟨3, ![1, 1024, 256]⟩
abbrev S1x256x1024 : Shape := ⟨3, ![1, 256, 1024]⟩
abbrev S1024x1 : Shape := ⟨2, ![1024, 1]⟩
abbrev S1024x256 : Shape := ⟨2, ![1024, 256]⟩
abbrev S256x1024 : Shape := ⟨2, ![256, 1024]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024x2816, .bf16⟩
  | .hbm, ⟨6, _⟩ => ⟨S1x1024x2816, .bf16⟩
  | .hbm, ⟨7, _⟩ => ⟨S1x2816x1024, .bf16⟩
  | .hbm, ⟨8, _⟩ => ⟨S16384x1024, .f32⟩
  | .hbm, ⟨9, _⟩ => ⟨S1x1024, .f32⟩
  | .hbm, ⟨10, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DenseReferenceIdeal.lean ====
abbrev S4x4096x1024 : Shape := ⟨3, ![4, 4096, 1024]⟩
abbrev S1024 : Shape := ⟨1, ![1024]⟩
abbrev S1x1024x2816 : Shape := ⟨3, ![1, 1024, 2816]⟩
abbrev S1x2816x1024 : Shape := ⟨3, ![1, 2816, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S1024x2816 : Shape := ⟨2, ![1024, 2816]⟩
abbrev S4x4096x2816 : Shape := ⟨3, ![4, 4096, 2816]⟩
abbrev S2816x1024 : Shape := ⟨2, ![2816, 1024]⟩
abbrev S16384x1024 : Shape := ⟨2, ![16384, 1024]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S4x4096x1024, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x1024, .f32⟩
  | .hbm, ⟨17, _⟩ => ⟨S4x4096x1024, .f32⟩
  | .hbm, ⟨18, _⟩ => ⟨S1x1x1024, .f32⟩
  | .hbm, ⟨19, _⟩ => ⟨S4x4096x1024, .f32⟩
  | .hbm, ⟨20, _⟩ => ⟨S4x4096x1024, .f32⟩
  | .hbm, ⟨21, _⟩ => ⟨S1024x2816, .f32⟩
  | .hbm, ⟨22, _⟩ => ⟨S4x4096x2816, .f32⟩
  | .hbm, ⟨23, _⟩ => ⟨S4x4096x2816, .f32⟩
  | .hbm, ⟨24, _⟩ => ⟨S4x4096x2816, .f32⟩
  | .hbm, ⟨25, _⟩ => ⟨S_, .f32⟩
  | .hbm, ⟨26, _⟩ => ⟨S4x4096x2816, .f32⟩
  | .hbm, ⟨27, _⟩ => ⟨S4x4096x2816, .f32⟩
  | .hbm, ⟨28, _⟩ => ⟨S_, .f32⟩
  | .hbm, ⟨29, _⟩ => ⟨S4x4096x2816, .f32⟩
  | .hbm, ⟨30, _⟩ => ⟨S4x4096x2816, .f32⟩
  | .hbm, ⟨31, _⟩ => ⟨S4x4096x2816, .f32⟩
  | .hbm, ⟨32, _⟩ => ⟨S1024x2816, .f32⟩
  | .hbm, ⟨33, _⟩ => ⟨S4x4096x2816, .f32⟩
  | .hbm, ⟨34, _⟩ => ⟨S4x4096x2816, .f32⟩
  | .hbm, ⟨35, _⟩ => ⟨S2816x1024, .f32⟩
  | .hbm, ⟨36, _⟩ => ⟨S4x4096x1024, .f32⟩
  | .hbm, ⟨37, _⟩ => ⟨S4x4096x1024, .f32⟩
  | .hbm, ⟨38, _⟩ => ⟨S16384x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Experts.lean ====
abbrev S16384x1024 : Shape := ⟨2, ![16384, 1024]⟩
abbrev S1024 : Shape := ⟨1, ![1024]⟩
abbrev S16384x2 : Shape := ⟨2, ![16384, 2]⟩
abbrev S8x1024x3584 : Shape := ⟨3, ![8, 1024, 3584]⟩
abbrev S8x3584x1024 : Shape := ⟨3, ![8, 3584, 1024]⟩
abbrev S32768 : Shape := ⟨1, ![32768]⟩
abbrev S_ : Shape := ⟨0, ![]⟩
abbrev S32768x1 : Shape := ⟨2, ![32768, 1]⟩
abbrev S8 : Shape := ⟨1, ![8]⟩
abbrev S36864 : Shape := ⟨1, ![36864]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S36864x1 : Shape := ⟨2, ![36864, 1]⟩
abbrev S36864x1024 : Shape := ⟨2, ![36864, 1024]⟩
abbrev S1x1024 : Shape := ⟨2, ![1, 1024]⟩
abbrev S512x1024 : Shape := ⟨2, ![512, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 150
  | .vmem => 13
  | .smem => 1
  | _ => 0

abbrev hbmTy0_0 (i : Nat) : BufTy := match i % 128 with
  | 0 => ⟨S16384x1024, .f32⟩
  | 1 => ⟨S1024, .f32⟩
  | 2 => ⟨S16384x2, .i32⟩
  | 3 => ⟨S8x1024x3584, .f32⟩
  | 4 => ⟨S8x1024x3584, .f32⟩
  | 5 => ⟨S8x3584x1024, .f32⟩
  | 6 => ⟨S8x1024x3584, .bf16⟩
  | 7 => ⟨S8x1024x3584, .bf16⟩
  | 8 => ⟨S8x3584x1024, .bf16⟩
  | 9 => ⟨S16384x1024, .bf16⟩
  | 10 => ⟨S32768, .i32⟩
  | 11 => ⟨S32768, .i32⟩
  | 12 => ⟨S32768, .i32⟩
  | 13 => ⟨S32768, .i32⟩
  | 14 => ⟨S_, .i32⟩
  | 15 => ⟨S32768, .i32⟩
  | 16 => ⟨S32768, .i1⟩
  | 17 => ⟨S_, .i32⟩
  | 18 => ⟨S32768, .i32⟩
  | 19 => ⟨S32768, .i32⟩
  | 20 => ⟨S32768, .i32⟩
  | 21 => ⟨S32768x1, .i32⟩
  | 22 => ⟨S32768, .i32⟩
  | 23 => ⟨S_, .i32⟩
  | 24 => ⟨S_, .i32⟩
  | 25 => ⟨S32768, .i32⟩
  | 26 => ⟨S32768, .i32⟩
  | 27 => ⟨S32768, .i32⟩
  | 28 => ⟨S_, .i32⟩
  | 29 => ⟨S32768, .i32⟩
  | 30 => ⟨S32768, .i1⟩
  | 31 => ⟨S32768, .i32⟩
  | 32 => ⟨S32768, .i32⟩
  | 33 => ⟨S_, .i32⟩
  | 34 => ⟨S32768, .i32⟩
  | 35 => ⟨S32768, .i1⟩
  | 36 => ⟨S32768, .i1⟩
  | 37 => ⟨S_, .i32⟩
  | 38 => ⟨S32768, .i32⟩
  | 39 => ⟨S32768, .i32⟩
  | 40 => ⟨S32768, .i32⟩
  | 41 => ⟨S_, .i32⟩
  | 42 => ⟨S8, .i32⟩
  | 43 => ⟨S_, .i32⟩
  | 44 => ⟨S_, .i32⟩
  | 45 => ⟨S32768, .i32⟩
  | 46 => ⟨S32768, .i32⟩
  | 47 => ⟨S_, .i32⟩
  | 48 => ⟨S32768, .i32⟩
  | 49 => ⟨S32768, .i1⟩
  | 50 => ⟨S_, .i32⟩
  | 51 => ⟨S32768, .i32⟩
  | 52 => ⟨S32768, .i32⟩
  | 53 => ⟨S32768, .i32⟩
  | 54 => ⟨S32768x1, .i32⟩
  | 55 => ⟨S_, .i32⟩
  | 56 => ⟨S32768, .i32⟩
  | 57 => ⟨S8, .i32⟩
  | 58 => ⟨S_, .i32⟩
  | 59 => ⟨S8, .i32⟩
  | 60 => ⟨S8, .i32⟩
  | 61 => ⟨S_, .i32⟩
  | 62 => ⟨S8, .i32⟩
  | 63 => ⟨S8, .i32⟩
  | 64 => ⟨S_, .i32⟩
  | 65 => ⟨S_, .i32⟩
  | 66 => ⟨S8, .i32⟩
  | 67 => ⟨S8, .i32⟩
  | 68 => ⟨S8, .i32⟩
  | 69 => ⟨S_, .i32⟩
  | 70 => ⟨S8, .i32⟩
  | 71 => ⟨S8, .i1⟩
  | 72 => ⟨S8, .i32⟩
  | 73 => ⟨S8, .i32⟩
  | 74 => ⟨S_, .i32⟩
  | 75 => ⟨S8, .i32⟩
  | 76 => ⟨S8, .i1⟩
  | 77 => ⟨S8, .i1⟩
  | 78 => ⟨S_, .i32⟩
  | 79 => ⟨S8, .i32⟩
  | 80 => ⟨S8, .i32⟩
  | 81 => ⟨S8, .i32⟩
  | 82 => ⟨S_, .i32⟩
  | 83 => ⟨S8, .i32⟩
  | 84 => ⟨S8, .i32⟩
  | 85 => ⟨S_, .i32⟩
  | 86 => ⟨S_, .i32⟩
  | 87 => ⟨S8, .i32⟩
  | 88 => ⟨S8, .i32⟩
  | 89 => ⟨S_, .i32⟩
  | 90 => ⟨S_, .i32⟩
  | 91 => ⟨S8, .i32⟩
  | 92 => ⟨S8, .i32⟩
  | 93 => ⟨S_, .i32⟩
  | 94 => ⟨S32768, .i32⟩
  | 95 => ⟨S32768, .i1⟩
  | 96 => ⟨S_, .i32⟩
  | 97 => ⟨S32768, .i32⟩
  | 98 => ⟨S32768, .i32⟩
  | 99 => ⟨S32768, .i32⟩
  | 100 => ⟨S32768x1, .i32⟩
  | 101 => ⟨S32768, .i32⟩
  | 102 => ⟨S32768, .i32⟩
  | 103 => ⟨S32768, .i32⟩
  | 104 => ⟨S_, .i32⟩
  | 105 => ⟨S32768, .i32⟩
  | 106 => ⟨S32768, .i1⟩
  | 107 => ⟨S_, .i32⟩
  | 108 => ⟨S32768, .i32⟩
  | 109 => ⟨S32768, .i32⟩
  | 110 => ⟨S32768, .i32⟩
  | 111 => ⟨S32768x1, .i32⟩
  | 112 => ⟨S32768, .i32⟩
  | 113 => ⟨S32768, .i32⟩
  | 114 => ⟨S_, .i32⟩
  | 115 => ⟨S36864, .i32⟩
  | 116 => ⟨S_, .i32⟩
  | 117 => ⟨S32768, .i32⟩
  | 118 => ⟨S32768, .i1⟩
  | 119 => ⟨S_, .i32⟩
  | 120 => ⟨S32768, .i32⟩
  | 121 => ⟨S32768, .i32⟩
  | 122 => ⟨S32768, .i32⟩
  | 123 => ⟨S32768x1, .i32⟩
  | 124 => ⟨S36864, .i32⟩
  | 125 => ⟨S72, .i32⟩
  | 126 => ⟨S_, .i32⟩
  | 127 => ⟨S72, .i32⟩
  | _ => ⟨S16384x1024, .f32⟩

abbrev hbmTy0_1 (i : Nat) : BufTy := match i % 128 with
  | 0 => ⟨S72, .i32⟩
  | 1 => ⟨S72x1, .i32⟩
  | 2 => ⟨S1x8, .i32⟩
  | 3 => ⟨S72x8, .i32⟩
  | 4 => ⟨S72x8, .i32⟩
  | 5 => ⟨S72x8, .i1⟩
  | 6 => ⟨S72x8, .i32⟩
  | 7 => ⟨S_, .i32⟩
  | 8 => ⟨S72, .i32⟩
  | 9 => ⟨S_, .i32⟩
  | 10 => ⟨S72, .i32⟩
  | 11 => ⟨S_, .i32⟩
  | 12 => ⟨S36864, .i32⟩
  | 13 => ⟨S36864, .i1⟩
  | 14 => ⟨S_, .i32⟩
  | 15 => ⟨S36864, .i32⟩
  | 16 => ⟨S36864, .i32⟩
  | 17 => ⟨S36864, .i32⟩
  | 18 => ⟨S36864x1, .i32⟩
  | 19 => ⟨S36864x1024, .bf16⟩
  | 20 => ⟨S1x1024, .f32⟩
  | 21 => ⟨S36864x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S1x1024, .f32⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x512x1024, .bf16⟩
  | .local _ .vmem, ⟨8, _⟩ => ⟨S1x512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .f32⟩
  | .local _ .smem, ⟨0, _⟩ => ⟨S72, .i32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1_0 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_1 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_call1_v3 : Ref sig .tc := ⟨.hbm, 27, rfl⟩
abbrev main_call1_v4 : Ref sig .tc := ⟨.hbm, 28, rfl⟩
abbrev main_call1_v5 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_c : Ref sig .tc := ⟨.hbm, 33, rfl⟩
abbrev main_call1_v9 : Ref sig .tc := ⟨.hbm, 34, rfl⟩
abbrev main_call1_v10 : Ref sig .tc := ⟨.hbm, 35, rfl⟩
abbrev main_call1_v11 : Ref sig .tc := ⟨.hbm, 36, rfl⟩
abbrev main_call1_c_0 : Ref sig .tc := ⟨.hbm, 37, rfl⟩
abbrev main_call1_v12 : Ref sig .tc := ⟨.hbm, 38, rfl⟩
abbrev main_call1_v13 : Ref sig .tc := ⟨.hbm, 39, rfl⟩
abbrev main_v13 : Ref sig .tc := ⟨.hbm, 40, rfl⟩
abbrev main_c_2 : Ref sig .tc := ⟨.hbm, 41, rfl⟩
abbrev main_v14 : Ref sig .tc := ⟨.hbm, 42, rfl⟩
abbrev main_c_3 : Ref sig .tc := ⟨.hbm, 43, rfl⟩
abbrev main_call2_v0 : Ref sig .tc := ⟨.hbm, 44, rfl⟩
abbrev main_call2_v1 : Ref sig .tc := ⟨.hbm, 45, rfl⟩
abbrev main_v15 : Ref sig .tc := ⟨.hbm, 46, rfl⟩
abbrev main_c_4 : Ref sig .tc := ⟨.hbm, 47, rfl⟩
abbrev main_v16 : Ref sig .tc := ⟨.hbm, 48, rfl⟩
abbrev main_v17 : Ref sig .tc := ⟨.hbm, 49, rfl⟩
abbrev main_c_5 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_c_6 : Ref sig .tc := ⟨.hbm, 55, rfl⟩
abbrev main_v22 : Ref sig .tc := ⟨.hbm, 56, rfl⟩
abbrev main_v23 : Ref sig .tc := ⟨.hbm, 57, rfl⟩
abbrev main_c_7 : Ref sig .tc := ⟨.hbm, 58, rfl⟩
abbrev main_v24 : Ref sig .tc := ⟨.hbm, 59, rfl⟩
abbrev main_v25 : Ref sig .tc := ⟨.hbm, 60, rfl⟩
abbrev main_c_8 : Ref sig .tc := ⟨.hbm, 61, rfl⟩
abbrev main_v26 : Ref sig .tc := ⟨.hbm, 62, rfl⟩
abbrev main_v27 : Ref sig .tc := ⟨.hbm, 63, rfl⟩
abbrev main_c_9 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_c : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_0 : Ref sig .tc := ⟨.hbm, 78, rfl⟩
abbrev main_call3_v12 : Ref sig .tc := ⟨.hbm, 79, rfl⟩
abbrev main_call3_v13 : Ref sig .tc := ⟨.hbm, 80, rfl⟩
abbrev main_v28 : Ref sig .tc := ⟨.hbm, 81, rfl⟩
abbrev main_c_10 : Ref sig .tc := ⟨.hbm, 82, rfl⟩
abbrev main_v29 : Ref sig .tc := ⟨.hbm, 83, rfl⟩
abbrev main_v30 : Ref sig .tc := ⟨.hbm, 84, rfl⟩
abbrev main_call4_call0_c : Ref sig .tc := ⟨.hbm, 85, rfl⟩
abbrev main_call4_call0_v0 : Ref sig .tc := ⟨.hbm, 86, rfl⟩
abbrev main_v31 : Ref sig .tc := ⟨.hbm, 87, rfl⟩
abbrev main_v32 : Ref sig .tc := ⟨.hbm, 88, rfl⟩
abbrev main_call5_call0_c : Ref sig .tc := ⟨.hbm, 89, rfl⟩
abbrev main_call5_call0_v0 : Ref sig .tc := ⟨.hbm, 90, rfl⟩
abbrev main_v33 : Ref sig .tc := ⟨.hbm, 91, rfl⟩
abbrev main_v34 : Ref sig .tc := ⟨.hbm, 92, rfl⟩
abbrev main_c_11 : Ref sig .tc := ⟨.hbm, 93, rfl⟩
abbrev main_v35 : Ref sig .tc := ⟨.hbm, 94, rfl⟩
abbrev main_v36 : Ref sig .tc := ⟨.hbm, 95, rfl⟩
abbrev main_c_12 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_c_13 : Ref sig .tc := ⟨.hbm, 104, rfl⟩
abbrev main_v44 : Ref sig .tc := ⟨.hbm, 105, rfl⟩
abbrev main_v45 : Ref sig .tc := ⟨.hbm, 106, rfl⟩
abbrev main_c_14 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_c_15 : Ref sig .tc := ⟨.hbm, 114, rfl⟩
abbrev main_v52 : Ref sig .tc := ⟨.hbm, 115, rfl⟩
abbrev main_c_16 : Ref sig .tc := ⟨.hbm, 116, rfl⟩
abbrev main_v53 : Ref sig .tc := ⟨.hbm, 117, rfl⟩
abbrev main_v54 : Ref sig .tc := ⟨.hbm, 118, rfl⟩
abbrev main_c_17 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_c_18 : Ref sig .tc := ⟨.hbm, 126, rfl⟩
abbrev main_v61 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_c_19 : Ref sig .tc := ⟨.hbm, 135, rfl⟩
abbrev main_v69 : Ref sig .tc := ⟨.hbm, 136, rfl⟩
abbrev main_c_20 : Ref sig .tc := ⟨.hbm, 137, rfl⟩
abbrev main_v70 : Ref sig .tc := ⟨.hbm, 138, rfl⟩
abbrev main_c_21 : Ref sig .tc := ⟨.hbm, 139, rfl⟩
abbrev main_v72 : Ref sig .tc := ⟨.hbm, 140, rfl⟩
abbrev main_v73 : Ref sig .tc := ⟨.hbm, 141, rfl⟩
abbrev main_c_22 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_v77 : Ref sig .tc := ⟨.hbm, 146, rfl⟩
abbrev main_v78 : Ref sig .tc := ⟨.hbm, 147, rfl⟩
abbrev main_v79 : Ref sig .tc := ⟨.hbm, 148, rfl⟩
abbrev main_v80 : Ref sig .tc := ⟨.hbm, 149, rfl⟩
abbrev main_v71 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![72, 7], ![false, false]⟩

abbrev pre0 : Pipeline.Prefetch sig := ⟨1, ![main_v71.idx], fun | 0 => main_v71.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c6_i32 : BitVec 32 := 6#32
  let v28 : BitVec 1 := Scalar.cmpi .eq arg1 c6_i32
  let v29 : BitVec 32 := Scalar.extui v28
  let c0_i32_20 : BitVec 32 := 0#32
  let v30 : BitVec 1 := Scalar.cmpi .ne v29 c0_i32_20
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, c0_i32.toNat, arg1.toNat]

def cc0_transform_4 (k0_off1_inb : ∀ i : grid0.Coords, ∀ a, (k0_off1 i) a + S1.size a ≤ S72.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S72) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ExpertsReferenceIdeal.lean ====
abbrev S16384x1024 : Shape := ⟨2, ![16384, 1024]⟩
abbrev S1024 : Shape := ⟨1, ![1024]⟩
abbrev S16384x2 : Shape := ⟨2, ![16384, 2]⟩
abbrev S8x1024x3584 : Shape := ⟨3, ![8, 1024, 3584]⟩
abbrev S8x3584x1024 : Shape := ⟨3, ![8, 3584, 1024]⟩
abbrev S32768 : Shape := ⟨1, ![32768]⟩
abbrev S_ : Shape := ⟨0, ![]⟩
abbrev S32768x1 : Shape := ⟨2, ![32768, 1]⟩
abbrev S8 : Shape := ⟨1, ![8]⟩
abbrev S36864 : Shape := ⟨1, ![36864]⟩
abbrev S72 : Shape := ⟨1, ![72]⟩
abbrev S72x1 : Shape := ⟨2, ![72, 1]⟩
abbrev S1x8 : Shape := ⟨2, ![1, 8]⟩
abbrev S72x8 : Shape := ⟨2, ![72, 8]⟩
abbrev S36864x1 : Shape := ⟨2, ![36864, 1]⟩
abbrev S36864x1024 : Shape := ⟨2, ![36864, 1024]⟩
abbrev S72x512x1024 : Shape := ⟨3, ![72, 512, 1024]⟩
abbrev S72x1024x3584 : Shape := ⟨3, ![72, 1024, 3584]⟩
abbrev S72x512x3584 : Shape := ⟨3, ![72, 512, 3584]⟩
abbrev S72x3584x1024 : Shape := ⟨3, ![72, 3584, 1024]⟩

abbrev nBuf : Space → Nat
  | .hbm => 197
  | .vmem => 0
  | .smem => 0
  | _ => 0

abbrev hbmTy0_0 (i : Nat) : BufTy := match i % 128 with
  | 0 => ⟨S16384x1024, .f32⟩
  | 1 => ⟨S1024, .f32⟩
  | 2 => ⟨S16384x2, .i32⟩
  | 3 => ⟨S8x1024x3584, .f32⟩
  | 4 => ⟨S8x1024x3584, .f32⟩
  | 5 => ⟨S8x3584x1024, .f32⟩
  | 6 => ⟨S32768, .i32⟩
  | 7 => ⟨S32768, .i32⟩
  | 8 => ⟨S_, .i32⟩
  | 9 => ⟨S_, .i32⟩
  | 10 => ⟨S32768, .i32⟩
  | 11 => ⟨S32768, .i32⟩
  | 12 => ⟨S32768, .i32⟩
  | 13 => ⟨S_, .i32⟩
  | 14 => ⟨S32768, .i32⟩
  | 15 => ⟨S32768, .i1⟩
  | 16 => ⟨S32768, .i32⟩
  | 17 => ⟨S32768, .i32⟩
  | 18 => ⟨S_, .i32⟩
  | 19 => ⟨S32768, .i32⟩
  | 20 => ⟨S32768, .i1⟩
  | 21 => ⟨S32768, .i1⟩
  | 22 => ⟨S_, .i32⟩
  | 23 => ⟨S32768, .i32⟩
  | 24 => ⟨S32768, .i32⟩
  | 25 => ⟨S32768, .i32⟩
  | 26 => ⟨S32768, .i32⟩
  | 27 => ⟨S32768, .i32⟩
  | 28 => ⟨S32768, .i32⟩
  | 29 => ⟨S_, .i32⟩
  | 30 => ⟨S32768, .i32⟩
  | 31 => ⟨S32768, .i1⟩
  | 32 => ⟨S_, .i32⟩
  | 33 => ⟨S32768, .i32⟩
  | 34 => ⟨S32768, .i32⟩
  | 35 => ⟨S32768, .i32⟩
  | 36 => ⟨S32768x1, .i32⟩
  | 37 => ⟨S32768, .i32⟩
  | 38 => ⟨S_, .i32⟩
  | 39 => ⟨S32768, .i32⟩
  | 40 => ⟨S32768, .i1⟩
  | 41 => ⟨S_, .i32⟩
  | 42 => ⟨S32768, .i32⟩
  | 43 => ⟨S32768, .i32⟩
  | 44 => ⟨S32768, .i32⟩
  | 45 => ⟨S32768x1, .i32⟩
  | 46 => ⟨S32768, .i32⟩
  | 47 => ⟨S_, .i32⟩
  | 48 => ⟨S8, .i32⟩
  | 49 => ⟨S_, .i32⟩
  | 50 => ⟨S_, .i32⟩
  | 51 => ⟨S32768, .i32⟩
  | 52 => ⟨S32768, .i32⟩
  | 53 => ⟨S_, .i32⟩
  | 54 => ⟨S32768, .i32⟩
  | 55 => ⟨S32768, .i1⟩
  | 56 => ⟨S_, .i32⟩
  | 57 => ⟨S32768, .i32⟩
  | 58 => ⟨S32768, .i32⟩
  | 59 => ⟨S32768, .i32⟩
  | 60 => ⟨S32768x1, .i32⟩
  | 61 => ⟨S_, .i32⟩
  | 62 => ⟨S32768, .i32⟩
  | 63 => ⟨S8, .i32⟩
  | 64 => ⟨S_, .i32⟩
  | 65 => ⟨S8, .i32⟩
  | 66 => ⟨S8, .i32⟩
  | 67 => ⟨S_, .i32⟩
  | 68 => ⟨S8, .i32⟩
  | 69 => ⟨S8, .i32⟩
  | 70 => ⟨S_, .i32⟩
  | 71 => ⟨S_, .i32⟩
  | 72 => ⟨S8, .i32⟩
  | 73 => ⟨S8, .i32⟩
  | 74 => ⟨S8, .i32⟩
  | 75 => ⟨S_, .i32⟩
  | 76 => ⟨S8, .i32⟩
  | 77 => ⟨S8, .i1⟩
  | 78 => ⟨S8, .i32⟩
  | 79 => ⟨S8, .i32⟩
  | 80 => ⟨S_, .i32⟩
  | 81 => ⟨S8, .i32⟩
  | 82 => ⟨S8, .i1⟩
  | 83 => ⟨S8, .i1⟩
  | 84 => ⟨S_, .i32⟩
  | 85 => ⟨S8, .i32⟩
  | 86 => ⟨S8, .i32⟩
  | 87 => ⟨S8, .i32⟩
  | 88 => ⟨S_, .i32⟩
  | 89 => ⟨S8, .i32⟩
  | 90 => ⟨S8, .i32⟩
  | 91 => ⟨S_, .i32⟩
  | 92 => ⟨S_, .i32⟩
  | 93 => ⟨S8, .i32⟩
  | 94 => ⟨S8, .i32⟩
  | 95 => ⟨S_, .i32⟩
  | 96 => ⟨S_, .i32⟩
  | 97 => ⟨S8, .i32⟩
  | 98 => ⟨S8, .i32⟩
  | 99 => ⟨S_, .i32⟩
  | 100 => ⟨S32768, .i32⟩
  | 101 => ⟨S32768, .i1⟩
  | 102 => ⟨S_, .i32⟩
  | 103 => ⟨S32768, .i32⟩
  | 104 => ⟨S32768, .i32⟩
  | 105 => ⟨S32768, .i32⟩
  | 106 => ⟨S32768x1, .i32⟩
  | 107 => ⟨S32768, .i32⟩
  | 108 => ⟨S32768, .i32⟩
  | 109 => ⟨S32768, .i32⟩
  | 110 => ⟨S_, .i32⟩
  | 111 => ⟨S32768, .i32⟩
  | 112 => ⟨S32768, .i1⟩
  | 113 => ⟨S_, .i32⟩
  | 114 => ⟨S32768, .i32⟩
  | 115 => ⟨S32768, .i32⟩
  | 116 => ⟨S32768, .i32⟩
  | 117 => ⟨S32768x1, .i32⟩
  | 118 => ⟨S32768, .i32⟩
  | 119 => ⟨S32768, .i32⟩
  | 120 => ⟨S_, .i32⟩
  | 121 => ⟨S36864, .i32⟩
  | 122 => ⟨S_, .i32⟩
  | 123 => ⟨S32768, .i32⟩
  | 124 => ⟨S32768, .i1⟩
  | 125 => ⟨S_, .i32⟩
  | 126 => ⟨S32768, .i32⟩
  | 127 => ⟨S32768, .i32⟩
  | _ => ⟨S16384x1024, .f32⟩

abbrev hbmTy0_1 (i : Nat) : BufTy := match i % 128 with
  | 0 => ⟨S32768, .i32⟩
  | 1 => ⟨S32768x1, .i32⟩
  | 2 => ⟨S36864, .i32⟩
  | 3 => ⟨S72, .i32⟩
  | 4 => ⟨S72x1, .i32⟩
  | 5 => ⟨S_, .i32⟩
  | 6 => ⟨S72x1, .i32⟩
  | 7 => ⟨S72x1, .i32⟩
  | 8 => ⟨S1x8, .i32⟩
  | 9 => ⟨S72x8, .i32⟩
  | 10 => ⟨S72x8, .i32⟩
  | 11 => ⟨S72x8, .i1⟩
  | 12 => ⟨S72x8, .i32⟩
  | 13 => ⟨S_, .i32⟩
  | 14 => ⟨S72, .i32⟩
  | 15 => ⟨S_, .i32⟩
  | 16 => ⟨S72, .i32⟩
  | 17 => ⟨S72, .i32⟩
  | 18 => ⟨S_, .i32⟩
  | 19 => ⟨S36864, .i32⟩
  | 20 => ⟨S36864, .i1⟩
  | 21 => ⟨S_, .i32⟩
  | 22 => ⟨S36864, .i32⟩
  | 23 => ⟨S36864, .i32⟩
  | 24 => ⟨S36864, .i32⟩
  | 25 => ⟨S36864x1, .i32⟩
  | 26 => ⟨S36864x1024, .f32⟩
  | 27 => ⟨S72x512x1024, .f32⟩
  | 28 => ⟨S_, .i32⟩
  | 29 => ⟨S72, .i32⟩
  | 30 => ⟨S72, .i1⟩
  | 31 => ⟨S_, .i32⟩
  | 32 => ⟨S72, .i32⟩
  | 33 => ⟨S72, .i32⟩
  | 34 => ⟨S72, .i32⟩
  | 35 => ⟨S72x1, .i32⟩
  | 36 => ⟨S72x1024x3584, .f32⟩
  | 37 => ⟨S72x512x3584, .f32⟩
  | 38 => ⟨S72x512x3584, .f32⟩
  | 39 => ⟨S72x512x3584, .f32⟩
  | 40 => ⟨S_, .f32⟩
  | 41 => ⟨S72x512x3584, .f32⟩
  | 42 => ⟨S72x512x3584, .f32⟩
  | 43 => ⟨S_, .f32⟩
  | 44 => ⟨S72x512x3584, .f32⟩
  | 45 => ⟨S72x512x3584, .f32⟩
  | 46 => ⟨S72x512x3584, .f32⟩
  | 47 => ⟨S_, .i32⟩
  | 48 => ⟨S72, .i32⟩
  | 49 => ⟨S72, .i1⟩
  | 50 => ⟨S_, .i32⟩
  | 51 => ⟨S72, .i32⟩
  | 52 => ⟨S72, .i32⟩
  | 53 => ⟨S72, .i32⟩
  | 54 => ⟨S72x1, .i32⟩
  | 55 => ⟨S72x1024x3584, .f32⟩
  | 56 => ⟨S72x512x3584, .f32⟩
  | 57 => ⟨S72x512x3584, .f32⟩
  | 58 => ⟨S_, .i32⟩
  | 59 => ⟨S72, .i32⟩
  | 60 => ⟨S72, .i1⟩
  | 61 => ⟨S_, .i32⟩
  | 62 => ⟨S72, .i32⟩
  | 63 => ⟨S72, .i32⟩
  | 64 => ⟨S72, .i32⟩
  | 65 => ⟨S72x1, .i32⟩
  | 66 => ⟨S72x3584x1024, .f32⟩
  | 67 => ⟨S72x512x1024, .f32⟩
  | 68 => ⟨S36864x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_call1_v0 : Ref sig .tc := ⟨.hbm, 26, rfl⟩
abbrev main_call1_v1_0 : Ref sig .tc := ⟨.hbm, 27, rfl⟩
abbrev main_v3 : Ref sig .tc := ⟨.hbm, 28, rfl⟩
abbrev main_c_0 : Ref sig .tc := ⟨.hbm, 29, rfl⟩
abbrev main_v4 : Ref sig .tc := ⟨.hbm, 30, rfl⟩
abbrev main_v5 : Ref sig .tc := ⟨.hbm, 31, rfl⟩
abbrev main_c_1 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c_2 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_c_5 : Ref sig .tc := ⟨.hbm, 49, rfl⟩
abbrev main_call2_v0 : Ref sig .tc := ⟨.hbm, 50, rfl⟩
abbrev main_call2_v1 : Ref sig .tc := ⟨.hbm, 51, rfl⟩
abbrev main_v19 : Ref sig .tc := ⟨.hbm, 52, rfl⟩
abbrev main_c_6 : Ref sig .tc := ⟨.hbm, 53, rfl⟩
abbrev main_v20 : Ref sig .tc := ⟨.hbm, 54, rfl⟩
abbrev main_v21 : Ref sig .tc := ⟨.hbm, 55, rfl⟩
abbrev main_c_7 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_c_8 : Ref sig .tc := ⟨.hbm, 61, rfl⟩
abbrev main_v26 : Ref sig .tc := ⟨.hbm, 62, rfl⟩
abbrev main_v27 : Ref sig .tc := ⟨.hbm, 63, rfl⟩
abbrev main_c_9 : Ref sig .tc := ⟨.hbm, 64, rfl⟩
abbrev main_v28 : Ref sig .tc := ⟨.hbm, 65, rfl⟩
abbrev main_v29 : Ref sig .tc := ⟨.hbm, 66, rfl⟩
abbrev main_c_10 : Ref sig .tc := ⟨.hbm, 67, rfl⟩
abbrev main_v30 : Ref sig .tc := ⟨.hbm, 68, rfl⟩
abbrev main_v31 : Ref sig .tc := ⟨.hbm, 69, rfl⟩
abbrev main_c_11 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_v7 : Ref sig .tc := ⟨.hbm, 78, rfl⟩
abbrev main_call3_v8 : Ref sig .tc := ⟨.hbm, 79, rfl⟩
abbrev main_call3_c : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_0 : Ref sig .tc := ⟨.hbm, 84, rfl⟩
abbrev main_call3_v12 : Ref sig .tc := ⟨.hbm, 85, rfl⟩
abbrev main_call3_v13 : Ref sig .tc := ⟨.hbm, 86, rfl⟩
abbrev main_v32 : Ref sig .tc := ⟨.hbm, 87, rfl⟩
abbrev main_c_12 : Ref sig .tc := ⟨.hbm, 88, rfl⟩
abbrev main_v33 : Ref sig .tc := ⟨.hbm, 89, rfl⟩
abbrev main_v34 : Ref sig .tc := ⟨.hbm, 90, rfl⟩
abbrev main_call4_call0_c : Ref sig .tc := ⟨.hbm, 91, rfl⟩
abbrev main_call4_call0_v0 : Ref sig .tc := ⟨.hbm, 92, rfl⟩
abbrev main_v35 : Ref sig .tc := ⟨.hbm, 93, rfl⟩
abbrev main_v36 : Ref sig .tc := ⟨.hbm, 94, rfl⟩
abbrev main_call5_call0_c : Ref sig .tc := ⟨.hbm, 95, rfl⟩
abbrev main_call5_call0_v0 : Ref sig .tc := ⟨.hbm, 96, rfl⟩
abbrev main_v37 : Ref sig .tc := ⟨.hbm, 97, rfl⟩
abbrev main_v38 : Ref sig .tc := ⟨.hbm, 98, rfl⟩
abbrev main_c_13 : Ref sig .tc := ⟨.hbm, 99, rfl⟩
abbrev main_v39 : Ref sig .tc := ⟨.hbm, 100, rfl⟩
abbrev main_v40 : Ref sig .tc := ⟨.hbm, 101, rfl⟩
abbrev main_c_14 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_c_15 : Ref sig .tc := ⟨.hbm, 110, rfl⟩
abbrev main_v48 : Ref sig .tc := ⟨.hbm, 111, rfl⟩
abbrev main_v49 : Ref sig .tc := ⟨.hbm, 112, rfl⟩
abbrev main_c_16 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_c_17 : Ref sig .tc := ⟨.hbm, 120, rfl⟩
abbrev main_v56 : Ref sig .tc := ⟨.hbm, 121, rfl⟩
abbrev main_c_18 : Ref sig .tc := ⟨.hbm, 122, rfl⟩
abbrev main_v57 : Ref sig .tc := ⟨.hbm, 123, rfl⟩
abbrev main_v58 : Ref sig .tc := ⟨.hbm, 124, rfl⟩
abbrev main_c_19 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_c_20 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩
abbrev main_c_21 : Ref sig .tc := ⟨.hbm, 141, rfl⟩
abbrev main_v73 : Ref sig .tc := ⟨.hbm, 142, rfl⟩
abbrev main_c_22 : Ref sig .tc := ⟨.hbm, 143, rfl⟩
abbrev main_v74 : Ref sig .tc := ⟨.hbm, 144, rfl⟩
abbrev main_v75 : Ref sig .tc := ⟨.hbm, 145, rfl⟩
abbrev main_c_23 : Ref sig .tc := ⟨.hbm, 146, rfl⟩
abbrev main_v76 : Ref sig .tc := ⟨.hbm, 147, rfl⟩
abbrev main_v77 : Ref sig .tc := ⟨.hbm, 148, rfl⟩
abbrev main_c_24 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩
abbrev main_v81 : Ref sig .tc := ⟨.hbm, 153, rfl⟩
abbrev main_v82 : Ref sig .tc := ⟨.hbm, 154, rfl⟩
abbrev main_v83 : Ref sig .tc := ⟨.hbm, 155, rfl⟩
abbrev main_c_25 : Ref sig .tc := ⟨.hbm, 156, rfl⟩
abbrev main_v84 : Ref sig .tc := ⟨.hbm, 157, rfl⟩
abbrev main_v85 : Ref sig .tc := ⟨.hbm, 158, rfl⟩
abbrev main_c_26 : Ref sig .tc := ⟨.hbm, 159, rfl⟩
abbrev main_v86 : Ref sig .tc := ⟨.hbm, 160, rfl⟩
abbrev main_v87 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_v91 : Ref sig .tc := ⟨.hbm, 165, rfl⟩
abbrev main_call6_v0 : Ref sig .tc := ⟨.hbm, 166, rfl⟩
abbrev main_call6_v1 : Ref sig .tc := ⟨.hbm, 167, rfl⟩
abbrev main_call6_cst : Ref sig .tc := ⟨.hbm, 168, rfl⟩
abbrev main_call6_v2 : Ref sig .tc := ⟨.hbm, 169, rfl⟩
abbrev main_call6_v3 : Ref sig .tc := ⟨.hbm, 170, rfl⟩
abbrev main_call6_cst_0 : Ref sig .tc := ⟨.hbm, 171, rfl⟩
abbrev main_call6_v4 : Ref sig .tc := ⟨.hbm, 172, rfl⟩
abbrev main_call6_v5 : Ref sig .tc := ⟨.hbm, 173, rfl⟩
abbrev main_v92 : Ref sig .tc := ⟨.hbm, 174, rfl⟩
abbrev main_c_27 : Ref sig .tc := ⟨.hbm, 175, rfl⟩
abbrev main_v93 : Ref sig .tc := ⟨.hbm, 176, rfl⟩
abbrev main_v94 : Ref sig .tc := ⟨.hbm, 177, rfl⟩
abbrev main_c_28 : Ref sig .tc := ⟨.hbm, 178, rfl⟩
abbrev main_v95 : Ref sig .tc := ⟨.hbm, 179, rfl⟩
abbrev main_v96 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_v100 : Ref sig .tc := ⟨.hbm, 184, rfl⟩
abbrev main_v101 : Ref sig .tc := ⟨.hbm, 185, rfl⟩
abbrev main_c_29 : Ref sig .tc := ⟨.hbm, 186, rfl⟩
abbrev main_v102 : Ref sig .tc := ⟨.hbm, 187, rfl⟩
abbrev main_v103 : Ref sig .tc := ⟨.hbm, 188, rfl⟩
abbrev main_c_30 : Ref sig .tc := ⟨.hbm, 189, rfl⟩
abbrev main_v104 : Ref sig .tc := ⟨.hbm, 190, rfl⟩
abbrev main_v105 : Ref sig .tc := ⟨.hbm, 191, rfl⟩
abbrev main_v106 : Ref sig .tc := ⟨.hbm, 192, rfl⟩
abbrev main_v107 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩

abbrev nD : Nat := 1
abbrev τ : Topo := Topo.v7x

variable {F : FTy → Type} [FloatOps F]
-- ==== Memory.lean ====
abbrev S4x256x1024 : Shape := ⟨3, ![4, 256, 1024]⟩
abbrev S1024 : Shape := ⟨1, ![1024]⟩
abbrev S1024x512 : Shape := ⟨2, ![1024, 512]⟩
abbrev S1024x1024 : Shape := ⟨2, ![1024, 1024]⟩
abbrev S1x1024 : Shape := ⟨2, ![1, 1024]⟩
abbrev S512x1024 : Shape := ⟨2, ![512, 1024]⟩
abbrev S4x512x256 : Shape := ⟨3, ![4, 512, 256]⟩
abbrev S256x1024 : Shape := ⟨2, ![256, 1024]⟩
abbrev S1x512x256 : Shape := ⟨3, ![1, 512, 256]⟩
abbrev S256 : Shape := ⟨1, ![256]⟩
abbrev S256x1 : Shape := ⟨2, ![256, 1]⟩
abbrev S512x256 : Shape := ⟨2, ![512, 256]⟩

abbrev nBuf : Space → Nat
  | .hbm => 9
  | .vmem => 8
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S1024x1024, .f32⟩
  | .hbm, ⟨4, _⟩ => ⟨S1x1024, .f32⟩
  | .hbm, ⟨5, _⟩ => ⟨S512x1024, .f32⟩
  | .hbm, ⟨6, _⟩ => ⟨S512x1024, .bf16⟩
  | .hbm, ⟨7, _⟩ => ⟨S4x512x256, .f32⟩
  | .hbm, ⟨8, _⟩ => ⟨S4x512x256, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S512x1024, .bf16⟩
  | .local _ .vmem, ⟨4, _⟩ => ⟨S1x512x256, .f32⟩
  | .local _ .vmem, ⟨5, _⟩ => ⟨S1x512x256, .f32⟩
  | .local _ .vmem, ⟨6, _⟩ => ⟨S1x512x256, .bf16⟩
  | .local _ .vmem, ⟨7, _⟩ => ⟨S1x512x256, .bf16⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemoryReferenceIdeal.lean ====
abbrev S4x256x1024 : Shape := ⟨3, ![4, 256, 1024]⟩
abbrev S1024 : Shape := ⟨1, ![1024]⟩
abbrev S1024x512 : Shape := ⟨2, ![1024, 512]⟩
abbrev S_ : Shape := ⟨0, ![]⟩
abbrev S4x256 : Shape := ⟨2, ![4, 256]⟩
abbrev S4x256x1 : Shape := ⟨3, ![4, 256, 1]⟩
abbrev S1x1x1024 : Shape := ⟨3, ![1, 1, 1024]⟩
abbrev S4x256x512 : Shape := ⟨3, ![4, 256, 512]⟩
abbrev S4x512x256 : Shape := ⟨3, ![4, 512, 256]⟩

abbrev nBuf : Space → Nat
  | .hbm => 22
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S1024, .f32⟩
  | .hbm, ⟨2, _⟩ => ⟨S1024x512, .f32⟩
  | .hbm, ⟨3, _⟩ => ⟨S4x256x1024, .f32⟩
  | .hbm, ⟨4, _⟩ => ⟨S_, .f32⟩
  | .hbm, ⟨5, _⟩ => ⟨S4x256, .f32⟩
  | .hbm, ⟨6, _⟩ => ⟨S4x256x1, .f32⟩
  | .hbm, ⟨7, _⟩ => ⟨S_, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x1, .f32⟩
  | .hbm, ⟨14, _⟩ => ⟨S4x256x1024, .f32⟩
  | .hbm, ⟨15, _⟩ => ⟨S4x256x1024, .f32⟩
  | .hbm, ⟨16, _⟩ => ⟨S1x1x1024, .f32⟩
  | .hbm, ⟨17, _⟩ => ⟨S4x256x1024, .f32⟩
  | .hbm, ⟨18, _⟩ => ⟨S4x256x1024, .f32⟩
  | .hbm, ⟨19, _⟩ => ⟨S4x256x512, .f32⟩
  | .hbm, ⟨20, _⟩ => ⟨S4x512x256, .f32⟩
  | .hbm, ⟨21, _⟩ => ⟨S4x512x256, .bf16⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Proj.lean ====
abbrev S4x4096x1024 : Shape := ⟨3, ![4, 4096, 1024]⟩
abbrev S1024 : Shape := ⟨1, ![1024]⟩
abbrev S1024x2864 : Shape := ⟨2, ![1024, 2864]⟩
abbrev S8 : Shape := ⟨1, ![8]⟩
abbrev S128 : Shape := ⟨1, ![128]⟩
abbrev S64 : Shape := ⟨1, ![64]⟩
abbrev S64x1 : Shape := ⟨2, ![64, 1]⟩
abbrev S32 : Shape := ⟨1, ![32]⟩
abbrev S32x1 : Shape := ⟨2, ![32, 1]⟩
abbrev S4096 : Shape := ⟨1, ![4096]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S128x1 : Shape := ⟨2, ![128, 1]⟩
abbrev S4096x128 : Shape := ⟨2, ![4096, 128]⟩
abbrev S4096x384 : Shape := ⟨2, ![4096, 384]⟩
abbrev S4 : Shape := ⟨1, ![4]⟩
abbrev S1x4 : Shape := ⟨2, ![1, 4]⟩
abbrev S4096x4 : Shape := ⟨2, ![4096, 4]⟩
abbrev S8x4096 : Shape := ⟨2, ![8, 4096]⟩
abbrev S64x4096 : Shape := ⟨2, ![64, 4096]⟩
abbrev S192x4096 : Shape := ⟨2, ![192, 4096]⟩
abbrev S4x4096 : Shape := ⟨2, ![4, 4096]⟩
abbrev S32x4096 : Shape := ⟨2, ![32, 4096]⟩
abbrev S96x4096 : Shape := ⟨2, ![96, 4096]⟩
abbrev S1024x32 : Shape := ⟨2, ![1024, 32]⟩
abbrev S1024x8 : Shape := ⟨2, ![1024, 8]⟩
abbrev S1024x80 : Shape := ⟨2, ![1024, 80]⟩
abbrev S1024x128 : Shape := ⟨2, ![1024, 128]⟩
abbrev S1024x512 : Shape := ⟨2, ![1024, 512]⟩
abbrev S1024x256 : Shape := ⟨2, ![1024, 256]⟩
abbrev S1024x1792 : Shape := ⟨2, ![1024, 1792]⟩
abbrev S1024x1024 : Shape := ⟨2, ![1024, 1024]⟩
abbrev S1024x1664 : Shape := ⟨2, ![1024, 1664]⟩
abbrev S1664x1024 : Shape := ⟨2, ![1664, 1024]⟩
abbrev S1x128 : Shape := ⟨2, ![1, 128]⟩
abbrev S1 : Shape := ⟨1, ![1]⟩
abbrev S2 : Shape := ⟨1, ![2]⟩
abbrev S16384x1024 : Shape := ⟨2, ![16384, 1024]⟩
abbrev S1x1024 : Shape := ⟨2, ![1, 1024]⟩
abbrev S16384x512 : Shape := ⟨2, ![16384, 512]⟩
abbrev S16384x256 : Shape := ⟨2, ![16384, 256]⟩
abbrev S4x512x4096 : Shape := ⟨3, ![4, 512, 4096]⟩
abbrev S4x256x4096 : Shape := ⟨3, ![4, 256, 4096]⟩
abbrev S4x128x4096 : Shape := ⟨3, ![4, 128, 4096]⟩
abbrev S4x8x512x512 : Shape := ⟨4, ![4, 8, 512, 512]⟩
abbrev S4x8x256x512 : Shape := ⟨4, ![4, 8, 256, 512]⟩
abbrev S512x1024 : Shape := ⟨2, ![512, 1024]⟩
abbrev S512x384 : Shape := ⟨2, ![512, 384]⟩
abbrev S192x512 : Shape := ⟨2, ![192, 512]⟩
abbrev S96x512 : Shape := ⟨2, ![96, 512]⟩
abbrev S512x512 : Shape := ⟨2, ![512, 512]⟩
abbrev S512x256 : Shape := ⟨2, ![512, 256]⟩
abbrev S1x512x512 : Shape := ⟨3, ![1, 512, 512]⟩
abbrev S1x256x512 : Shape := ⟨3, ![1, 256, 512]⟩
abbrev S1x128x512 : Shape := ⟨3, ![1, 128, 512]⟩
abbrev S1x1x512x512 : Shape := ⟨4, ![1, 1, 512, 512]⟩
abbrev S1x1x256x512 : Shape := ⟨4, ![1, 1, 256, 512]⟩
abbrev S512 : Shape := ⟨1, ![512]⟩
abbrev S512x1 : Shape := ⟨2, ![512, 1]⟩
abbrev S512x128 : Shape := ⟨2, ![512, 128]⟩
abbrev S256x1024 : Shape := ⟨2, ![256, 1024]⟩
abbrev S256x512 : Shape := ⟨2, ![256, 512]⟩
abbrev S64x512 : Shape := ⟨2, ![64, 512]⟩
abbrev S248x512 : Shape := ⟨2, ![248, 512]⟩
abbrev S8x512 : Shape := ⟨2, ![8, 512]⟩
abbrev S128x1024 : Shape := ⟨2, ![128, 1024]⟩
abbrev S128x512 : Shape := ⟨2, ![128, 512]⟩
abbrev S32x512 : Shape := ⟨2, ![32, 512]⟩
abbrev S28x512 : Shape := ⟨2, ![28, 512]⟩
abbrev S4x512 : Shape := ⟨2, ![4, 512]⟩

abbrev nBuf : Space → Nat
  | .hbm => 291
  | .vmem => 42
  | .smem => 0
  | _ => 0

abbrev hbmTy0_0 (i : Nat) : BufTy := match i % 128 with
  | 0 => ⟨S4x4096x1024, .f32⟩
  | 1 => ⟨S1024, .f32⟩
  | 2 => ⟨S1024x2864, .f32⟩
  | 3 => ⟨S8, .f32⟩
  | 4 => ⟨S128, .i32⟩
  | 5 => ⟨S128, .i1⟩
  | 6 => ⟨S128, .i1⟩
  | 7 => ⟨S128, .i1⟩
  | 8 => ⟨S128, .i1⟩
  | 9 => ⟨S128, .i1⟩
  | 10 => ⟨S128, .i1⟩
  | 11 => ⟨S128, .i32⟩
  | 12 => ⟨S128, .i1⟩
  | 13 => ⟨S128, .i1⟩
  | 14 => ⟨S128, .i1⟩
  | 15 => ⟨S128, .i1⟩
  | 16 => ⟨S128, .i1⟩
  | 17 => ⟨S128, .i1⟩
  | 18 => ⟨S64, .i32⟩
  | 19 => ⟨S64, .i1⟩
  | 20 => ⟨S64, .i1⟩
  | 21 => ⟨S64x1, .i1⟩
  | 22 => ⟨S64, .i1⟩
  | 23 => ⟨S64, .i1⟩
  | 24 => ⟨S64x1, .i1⟩
  | 25 => ⟨S64, .i1⟩
  | 26 => ⟨S64, .i1⟩
  | 27 => ⟨S64x1, .i1⟩
  | 28 => ⟨S32, .i32⟩
  | 29 => ⟨S32, .i1⟩
  | 30 => ⟨S32, .i1⟩
  | 31 => ⟨S32x1, .i1⟩
  | 32 => ⟨S32, .i1⟩
  | 33 => ⟨S32, .i1⟩
  | 34 => ⟨S32x1, .i1⟩
  | 35 => ⟨S32, .i1⟩
  | 36 => ⟨S32, .i1⟩
  | 37 => ⟨S32x1, .i1⟩
  | 38 => ⟨S4096, .i32⟩
  | 39 => ⟨S8, .f32⟩
  | 40 => ⟨S8, .f32⟩
  | 41 => ⟨S_, .f32⟩
  | 42 => ⟨S8, .f32⟩
  | 43 => ⟨S8, .f32⟩
  | 44 => ⟨S_, .f32⟩
  | 45 => ⟨S8, .f32⟩
  | 46 => ⟨S8, .f32⟩
  | 47 => ⟨S4096, .f32⟩
  | 48 => ⟨S4096x1, .f32⟩
  | 49 => ⟨S1x8, .f32⟩
  | 50 => ⟨S4096x8, .f32⟩
  | 51 => ⟨S4096x8, .f32⟩
  | 52 => ⟨S4096x8, .f32⟩
  | 53 => ⟨S4096x8, .f32⟩
  | 54 => ⟨S4096x8, .f32⟩
  | 55 => ⟨S_, .i32⟩
  | 56 => ⟨S128, .i32⟩
  | 57 => ⟨S128, .i32⟩
  | 58 => ⟨S128, .i32⟩
  | 59 => ⟨S128x1, .i32⟩
  | 60 => ⟨S4096x128, .f32⟩
  | 61 => ⟨S_, .f32⟩
  | 62 => ⟨S_, .f32⟩
  | 63 => ⟨S4096x128, .i1⟩
  | 64 => ⟨S4096x128, .f32⟩
  | 65 => ⟨S4096x128, .f32⟩
  | 66 => ⟨S_, .i32⟩
  | 67 => ⟨S128, .i32⟩
  | 68 => ⟨S128, .i32⟩
  | 69 => ⟨S128, .i32⟩
  | 70 => ⟨S128x1, .i32⟩
  | 71 => ⟨S4096x128, .f32⟩
  | 72 => ⟨S4096x128, .f32⟩
  | 73 => ⟨S_, .f32⟩
  | 74 => ⟨S_, .f32⟩
  | 75 => ⟨S4096x128, .i1⟩
  | 76 => ⟨S4096x128, .f32⟩
  | 77 => ⟨S4096x128, .f32⟩
  | 78 => ⟨S_, .i32⟩
  | 79 => ⟨S128, .i32⟩
  | 80 => ⟨S128, .i32⟩
  | 81 => ⟨S128, .i32⟩
  | 82 => ⟨S128x1, .i32⟩
  | 83 => ⟨S4096x128, .f32⟩
  | 84 => ⟨S_, .f32⟩
  | 85 => ⟨S_, .f32⟩
  | 86 => ⟨S4096x128, .i1⟩
  | 87 => ⟨S4096x128, .f32⟩
  | 88 => ⟨S4096x128, .f32⟩
  | 89 => ⟨S4096x384, .f32⟩
  | 90 => ⟨S4, .f32⟩
  | 91 => ⟨S4, .f32⟩
  | 92 => ⟨S_, .f32⟩
  | 93 => ⟨S4, .f32⟩
  | 94 => ⟨S4, .f32⟩
  | 95 => ⟨S_, .f32⟩
  | 96 => ⟨S4, .f32⟩
  | 97 => ⟨S4, .f32⟩
  | 98 => ⟨S4096, .f32⟩
  | 99 => ⟨S4096x1, .f32⟩
  | 100 => ⟨S1x4, .f32⟩
  | 101 => ⟨S4096x4, .f32⟩
  | 102 => ⟨S4096x4, .f32⟩
  | 103 => ⟨S4096x4, .f32⟩
  | 104 => ⟨S4096x4, .f32⟩
  | 105 => ⟨S4096x4, .f32⟩
  | 106 => ⟨S_, .i32⟩
  | 107 => ⟨S128, .i32⟩
  | 108 => ⟨S128, .i32⟩
  | 109 => ⟨S128, .i32⟩
  | 110 => ⟨S128x1, .i32⟩
  | 111 => ⟨S4096x128, .f32⟩
  | 112 => ⟨S_, .f32⟩
  | 113 => ⟨S_, .f32⟩
  | 114 => ⟨S4096x128, .i1⟩
  | 115 => ⟨S4096x128, .f32⟩
  | 116 => ⟨S4096x128, .f32⟩
  | 117 => ⟨S_, .i32⟩
  | 118 => ⟨S128, .i32⟩
  | 119 => ⟨S128, .i32⟩
  | 120 => ⟨S128, .i32⟩
  | 121 => ⟨S128x1, .i32⟩
  | 122 => ⟨S4096x128, .f32⟩
  | 123 => ⟨S4096x128, .f32⟩
  | 124 => ⟨S_, .f32⟩
  | 125 => ⟨S_, .f32⟩
  | 126 => ⟨S4096x128, .i1⟩
  | 127 => ⟨S4096x128, .f32⟩
  | _ => ⟨S4x4096x1024, .f32⟩

abbrev hbmTy0_1 (i : Nat) : BufTy := match i % 128 with
  | 0 => ⟨S4096x128, .f32⟩
  | 1 => ⟨S_, .i32⟩
  | 2 => ⟨S128, .i32⟩
  | 3 => ⟨S128, .i32⟩
  | 4 => ⟨S128, .i32⟩
  | 5 => ⟨S128x1, .i32⟩
  | 6 => ⟨S4096x128, .f32⟩
  | 7 => ⟨S_, .f32⟩
  | 8 => ⟨S_, .f32⟩
  | 9 => ⟨S4096x128, .i1⟩
  | 10 => ⟨S4096x128, .f32⟩
  | 11 => ⟨S4096x128, .f32⟩
  | 12 => ⟨S4096x384, .f32⟩
  | 13 => ⟨S8, .f32⟩
  | 14 => ⟨S8, .f32⟩
  | 15 => ⟨S_, .f32⟩
  | 16 => ⟨S8, .f32⟩
  | 17 => ⟨S8, .f32⟩
  | 18 => ⟨S_, .f32⟩
  | 19 => ⟨S8, .f32⟩
  | 20 => ⟨S8, .f32⟩
  | 21 => ⟨S4096, .f32⟩
  | 22 => ⟨S4096x1, .f32⟩
  | 23 => ⟨S1x8, .f32⟩
  | 24 => ⟨S4096x8, .f32⟩
  | 25 => ⟨S4096x8, .f32⟩
  | 26 => ⟨S4096x8, .f32⟩
  | 27 => ⟨S4096x8, .f32⟩
  | 28 => ⟨S8x4096, .f32⟩
  | 29 => ⟨S4096x8, .f32⟩
  | 30 => ⟨S8x4096, .f32⟩
  | 31 => ⟨S_, .i32⟩
  | 32 => ⟨S64, .i32⟩
  | 33 => ⟨S64, .i32⟩
  | 34 => ⟨S64, .i32⟩
  | 35 => ⟨S64x1, .i32⟩
  | 36 => ⟨S64x4096, .f32⟩
  | 37 => ⟨S_, .f32⟩
  | 38 => ⟨S_, .f32⟩
  | 39 => ⟨S64x4096, .i1⟩
  | 40 => ⟨S64x4096, .f32⟩
  | 41 => ⟨S64x4096, .f32⟩
  | 42 => ⟨S_, .i32⟩
  | 43 => ⟨S64, .i32⟩
  | 44 => ⟨S64, .i32⟩
  | 45 => ⟨S64, .i32⟩
  | 46 => ⟨S64x1, .i32⟩
  | 47 => ⟨S64x4096, .f32⟩
  | 48 => ⟨S64x4096, .f32⟩
  | 49 => ⟨S_, .f32⟩
  | 50 => ⟨S_, .f32⟩
  | 51 => ⟨S64x4096, .i1⟩
  | 52 => ⟨S64x4096, .f32⟩
  | 53 => ⟨S64x4096, .f32⟩
  | 54 => ⟨S_, .i32⟩
  | 55 => ⟨S64, .i32⟩
  | 56 => ⟨S64, .i32⟩
  | 57 => ⟨S64, .i32⟩
  | 58 => ⟨S64x1, .i32⟩
  | 59 => ⟨S64x4096, .f32⟩
  | 60 => ⟨S_, .f32⟩
  | 61 => ⟨S_, .f32⟩
  | 62 => ⟨S64x4096, .i1⟩
  | 63 => ⟨S64x4096, .f32⟩
  | 64 => ⟨S64x4096, .f32⟩
  | 65 => ⟨S192x4096, .f32⟩
  | 66 => ⟨S4, .f32⟩
  | 67 => ⟨S4, .f32⟩
  | 68 => ⟨S_, .f32⟩
  | 69 => ⟨S4, .f32⟩
  | 70 => ⟨S4, .f32⟩
  | 71 => ⟨S_, .f32⟩
  | 72 => ⟨S4, .f32⟩
  | 73 => ⟨S4, .f32⟩
  | 74 => ⟨S4096, .f32⟩
  | 75 => ⟨S4096x1, .f32⟩
  | 76 => ⟨S1x4, .f32⟩
  | 77 => ⟨S4096x4, .f32⟩
  | 78 => ⟨S4096x4, .f32⟩
  | 79 => ⟨S4096x4, .f32⟩
  | 80 => ⟨S4096x4, .f32⟩
  | 81 => ⟨S4x4096, .f32⟩
  | 82 => ⟨S4096x4, .f32⟩
  | 83 => ⟨S4x4096, .f32⟩
  | 84 => ⟨S_, .i32⟩
  | 85 => ⟨S32, .i32⟩
  | 86 => ⟨S32, .i32⟩
  | 87 => ⟨S32, .i32⟩
  | 88 => ⟨S32x1, .i32⟩
  | 89 => ⟨S32x4096, .f32⟩
  | 90 => ⟨S_, .f32⟩
  | 91 => ⟨S_, .f32⟩
  | 92 => ⟨S32x4096, .i1⟩
  | 93 => ⟨S32x4096, .f32⟩
  | 94 => ⟨S32x4096, .f32⟩
  | 95 => ⟨S_, .i32⟩
  | 96 => ⟨S32, .i32⟩
  | 97 => ⟨S32, .i32⟩
  | 98 => ⟨S32, .i32⟩
  | 99 => ⟨S32x1, .i32⟩
  | 100 => ⟨S32x4096, .f32⟩
  | 101 => ⟨S32x4096, .f32⟩
  | 102 => ⟨S_, .f32⟩
  | 103 => ⟨S_, .f32⟩
  | 104 => ⟨S32x4096, .i1⟩
  | 105 => ⟨S32x4096, .f32⟩
  | 106 => ⟨S32x4096, .f32⟩
  | 107 => ⟨S_, .i32⟩
  | 108 => ⟨S32, .i32⟩
  | 109 => ⟨S32, .i32⟩
  | 110 => ⟨S32, .i32⟩
  | 111 => ⟨S32x1, .i32⟩
  | 112 => ⟨S32x4096, .f32⟩
  | 113 => ⟨S_, .f32⟩
  | 114 => ⟨S_, .f32⟩
  | 115 => ⟨S32x4096, .i1⟩
  | 116 => ⟨S32x4096, .f32⟩
  | 117 => ⟨S32x4096, .f32⟩
  | 118 => ⟨S96x4096, .f32⟩
  | 119 => ⟨S1024x32, .f32⟩
  | 120 => ⟨S1024x8, .f32⟩
  | 121 => ⟨S1024x8, .f32⟩
  | 122 => ⟨S_, .f32⟩
  | 123 => ⟨S1024x80, .f32⟩
  | 124 => ⟨S1024x128, .f32⟩
  | 125 => ⟨S1024x512, .f32⟩
  | 126 => ⟨S1024x256, .f32⟩
  | 127 => ⟨S1024x256, .f32⟩
  | _ => ⟨S4x4096x1024, .f32⟩

abbrev hbmTy0_2 (i : Nat) : BufTy := match i % 128 with
  | 0 => ⟨S1024x256, .f32⟩
  | 1 => ⟨S1024x256, .f32⟩
  | 2 => ⟨S1024x32, .f32⟩
  | 3 => ⟨S1024x1792, .f32⟩
  | 4 => ⟨S1024x1792, .bf16⟩
  | 5 => ⟨S1024x1024, .f32⟩
  | 6 => ⟨S1024x512, .f32⟩
  | 7 => ⟨S1024x1664, .f32⟩
  | 8 => ⟨S1664x1024, .f32⟩
  | 9 => ⟨S1664x1024, .bf16⟩
  | 10 => ⟨S_, .f32⟩
  | 11 => ⟨S1x128, .f32⟩
  | 12 => ⟨S_, .i32⟩
  | 13 => ⟨S1, .i32⟩
  | 14 => ⟨S_, .i32⟩
  | 15 => ⟨S1, .i32⟩
  | 16 => ⟨S2, .i32⟩
  | 17 => ⟨S1x128, .f32⟩
  | 18 => ⟨S16384x1024, .f32⟩
  | 19 => ⟨S1x1024, .f32⟩
  | 20 => ⟨S128x1, .f32⟩
  | 21 => ⟨S16384x512, .bf16⟩
  | 22 => ⟨S16384x256, .bf16⟩
  | 23 => ⟨S16384x256, .bf16⟩
  | 24 => ⟨S16384x256, .f32⟩
  | 25 => ⟨S16384x256, .bf16⟩
  | 26 => ⟨S16384x256, .bf16⟩
  | 27 => ⟨S4x512x4096, .f32⟩
  | 28 => ⟨S4x512x4096, .f32⟩
  | 29 => ⟨S4x256x4096, .f32⟩
  | 30 => ⟨S4x256x4096, .f32⟩
  | 31 => ⟨S4x128x4096, .f32⟩
  | 32 => ⟨S4x8x512x512, .bf16⟩
  | 33 => ⟨S4x8x512x512, .bf16⟩
  | 34 => ⟨S4x8x256x512, .bf16⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1792, .bf16⟩
  | .local _ .vmem, ⟨4, _⟩ => ⟨S1664x1024, .bf16⟩
  | .local _ .vmem, ⟨5, _⟩ => ⟨S512x384, .f32⟩
  | .local _ .vmem, ⟨6, _⟩ => ⟨S512x384, .f32⟩
  | .local _ .vmem, ⟨7, _⟩ => ⟨S512x384, .f32⟩
  | .local _ .vmem, ⟨8, _⟩ => ⟨S512x384, .f32⟩
  | .local _ .vmem, ⟨9, _⟩ => ⟨S192x512, .f32⟩
  | .local _ .vmem, ⟨10, _⟩ => ⟨S192x512, .f32⟩
  | .local _ .vmem, ⟨11, _⟩ => ⟨S96x512, .f32⟩
  | .local _ .vmem, ⟨12, _⟩ => ⟨S96x512, .f32⟩
  | .local _ .vmem, ⟨13, _⟩ => ⟨S128x1, .f32⟩
  | .local _ .vmem, ⟨14, _⟩ => ⟨S512x512, .bf16⟩
  | .local _ .vmem, ⟨15, _⟩ => ⟨S512x512, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .f32⟩
  | .local _ .vmem, ⟨21, _⟩ => ⟨S512x256, .f32⟩
  | .local _ .vmem, ⟨22, _⟩ => ⟨S512x256, .bf16⟩
  | .local _ .vmem, ⟨23, _⟩ => ⟨S512x256, .bf16⟩
  | .local _ .vmem, ⟨24, _⟩ => ⟨S512x256, .bf16⟩
  | .local _ .vmem, ⟨25, _⟩ => ⟨S512x256, .bf16⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x256x512, .f32⟩
  | .local _ .vmem, ⟨31, _⟩ => ⟨S1x256x512, .f32⟩
  | .local _ .vmem, ⟨32, _⟩ => ⟨S1x256x512, .f32⟩
  | .local _ .vmem, ⟨33, _⟩ => ⟨S1x256x512, .f32⟩
  | .local _ .vmem, ⟨34, _⟩ => ⟨S1x128x512, .f32⟩
  | .local _ .vmem, ⟨35, _⟩ => ⟨S1x128x512, .f32⟩
  | .local _ .vmem, ⟨36, _⟩ => ⟨S1x1x512x512, .bf16⟩
  | .local _ .vmem, ⟨37, _⟩ => ⟨S1x1x512x512, .bf16⟩
  | .local _ .vmem, ⟨38, _⟩ => ⟨S1x1x512x512, .bf16⟩
  | .local _ .vmem, ⟨39, _⟩ => ⟨S1x1x512x512, .bf16⟩
  | .local _ .vmem, ⟨40, _⟩ => ⟨S1x1x256x512, .bf16⟩
  | .local _ .vmem, ⟨41, _⟩ => ⟨S1x1x256x512, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_c_4 : Ref sig .tc := ⟨.hbm, 9, rfl⟩
abbrev main_c_5 : Ref sig .tc := ⟨.hbm, 10, rfl⟩
abbrev main_c_6 : Ref sig .tc := ⟨.hbm, 11, rfl⟩
abbrev main_c_7 : Ref sig .tc := ⟨.hbm, 12, rfl⟩
abbrev main_c_8 : Ref sig .tc := ⟨.hbm, 13, rfl⟩
abbrev main_c_9 : Ref sig .tc := ⟨.hbm, 14, rfl⟩
abbrev main_c_10 : Ref sig .tc := ⟨.hbm, 15, rfl⟩
abbrev main_c_11 : Ref sig .tc := ⟨.hbm, 16, rfl⟩
abbrev main_c_12 : Ref sig .tc := ⟨.hbm, 17, rfl⟩
abbrev main_c_13 : Ref sig .tc := ⟨.hbm, 18, rfl⟩
abbrev main_c_14 : Ref sig .tc := ⟨.hbm, 19, rfl⟩
abbrev main_c_15 : Ref sig .tc := ⟨.hbm, 20, rfl⟩
abbrev main_v0 : Ref sig .tc := ⟨.hbm, 21, rfl⟩
abbrev main_c_16 : Ref sig .tc := ⟨.hbm, 22, rfl⟩
abbrev main_c_17 : Ref sig .tc := ⟨.hbm, 23, rfl⟩
abbrev main_v1 : Ref sig .tc := ⟨.hbm, 24, rfl⟩
abbrev main_c_18 : Ref sig .tc := ⟨.hbm, 25, rfl⟩
abbrev main_c_19 : Ref sig .tc := ⟨.hbm, 26, rfl⟩
abbrev main_v2 : Ref sig .tc := ⟨.hbm, 27, rfl⟩
abbrev main_c_20 : Ref sig .tc := ⟨.hbm, 28, rfl⟩
abbrev main_c_21 : Ref sig .tc := ⟨.hbm, 29, rfl⟩
abbrev main_c_22 : Ref sig .tc := ⟨.hbm, 30, rfl⟩
abbrev main_v3 : Ref sig .tc := ⟨.hbm, 31, rfl⟩
abbrev main_c_23 : Ref sig .tc := ⟨.hbm, 32, rfl⟩
abbrev main_c_24 : Ref sig .tc := ⟨.hbm, 33, rfl⟩
abbrev main_v4 : Ref sig .tc := ⟨.hbm, 34, rfl⟩
abbrev main_c_25 : Ref sig .tc := ⟨.hbm, 35, rfl⟩
abbrev main_c_26 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst : Ref sig .tc := ⟨.hbm, 41, rfl⟩
abbrev main_v9 : Ref sig .tc := ⟨.hbm, 42, rfl⟩
abbrev main_v10 : Ref sig .tc := ⟨.hbm, 43, rfl⟩
abbrev main_cst_27 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_28 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_cst_29 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_v26 : Ref sig .tc := ⟨.hbm, 65, rfl⟩
abbrev main_c_30 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_cst_31 : Ref sig .tc := ⟨.hbm, 73, rfl⟩
abbrev main_call1_v0 : Ref sig .tc := ⟨.hbm, 74, rfl⟩
abbrev main_call1_v1 : Ref sig .tc := ⟨.hbm, 75, rfl⟩
abbrev main_call1_v2 : Ref sig .tc := ⟨.hbm, 76, rfl⟩
abbrev main_v33 : Ref sig .tc := ⟨.hbm, 77, rfl⟩
abbrev main_c_32 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_v37 : Ref sig .tc := ⟨.hbm, 82, rfl⟩
abbrev main_v38 : Ref sig .tc := ⟨.hbm, 83, rfl⟩
abbrev main_cst_33 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_34 : Ref sig .tc := ⟨.hbm, 92, rfl⟩
abbrev main_v43 : Ref sig .tc := ⟨.hbm, 93, rfl⟩
abbrev main_v44 : Ref sig .tc := ⟨.hbm, 94, rfl⟩
abbrev main_cst_35 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_c_36 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_cst_37 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_v60 : Ref sig .tc := ⟨.hbm, 116, rfl⟩
abbrev main_c_38 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_cst_39 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v67 : Ref sig .tc := ⟨.hbm, 128, rfl⟩
abbrev main_c_40 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_cst_41 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_cst_42 : Ref sig .tc := ⟨.hbm, 143, rfl⟩
abbrev main_v77 : Ref sig .tc := ⟨.hbm, 144, rfl⟩
abbrev main_v78 : Ref sig .tc := ⟨.hbm, 145, rfl⟩
abbrev main_cst_43 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_c_44 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_cst_45 : Ref sig .tc := ⟨.hbm, 165, rfl⟩
abbrev main_call6_v0 : Ref sig .tc := ⟨.hbm, 166, rfl⟩
abbrev main_call6_v1 : Ref sig .tc := ⟨.hbm, 167, rfl⟩
abbrev main_call6_v2 : Ref sig .tc := ⟨.hbm, 168, rfl⟩
abbrev main_v96 : Ref sig .tc := ⟨.hbm, 169, rfl⟩
abbrev main_c_46 : Ref sig .tc := ⟨.hbm, 170, rfl⟩
abbrev main_v97 : Ref sig .tc := ⟨.hbm, 171, rfl⟩
abbrev main_v98 : Ref sig .tc := ⟨.hbm, 172, rfl⟩
abbrev main_v99 : Ref sig .tc := ⟨.hbm, 173, rfl⟩
abbrev main_v100 : Ref sig .tc := ⟨.hbm, 174, rfl⟩
abbrev main_v101 : Ref sig .tc := ⟨.hbm, 175, rfl⟩
abbrev main_v102 : Ref sig .tc := ⟨.hbm, 176, rfl⟩
abbrev main_cst_47 : Ref sig .tc := ⟨.hbm, 177, rfl⟩
abbrev main_call7_v0 : Ref sig .tc := ⟨.hbm, 178, rfl⟩
abbrev main_call7_v1 : Ref sig .tc := ⟨.hbm, 179, rfl⟩
abbrev main_call7_v2 : Ref sig .tc := ⟨.hbm, 180, rfl⟩
abbrev main_v103 : Ref sig .tc := ⟨.hbm, 181, rfl⟩
abbrev main_c_48 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_cst_49 : Ref sig .tc := ⟨.hbm, 188, rfl⟩
abbrev main_call8_v0 : Ref sig .tc := ⟨.hbm, 189, rfl⟩
abbrev main_call8_v1 : Ref sig .tc := ⟨.hbm, 190, rfl⟩
abbrev main_call8_v2 : Ref sig .tc := ⟨.hbm, 191, rfl⟩
abbrev main_v109 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_cst_50 : Ref sig .tc := ⟨.hbm, 196, rfl⟩
abbrev main_v113 : Ref sig .tc := ⟨.hbm, 197, rfl⟩
abbrev main_v114 : Ref sig .tc := ⟨.hbm, 198, rfl⟩
abbrev main_cst_51 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_v125 : Ref sig .tc := ⟨.hbm, 210, rfl⟩
abbrev main_v126 : Ref sig .tc := ⟨.hbm, 211, rfl⟩
abbrev main_c_52 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_cst_53 : Ref sig .tc := ⟨.hbm, 218, rfl⟩
abbrev main_call9_v0 : Ref sig .tc := ⟨.hbm, 219, rfl⟩
abbrev main_call9_v1 : Ref sig .tc := ⟨.hbm, 220, rfl⟩
abbrev main_call9_v2 : Ref sig .tc := ⟨.hbm, 221, rfl⟩
abbrev main_v132 : Ref sig .tc := ⟨.hbm, 222, rfl⟩
abbrev main_c_54 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_cst_55 : Ref sig .tc := ⟨.hbm, 230, rfl⟩
abbrev main_call10_v0 : Ref sig .tc := ⟨.hbm, 231, rfl⟩
abbrev main_call10_v1 : Ref sig .tc := ⟨.hbm, 232, rfl⟩
abbrev main_call10_v2 : Ref sig .tc := ⟨.hbm, 233, rfl⟩
abbrev main_v139 : Ref sig .tc := ⟨.hbm, 234, rfl⟩
abbrev main_c_56 : Ref sig .tc := ⟨.hbm, 235, rfl⟩
abbrev main_v140 : Ref sig .tc := ⟨.hbm, 236, rfl⟩
abbrev main_v141 : Ref sig .tc := ⟨.hbm, 237, rfl⟩
abbrev main_v142 : Ref sig .tc := ⟨.hbm, 238, rfl⟩
abbrev main_v143 : Ref sig .tc := ⟨.hbm, 239, rfl⟩
abbrev main_v144 : Ref sig .tc := ⟨.hbm, 240, rfl⟩
abbrev main_cst_57 : Ref sig .tc := ⟨.hbm, 241, rfl⟩
abbrev main_call11_v0 : Ref sig .tc := ⟨.hbm, 242, rfl⟩
abbrev main_call11_v1 : Ref sig .tc := ⟨.hbm, 243, rfl⟩
abbrev main_call11_v2 : Ref sig .tc := ⟨.hbm, 244, rfl⟩
abbrev main_v145 : Ref sig .tc := ⟨.hbm, 245, rfl⟩
abbrev main_v146 : Ref sig .tc := ⟨.hbm, 246, rfl⟩
abbrev main_v147 : Ref sig .tc := ⟨.hbm, 247, rfl⟩
abbrev main_v148 : Ref sig .tc := ⟨.hbm, 248, rfl⟩
abbrev main_v149 : Ref sig .tc := ⟨.hbm, 249, rfl⟩
abbrev main_cst_58 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_cst_59 : Ref sig .tc := ⟨.hbm, 266, rfl⟩
abbrev main_v165 : Ref sig .tc := ⟨.hbm, 267, rfl⟩
abbrev main_c_60 : Ref sig .tc := ⟨.hbm, 268, rfl⟩
abbrev main_v166 : Ref sig .tc := ⟨.hbm, 269, rfl⟩
abbrev main_c_61 : Ref sig .tc := ⟨.hbm, 270, rfl⟩
abbrev main_v167 : Ref sig .tc := ⟨.hbm, 271, rfl⟩
abbrev main_v168 : Ref sig .tc := ⟨.hbm, 272, rfl⟩
abbrev main_v169 : Ref sig .tc := ⟨.hbm, 273, rfl⟩
abbrev main_v170 : Ref sig .tc := ⟨.hbm, 274, rfl⟩
abbrev main_v171 : Ref sig .tc := ⟨.hbm, 275, rfl⟩
abbrev main_v172 : Ref sig .tc := ⟨.hbm, 276, rfl⟩
abbrev main_v173_0 : Ref sig .tc := ⟨.hbm, 277, rfl⟩
abbrev main_v173_1 : Ref sig .tc := ⟨.hbm, 278, rfl⟩
abbrev main_v173_2 : Ref sig .tc := ⟨.hbm, 279, rfl⟩
abbrev main_v173_3 : Ref sig .tc := ⟨.hbm, 280, rfl⟩
abbrev main_v173_4 : Ref sig .tc := ⟨.hbm, 281, rfl⟩
abbrev main_v173_5 : Ref sig .tc := ⟨.hbm, 282, rfl⟩
abbrev main_v173_6 : Ref sig .tc := ⟨.hbm, 283, rfl⟩
abbrev main_v173_7 : Ref sig .tc := ⟨.hbm, 284, rfl⟩
abbrev main_v173_8 : Ref sig .tc := ⟨.hbm, 285, rfl⟩
abbrev main_v173_9 : Ref sig .tc := ⟨.hbm, 286, rfl⟩
abbrev main_v173_10 : Ref sig .tc := ⟨.hbm, 287, rfl⟩
abbrev main_v173_11 : Ref sig .tc := ⟨.hbm, 288, rfl⟩
abbrev main_v173_12 : Ref sig .tc := ⟨.hbm, 289, rfl⟩
abbrev main_v173_13 : Ref sig .tc := ⟨.hbm, 290, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_20 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_21 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_22 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1792 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1664x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S192x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S96x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x256x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x128x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x1x512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x1x512x512 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x1x256x512 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]
-- ==== ProjReferenceIdeal.lean ====
abbrev S4x4096x1024 : Shape := ⟨3, ![4, 4096, 1024]⟩
abbrev S1024 : Shape := ⟨1, ![1024]⟩
abbrev S1024x2864 : Shape := ⟨2, ![1024, 2864]⟩
abbrev S8 : Shape := ⟨1, ![8]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x2864 : Shape := ⟨3, ![4, 4096, 2864]⟩
abbrev S4x4096x512 : Shape := ⟨3, ![4, 4096, 512]⟩
abbrev S4x4096x8 : Shape := ⟨3, ![4, 4096, 8]⟩
abbrev S4x4096x256 : Shape := ⟨3, ![4, 4096, 256]⟩
abbrev S4x4096x32 : Shape := ⟨3, ![4, 4096, 32]⟩
abbrev S16384x512 : Shape := ⟨2, ![16384, 512]⟩
abbrev S16384x256 : Shape := ⟨2, ![16384, 256]⟩
abbrev S4x512x4096 : Shape := ⟨3, ![4, 512, 4096]⟩
abbrev S4x256x4096 : Shape := ⟨3, ![4, 256, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S1024x2864, .f32⟩
  | .hbm, ⟨3, _⟩ => ⟨S8, .f32⟩
  | .hbm, ⟨4, _⟩ => ⟨S4x4096x1024, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x1024, .f32⟩
  | .hbm, ⟨16, _⟩ => ⟨S4x4096x1024, .f32⟩
  | .hbm, ⟨17, _⟩ => ⟨S1x1x1024, .f32⟩
  | .hbm, ⟨18, _⟩ => ⟨S4x4096x1024, .f32⟩
  | .hbm, ⟨19, _⟩ => ⟨S4x4096x1024, .f32⟩
  | .hbm, ⟨20, _⟩ => ⟨S4x4096x2864, .f32⟩
  | .hbm, ⟨21, _⟩ => ⟨S4x4096x512, .f32⟩
  | .hbm, ⟨22, _⟩ => ⟨S4x4096x512, .f32⟩
  | .hbm, ⟨23, _⟩ => ⟨S4x4096x512, .f32⟩
  | .hbm, ⟨24, _⟩ => ⟨S4x4096x8, .f32⟩
  | .hbm, ⟨25, _⟩ => ⟨S4x4096x256, .f32⟩
  | .hbm, ⟨26, _⟩ => ⟨S4x4096x256, .f32⟩
  | .hbm, ⟨27, _⟩ => ⟨S4x4096x256, .f32⟩
  | .hbm, ⟨28, _⟩ => ⟨S4x4096x256, .f32⟩
  | .hbm, ⟨29, _⟩ => ⟨S4x4096x32, .f32⟩
  | .hbm, ⟨30, _⟩ => ⟨S4x4096x8, .f32⟩
  | .hbm, ⟨31, _⟩ => ⟨S4x4096x256, .f32⟩
  | .hbm, ⟨32, _⟩ => ⟨S_, .f32⟩
  | .hbm, ⟨33, _⟩ => ⟨S4x4096x512, .f32⟩
  | .hbm, ⟨34, _⟩ => ⟨S4x4096x512, .f32⟩
  | .hbm, ⟨35, _⟩ => ⟨S4x4096x512, .bf16⟩
  | .hbm, ⟨36, _⟩ => ⟨S16384x512, .bf16⟩
  | .hbm, ⟨37, _⟩ => ⟨S16384x256, .f32⟩
  | .hbm, ⟨38, _⟩ => ⟨S4x512x4096, .f32⟩
  | .hbm, ⟨39, _⟩ => ⟨S4x512x4096, .f32⟩
  | .hbm, ⟨40, _⟩ => ⟨S4x256x4096, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Proof.Online.lean ====
module

public import Idealize.ShloMosaic.PureOps.Ideal

/-!
The arithmetic of a softmax that is computed chunk by chunk, over the extended reals, without a program.
One row of scores comes in chunks of 512. A running state holds a shift `m`, the sum `l` of the weights
`exp (z - m)` and the weighted sum `a` of the values. A masked score is `⊥` and has the weight zero.
-/

@[expose] public section

noncomputable section

namespace Cert.Fox

open Idealize.ShloMosaic

/-- The weight of the score `x` at the shift `M`: the exponential of the difference. -/
def wt (x : EReal) (M : ℝ) : EReal := Ideal.exp (x - (M : EReal))

/-- A masked score weighs nothing. -/
theorem wt_bot (M : ℝ) : wt ⊥ M = 0 := by
  show Ideal.exp (⊥ - (M : EReal)) = 0
  rw [EReal.bot_sub]; rfl

/-- The weight of a finite score is the real exponential. -/
theorem wt_coe (x M : ℝ) : wt (x : EReal) M = ((Real.exp (x - M) : ℝ) : EReal) := by
  show Ideal.exp ((x : EReal) - (M : EReal)) = _
  rw [← EReal.coe_sub]; rfl

/-- A score below `⊤` is masked or finite. -/
theorem bot_or_real {x : EReal} (h : x ≠ ⊤) : x = ⊥ ∨ ∃ r : ℝ, x = (r : EReal) := by
  induction x with
  | bot => exact .inl rfl
  | coe r => exact .inr ⟨r, rfl⟩
  | top => exact absurd rfl h

/-- A weight is a real number that is not negative. -/
theorem wt_real {x : EReal} (h : x ≠ ⊤) (M : ℝ) : ∃ w : ℝ, 0 ≤ w ∧ wt x M = (w : EReal) := by
  rcases bot_or_real h with rfl | ⟨r, rfl⟩
  · exact ⟨0, le_refl _, wt_bot M⟩
  · exact ⟨_, (Real.exp_pos _).le, wt_coe r M⟩

/-- Moving the shift from `M` to `M'` multiplies each weight by `exp (M - M')`. -/
theorem wt_shift {x : EReal} (h : x ≠ ⊤) (M M' : ℝ) :
    ((Real.exp (M - M') : ℝ) : EReal) * wt x M = wt x M' := by
  rcases bot_or_real h with rfl | ⟨r, rfl⟩
  · rw [wt_bot, wt_bot, mul_zero]
  · rw [wt_coe, wt_coe, ← EReal.coe_mul, ← Real.exp_add]
    exact congrArg (fun t : ℝ => ((Real.exp t : ℝ) : EReal)) (by ring)

/-- A constant added to the score is a change of the shift. -/
theorem wt_add_const (x : EReal) (c M : ℝ) : wt (x + (c : EReal)) M = wt x (M - c) := by
  induction x with
  | bot => rw [EReal.bot_add, wt_bot, wt_bot]
  | coe r => rw [← EReal.coe_add, wt_coe, wt_coe]; congr 2; ring
  | top =>
    show Ideal.exp (⊤ + (c : EReal) - (M : EReal)) = Ideal.exp (⊤ - ((M - c : ℝ) : EReal))
    rw [EReal.top_add_coe, EReal.top_sub_coe, EReal.top_sub_coe]

/-- A real factor that is not negative distributes over a finite sum of extended reals. -/
theorem mul_sum_real {ι : Type} (s : Finset ι) (f : ι → EReal) (a : ℝ) (ha : 0 ≤ a) :
    (a : EReal) * ∑ i ∈ s, f i = ∑ i ∈ s, (a : EReal) * f i := by
  classical
  induction s using Finset.induction_on with
  | empty => simp
  | insert i s hi ih =>
    rw [Finset.sum_insert hi, Finset.sum_insert hi,
      EReal.left_distrib_of_nonneg_of_ne_top (EReal.coe_nonneg.2 ha) (EReal.coe_ne_top a), ih]

/-- A finite sum of reals, as an extended real. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The sum of the weights of the first `n` chunks. -/
def den (z : ℕ → Fin 512 → EReal) (n : ℕ) (M : ℝ) : EReal := ∑ j ∈ Finset.range n, ∑ c, wt (z j c) M

/-- The weighted sum of the values of the first `n` chunks. -/
def num (z v : ℕ → Fin 512 → EReal) (n : ℕ) (M : ℝ) : EReal := ∑ j ∈ Finset.range n, ∑ c, wt (z j c) M * v j c

/-- What the running state holds after `n` chunks: nothing yet, or for some real shift the two sums at that shift. -/
def Inv (z v : ℕ → Fin 512 → EReal) (n : ℕ) (m l a : EReal) : Prop :=
  (n = 0 ∧ m = ⊥ ∧ l = 0 ∧ a = 0) ∨ ∃ M : ℝ, m = (M : EReal) ∧ l = den z n M ∧ a = num z v n M

/-- Both sums move together with the shift. -/
theorem den_shift {z : ℕ → Fin 512 → EReal} {n : ℕ} (hz : ∀ j < n, ∀ c, z j c ≠ ⊤) (M M' : ℝ) :
    ((Real.exp (M - M') : ℝ) : EReal) * den z n M = den z n M' := by
  unfold den
  rw [mul_sum_real _ _ _ (Real.exp_pos _).le]
  refine Finset.sum_congr rfl fun j hj => ?_
  rw [mul_sum_real _ _ _ (Real.exp_pos _).le]
  exact Finset.sum_congr rfl fun c _ => wt_shift (hz j (Finset.mem_range.1 hj) c) M M'

theorem num_shift {z v : ℕ → Fin 512 → EReal} {n : ℕ} (hz : ∀ j < n, ∀ c, z j c ≠ ⊤) (M M' : ℝ) :
    ((Real.exp (M - M') : ℝ) : EReal) * num z v n M = num z v n M' := by
  unfold num
  rw [mul_sum_real _ _ _ (Real.exp_pos _).le]
  refine Finset.sum_congr rfl fun j hj => ?_
  rw [mul_sum_real _ _ _ (Real.exp_pos _).le]
  refine Finset.sum_congr rfl fun c _ => ?_
  rw [← mul_assoc, wt_shift (hz j (Finset.mem_range.1 hj) c) M M']

/-- The largest of scores below `⊤`, one of them finite, is a real number. -/
theorem max_real {ι : Type} [Fintype ι] (s : ι → EReal) (hs : ∀ c, s c ≠ ⊤) (hb : ∃ c, s c ≠ ⊥) :
    ∃ M : ℝ, Finset.univ.fold max (⊥ : EReal) s = (M : EReal) := by
  obtain ⟨c, hc⟩ := hb
  have h1 : Finset.univ.fold max (⊥ : EReal) s < ⊤ :=
    (Finset.fold_max_lt _).2 ⟨bot_lt_top, fun x _ => lt_top_iff_ne_top.2 (hs x)⟩
  have h2 : ⊥ < Finset.univ.fold max (⊥ : EReal) s :=
    (Finset.lt_fold_max _).2 (.inr ⟨c, Finset.mem_univ c, bot_lt_iff_ne_bot.2 hc⟩)
  rcases bot_or_real h1.ne with h | h
  · exact absurd h h2.ne'
  · exact h

/-- One more chunk: the state's new maximum, its sums rescaled and the chunk's own weights added. -/
theorem Inv.step {z v : ℕ → Fin 512 → EReal} {n : ℕ} {m l a : EReal} (h : Inv z v n m l a)
    (hz : ∀ j ≤ n, ∀ c, z j c ≠ ⊤) (hb : ∃ c, z n c ≠ ⊥) {m' l' a' : EReal}
    (hm : m' = max m (Finset.univ.fold max (⊥ : EReal) (z n)))
    (hl : l' = Ideal.exp (m - m') * l + ∑ c, Ideal.exp (z n c - m'))
    (ha : a' = Ideal.exp (m - m') * a + ∑ c, Ideal.exp (z n c - m') * v n c) :
    Inv z v (n + 1) m' l' a' := by
  obtain ⟨X, hX⟩ := max_real (z n) (hz n le_rfl) hb
  rw [hX] at hm
  rcases h with ⟨rfl, rfl, rfl, rfl⟩ | ⟨M, rfl, rfl, rfl⟩
  · have hm' : m' = (X : EReal) := by rw [hm]; exact max_eq_right bot_le
    subst hm'
    refine .inr ⟨X, rfl, ?_, ?_⟩
    · rw [hl, mul_zero, zero_add]; unfold den; rw [Finset.sum_range_one]; rfl
    · rw [ha, mul_zero, zero_add]; unfold num; rw [Finset.sum_range_one]; rfl
  · have hm' : m' = ((max M X : ℝ) : EReal) := by rw [hm]; exact (EReal.coe_strictMono.monotone.map_max).symm
    generalize max M X = Y at hm'
    subst hm'
    have he : Ideal.exp ((M : EReal) - (Y : EReal)) = ((Real.exp (M - Y) : ℝ) : EReal) := wt_coe M Y
    refine .inr ⟨Y, rfl, ?_, ?_⟩
    · rw [hl, he, den_shift (fun j hj => hz j hj.le)]; unfold den; rw [Finset.sum_range_succ]; rfl
    · rw [ha, he, num_shift (fun j hj => hz j hj.le)]; unfold num; rw [Finset.sum_range_succ]; rfl

/-- The sum of the weights is a positive real number, when one score is finite. -/
theorem den_pos {z : ℕ → Fin 512 → EReal} {n : ℕ} (hz : ∀ j < n, ∀ c, z j c ≠ ⊤)
    (hb : ∃ j < n, ∃ c, z j c ≠ ⊥) (M : ℝ) : ∃ L : ℝ, 0 < L ∧ den z n M = (L : EReal) := by
  choose! w hw0 hw using fun j (hj : j < n) c => wt_real (hz j hj c) M
  refine ⟨∑ j ∈ Finset.range n, ∑ c, w j c, ?_, ?_⟩
  · obtain ⟨j, hj, c, hc⟩ := hb
    refine Finset.sum_pos' (fun i hi => Finset.sum_nonneg fun c _ => hw0 i (Finset.mem_range.1 hi) c)
      ⟨j, Finset.mem_range.2 hj, Finset.sum_pos' (fun c _ => hw0 j hj c) ⟨c, Finset.mem_univ c, ?_⟩⟩
    obtain ⟨r, hr⟩ := (bot_or_real (hz j hj c)).resolve_left hc
    have h := hw j hj c
    rw [hr, wt_coe] at h
    rw [← EReal.coe_eq_coe_iff.1 h]
    exact Real.exp_pos _
  · unfold den
    rw [coe_sum]
    refine Finset.sum_congr rfl fun j hj => ?_
    rw [coe_sum]
    exact Finset.sum_congr rfl fun c _ => hw j (Finset.mem_range.1 hj) c

/-- The quotient by a real number that is not zero is the product with the real reciprocal. -/
theorem div_real (x : EReal) {L : ℝ} (hL : L ≠ 0) : Ideal.div x (L : EReal) = ((L⁻¹ : ℝ) : EReal) * x := by
  unfold Ideal.div
  rw [if_neg (by simpa using hL), ← EReal.coe_inv, mul_comm]

/-- The normalised weight of a score does not depend on the shift. -/
theorem ratio_shift {z : ℕ → Fin 512 → EReal} {n : ℕ} (hz : ∀ j < n, ∀ c, z j c ≠ ⊤)
    (hb : ∃ j < n, ∃ c, z j c ≠ ⊥) (M M' : ℝ) {x : EReal} (hx : x ≠ ⊤) :
    Ideal.div (wt x M) (den z n M) = Ideal.div (wt x M') (den z n M') := by
  obtain ⟨L, hL, hd⟩ := den_pos hz hb M
  obtain ⟨w, -, hw⟩ := wt_real hx M
  rw [← wt_shift hx M M', ← den_shift hz M M', hd, hw, ← EReal.coe_mul, ← EReal.coe_mul,
    div_real _ hL.ne', div_real _ (mul_pos (Real.exp_pos _) hL).ne', ← EReal.coe_mul, ← EReal.coe_mul]
  congr 1
  have := (Real.exp_pos (M - M')).ne'
  field_simp

/-- What the state's quotient is in the end: the values averaged by the normalised weights, at any shift. -/
theorem Inv.final {z v : ℕ → Fin 512 → EReal} {n : ℕ} {m l a : EReal} (h : Inv z v n m l a) (hn : n ≠ 0)
    (hz : ∀ j < n, ∀ c, z j c ≠ ⊤) (hb : ∃ j < n, ∃ c, z j c ≠ ⊥) (M' : ℝ) :
    Ideal.div a l = ∑ j ∈ Finset.range n, ∑ c, v j c * Ideal.div (wt (z j c) M') (den z n M') := by
  rcases h with ⟨h0, -⟩ | ⟨M, -, rfl, rfl⟩
  · exact absurd h0 hn
  obtain ⟨L, hL, hd⟩ := den_pos hz hb M
  have hstep : ∀ j < n, ∀ c, Ideal.div (wt (z j c) M') (den z n M') = ((L⁻¹ : ℝ) : EReal) * wt (z j c) M := fun j hj c => by
    rw [← ratio_shift hz hb M M' (hz j hj c), hd, div_real _ hL.ne']
  rw [hd, div_real _ hL.ne']
  unfold num
  rw [mul_sum_real _ _ _ (inv_nonneg.2 hL.le)]
  refine Finset.sum_congr rfl fun j hj => ?_
  rw [mul_sum_real _ _ _ (inv_nonneg.2 hL.le)]
  refine Finset.sum_congr rfl fun c _ => ?_
  rw [hstep j (Finset.mem_range.1 hj) c, mul_comm (v j c), mul_assoc]

/-- Chunks in which every score is masked add nothing to the sum of the weights. -/
theorem den_extend {z : ℕ → Fin 512 → EReal} {n N : ℕ} (hnN : n ≤ N) (hz : ∀ j, n ≤ j → j < N → ∀ c, z j c = ⊥) (M : ℝ) :
    den z N M = den z n M := by
  refine (Finset.sum_subset (Finset.range_mono hnN) fun j hj hj' => ?_).symm
  refine Finset.sum_eq_zero fun c _ => ?_
  rw [hz j (by simpa using hj') (Finset.mem_range.1 hj) c, wt_bot]

/-- Nor do they add to the average: the state after `n` chunks is the softmax over all `N`. -/
theorem Inv.final_extend {z v : ℕ → Fin 512 → EReal} {n N : ℕ} {m l a : EReal} (h : Inv z v n m l a) (hn : n ≠ 0)
    (hnN : n ≤ N) (hz : ∀ j < n, ∀ c, z j c ≠ ⊤) (hb : ∃ j < n, ∃ c, z j c ≠ ⊥)
    (hmask : ∀ j, n ≤ j → j < N → ∀ c, z j c = ⊥) (M' : ℝ) :
    Ideal.div a l = ∑ j ∈ Finset.range N, ∑ c, v j c * Ideal.div (wt (z j c) M') (den z N M') := by
  obtain ⟨L, hL, hd⟩ := den_pos hz hb M'
  rw [h.final hn hz hb M', den_extend hnN hmask]
  refine Finset.sum_subset (Finset.range_mono hnN) fun j hj hj' => ?_
  refine Finset.sum_eq_zero fun c _ => ?_
  rw [hmask j (by simpa using hj') (Finset.mem_range.1 hj) c, wt_bot, hd, div_real _ hL.ne', mul_zero, mul_zero]

end Cert.Fox

end
-- ==== Proof.Cumsum.lean ====
module

public import proofs.«01_k».proof.Proof.Online
public import Idealize.ShloMosaic.Lib.Pointwise

/-! The running sum of the log-forget gates.

Host code forms it as a window sum over the padded operand.  Both programs form it, each along its own
axis; here both are read as the same finite sum `run L b h t`. -/

@[expose] public section

set_option maxRecDepth 16384

noncomputable section

open Idealize.ShloMosaic

namespace Cert.Fox

/-- A left fold that adds a term for each element is the start plus the sum of the terms. -/
theorem foldl_add {α : Type*} (f : α → EReal) (l : List α) (v : EReal) :
    l.foldl (fun r n => r + f n) v = v + (l.map f).sum := by
  induction l generalizing v with
  | nil => simp
  | cons a l ih => simp [ih, add_assoc]

/-- The host's window sum from a zero start is the sum, over the window's positions, of the operand's
elements there, a position in the padding counting zero. -/
theorem window_sum {s t u : Shape} (window strides lo hi : Fin s.rank → Nat)
    (h : s.ReduceWindows window strides lo hi t) (x : FVec Ideal s .f32) (init : FVec Ideal u .f32)
    (hu : 0 < u.numel) (h0 : ∀ i, init i = (0 : EReal)) (j : t.Idx) :
    Host.reduceWindowAdd window strides lo hi x init h hu j
      = ∑ w : (⟨s.rank, window⟩ : Shape).Idx,
          (if hin : ∀ a, lo a ≤ (j (a.cast h.1.symm)).val * strides a + (w a).val
              ∧ (j (a.cast h.1.symm)).val * strides a + (w a).val - lo a < s.size a
            then x (fun a => ⟨_, (hin a).2⟩) else (0 : EReal)) := by
  unfold Host.reduceWindowAdd
  rw [Ideal.hostReduceWindowAdd_def]
  unfold Ideal.hostReduceWindowAdd Host.reduceWindow
  dsimp only
  rw [h0]
  rw [foldl_add, zero_add, ← Fin.sum_univ_def]
  refine Eq.trans (Finset.sum_congr rfl fun n _ => ?_) (Equiv.sum_comp (⟨s.rank, window⟩ : Shape).rowMajor.symm
    (fun w : (⟨s.rank, window⟩ : Shape).Idx =>
          (if hin : ∀ a, lo a ≤ (j (a.cast h.1.symm)).val * strides a + (w a).val
              ∧ (j (a.cast h.1.symm)).val * strides a + (w a).val - lo a < s.size a
            then x (fun a => ⟨_, (hin a).2⟩) else (0 : EReal))))
  split_ifs <;> rfl

/-- The running sum of the gates of batch `b` and head `h` up to position `t`. -/
def run (L : (⟨3, ![4, 4096, 8]⟩ : Shape).Idx → EReal) (b : Fin 4) (h : Fin 8) (t : Fin 4096) : EReal :=
  ∑ w : Fin 4096, if hw : 4095 ≤ t.val + w.val ∧ t.val + w.val - 4095 < 4096 then L (ix3 b ⟨_, hw.2⟩ h) else 0

/-- Of real gates the running sum is real. -/
theorem run_real {L : (⟨3, ![4, 4096, 8]⟩ : Shape).Idx → EReal} (hL : ∀ i, ∃ r : ℝ, L i = r)
    (b : Fin 4) (h : Fin 8) (t : Fin 4096) : ∃ r : ℝ, run L b h t = r := by
  choose l hl using hL
  refine ⟨∑ w : Fin 4096, if hw : 4095 ≤ t.val + w.val ∧ t.val + w.val - 4095 < 4096
    then l (ix3 b ⟨_, hw.2⟩ h) else 0, ?_⟩
  unfold run
  rw [coe_sum]
  refine Finset.sum_congr rfl fun w _ => ?_
  split
  · exact hl _
  · rfl

/-- The window sum along the middle axis of the gates is their running sum. -/
theorem cumsum_mid (L : FVec Ideal ⟨3, ![4, 4096, 8]⟩ .f32) {u : Shape} (init : FVec Ideal u .f32)
    (hr : (⟨3, ![4, 4096, 8]⟩ : Shape).ReduceWindows ![1, 4096, 1] ![1, 1, 1] ![0, 4095, 0] ![0, 0, 0] ⟨3, ![4, 4096, 8]⟩)
    (hu : 0 < u.numel) (h0 : ∀ i, init i = (0 : EReal)) (b : Fin 4) (t : Fin 4096) (h : Fin 8) :
    Host.reduceWindowAdd (s := ⟨3, ![4, 4096, 8]⟩) ![1, 4096, 1] ![1, 1, 1] ![0, 4095, 0] ![0, 0, 0] L init hr hu (ix3 b t h)
      = run L b h t := by
  rw [window_sum _ _ _ _ hr L init hu h0]
  refine (sum_idx3 (n0 := 1) (n1 := 4096) (n2 := 1) _).trans ?_
  rw [Fin.sum_univ_one]
  unfold run
  refine Finset.sum_congr rfl fun w _ => ?_
  rw [Fin.sum_univ_one]
  by_cases hw : 4095 ≤ t.val + w.val ∧ t.val + w.val - 4095 < 4096
  · rw [dif_pos hw, dif_pos]
    · congr 1
      funext a
      match a with
      | ⟨0, _⟩ => exact Fin.ext (by show b.val * 1 + 0 - 0 = b.val; omega)
      | ⟨1, _⟩ => exact Fin.ext (by show t.val * 1 + w.val - 4095 = t.val + w.val - 4095; omega)
      | ⟨2, _⟩ => exact Fin.ext (by show h.val * 1 + 0 - 0 = h.val; omega)
    · intro a
      have hb := b.isLt
      have hh := h.isLt
      match a with
      | ⟨0, _⟩ => show 0 ≤ b.val * 1 + 0 ∧ b.val * 1 + 0 - 0 < 4; omega
      | ⟨1, _⟩ => show 4095 ≤ t.val * 1 + w.val ∧ t.val * 1 + w.val - 4095 < 4096; omega
      | ⟨2, _⟩ => show 0 ≤ h.val * 1 + 0 ∧ h.val * 1 + 0 - 0 < 8; omega
  · rw [dif_neg hw, dif_neg]
    intro hin
    have h1 : 4095 ≤ t.val * 1 + w.val ∧ t.val * 1 + w.val - 4095 < 4096 := hin (1 : Fin 3)
    omega

/-- The window sum along the last axis of the transposed gates is the running sum of the gates. -/
theorem cumsum_last (L : FVec Ideal ⟨3, ![4, 4096, 8]⟩ .f32) (X : FVec Ideal ⟨3, ![4, 8, 4096]⟩ .f32)
    (hX : ∀ b h t, X (ix3 b h t) = L (ix3 b t h)) {u : Shape} (init : FVec Ideal u .f32)
    (hr : (⟨3, ![4, 8, 4096]⟩ : Shape).ReduceWindows ![1, 1, 4096] ![1, 1, 1] ![0, 0, 4095] ![0, 0, 0] ⟨3, ![4, 8, 4096]⟩)
    (hu : 0 < u.numel) (h0 : ∀ i, init i = (0 : EReal)) (b : Fin 4) (t : Fin 4096) (h : Fin 8) :
    Host.reduceWindowAdd (s := ⟨3, ![4, 8, 4096]⟩) ![1, 1, 4096] ![1, 1, 1] ![0, 0, 4095] ![0, 0, 0] X init hr hu (ix3 b h t)
      = run L b h t := by
  rw [window_sum _ _ _ _ hr X init hu h0]
  refine (sum_idx3 (n0 := 1) (n1 := 1) (n2 := 4096) _).trans ?_
  rw [Fin.sum_univ_one, Fin.sum_univ_one]
  unfold run
  refine Finset.sum_congr rfl fun w _ => ?_
  by_cases hw : 4095 ≤ t.val + w.val ∧ t.val + w.val - 4095 < 4096
  · rw [dif_pos hw, ← hX, dif_pos]
    · congr 1
      funext a
      match a with
      | ⟨0, _⟩ => exact Fin.ext (by show b.val * 1 + 0 - 0 = b.val; omega)
      | ⟨1, _⟩ => exact Fin.ext (by show h.val * 1 + 0 - 0 = h.val; omega)
      | ⟨2, _⟩ => exact Fin.ext (by show t.val * 1 + w.val - 4095 = t.val + w.val - 4095; omega)
    · intro a
      have hb := b.isLt
      have hh := h.isLt
      match a with
      | ⟨0, _⟩ => show 0 ≤ b.val * 1 + 0 ∧ b.val * 1 + 0 - 0 < 4; omega
      | ⟨1, _⟩ => show 0 ≤ h.val * 1 + 0 ∧ h.val * 1 + 0 - 0 < 8; omega
      | ⟨2, _⟩ => show 4095 ≤ t.val * 1 + w.val ∧ t.val * 1 + w.val - 4095 < 4096; omega
  · rw [dif_neg hw, dif_neg]
    intro hin
    have h1 : 4095 ≤ t.val * 1 + w.val ∧ t.val * 1 + w.val - 4095 < 4096 := hin (2 : Fin 3)
    omega

end Cert.Fox
-- ==== Proof.Attn.lean ====
module

public import proofs.«01_k».proof.Proof.Cumsum

/-!
The forgetting attention as mathematics on whole arrays, without a program: a row of scores, its softmax at any
shift, and the regrouping of a row into eight chunks of 512.
-/

@[expose] public section
set_option maxRecDepth 16384
noncomputable section
open Idealize.ShloMosaic
namespace Cert.Fox

/-- The scale of the scores, one eighth, as the programs spell it. -/
def scl : EReal := Ideal.ofBits .f32 1040187392#32

/-- The scale is a real number. -/
theorem scl_real : ∃ x : ℝ, scl = (x : EReal) := by
  refine ⟨_, show scl = (((2 : ℝ) ^ (-3 : ℤ) : ℝ) : EReal) from ?_⟩
  unfold scl
  simp [Ideal.ofBits, Ideal.ieee, -EReal.coe_mul]
  norm_num

section
variable (Q K : (⟨4, ![4, 4096, 8, 64]⟩ : Shape).Idx → EReal) (L : (⟨3, ![4, 4096, 8]⟩ : Shape).Idx → EReal)
  (b : Fin 4) (h : Fin 8) (t s : Fin 4096)

/-- The score of query `t` and key `s`, up to a term that depends on the query alone. -/
def score : EReal := (∑ d : Fin 64, Q (ix4 b t h d) * scl * K (ix4 b s h d)) - run L b h s

/-- The row of scores of query `t`, a key behind the query masked. -/
def row : EReal := if s ≤ t then score Q K L b h t s else ⊥

variable {Q K L} (hQ : ∀ i, ∃ x : ℝ, Q i = (x : EReal)) (hK : ∀ i, ∃ x : ℝ, K i = (x : EReal)) (hL : ∀ i, ∃ x : ℝ, L i = (x : EReal))

include hQ hK hL in
/-- A score of finite arrays is real. -/
theorem score_real : ∃ x : ℝ, score Q K L b h t s = (x : EReal) := by
  choose q hq using hQ
  choose k hk using hK
  obtain ⟨c, hc⟩ := scl_real
  obtain ⟨r, hr⟩ := run_real hL b h s
  refine ⟨(∑ d : Fin 64, q (ix4 b t h d) * c * k (ix4 b s h d)) - r, ?_⟩
  unfold score
  rw [hr, EReal.coe_sub, coe_sum]
  simp only [hq, hk, hc, EReal.coe_mul]

include hQ hK hL in
/-- The reference's score is the score above plus the query's own running sum. -/
theorem ref_score : (∑ d : Fin 64, Q (ix4 b t h d) * K (ix4 b s h d)) * scl + run L b h t - run L b h s
    = score Q K L b h t s + run L b h t := by
  choose q hq using hQ
  choose k hk using hK
  obtain ⟨c, hc⟩ := scl_real
  obtain ⟨r, hr⟩ := run_real hL b h s
  obtain ⟨u, hu⟩ := run_real hL b h t
  unfold score
  simp only [hq, hk, hc, hr, hu, ← EReal.coe_mul, ← coe_sum, ← EReal.coe_add, ← EReal.coe_sub]
  congr 1
  have e : (∑ d : Fin 64, q (ix4 b t h d) * c * k (ix4 b s h d)) = (∑ d : Fin 64, q (ix4 b t h d) * k (ix4 b s h d)) * c := by
    rw [Finset.sum_mul]
    exact Finset.sum_congr rfl fun d _ => by ring
  rw [e]
  ring

include hQ hK hL in
/-- No entry of the row is `⊤`. -/
theorem row_ne_top : row Q K L b h t s ≠ ⊤ := by
  unfold row
  split
  · obtain ⟨x, hx⟩ := score_real b h t s hQ hK hL
    rw [hx]
    exact EReal.coe_ne_top x
  · exact bot_ne_top

include hQ hK hL in
/-- The query's own entry is not masked. -/
theorem row_ne_bot : row Q K L b h t t ≠ ⊥ := by
  unfold row
  rw [if_pos le_rfl]
  obtain ⟨x, hx⟩ := score_real b h t t hQ hK hL
  rw [hx]
  exact EReal.coe_ne_bot x

include hQ hK hL in
/-- The reference's masked score is the row's entry plus the query's running sum. -/
theorem ref_row : (if s.1 ≤ t.1 then (∑ d : Fin 64, Q (ix4 b t h d) * K (ix4 b s h d)) * scl + run L b h t - run L b h s else ⊥)
    = row Q K L b h t s + run L b h t := by
  unfold row
  by_cases hs : s ≤ t
  · rw [if_pos hs, if_pos (Fin.le_def.1 hs), ref_score b h t s hQ hK hL]
  · rw [if_neg hs, if_neg (fun g => hs (Fin.le_def.2 g)), EReal.bot_add]
end

/-- A softmax by the row's maximum, of a row raised by a constant, is the quotient of weights at a real shift. -/
theorem softmax_shift {ι : Type} [Fintype ι] (z : ι → EReal) (C : ℝ) (hz : ∀ x, z x ≠ ⊤) (hb : ∃ x, z x ≠ ⊥) :
    ∃ M : ℝ, ∀ x, Ideal.exp ((z x + (C : EReal)) - max ⊥ (Finset.univ.fold max ⊥ fun x => z x + (C : EReal))) = wt (z x) M := by
  obtain ⟨M, hM⟩ := max_real (fun x => z x + (C : EReal))
    (fun x => by
      rcases bot_or_real (hz x) with h | ⟨r, h⟩
      · rw [h, EReal.bot_add]; exact bot_ne_top
      · rw [h, ← EReal.coe_add]; exact EReal.coe_ne_top _)
    (by
      obtain ⟨x, hx⟩ := hb
      refine ⟨x, ?_⟩
      rcases bot_or_real (hz x) with h | ⟨r, h⟩
      · exact absurd h hx
      · rw [h, ← EReal.coe_add]; exact EReal.coe_ne_bot _)
  refine ⟨M - C, fun x => ?_⟩
  rw [hM, max_eq_right bot_le, ← wt_add_const]
  rfl

/-- The weighted average over 4096 entries, chunk by chunk. -/
theorem average_tiles (z v : Fin 4096 → EReal) (zz vv : ℕ → Fin 512 → EReal) (M : ℝ)
    (hz : ∀ (j : Fin 8) (e : Fin 512), zz j.1 e = z ⟨j.1 * 512 + e.1, by omega⟩)
    (hv : ∀ (j : Fin 8) (e : Fin 512), vv j.1 e = v ⟨j.1 * 512 + e.1, by omega⟩) :
    ∑ x, v x * Ideal.div (wt (z x) M) (∑ y, wt (z y) M)
      = ∑ j ∈ Finset.range 8, ∑ e, vv j e * Ideal.div (wt (zz j e) M) (den zz 8 M) := by
  have hd : ∑ y, wt (z y) M = den zz 8 M := by
    unfold den
    rw [Finset.sum_range, Fin.sum_univ_tiles 8 512 rfl]
    exact Finset.sum_congr rfl fun j _ => Finset.sum_congr rfl fun e _ => by rw [hz]
  rw [hd, Finset.sum_range, Fin.sum_univ_tiles 8 512 rfl]
  exact Finset.sum_congr rfl fun j _ => Finset.sum_congr rfl fun e _ => by rw [hz, hv]

end Cert.Fox
-- ==== Proof.Host.lean ====
module

public import proofs.«01_k».proof.Proof.Attn
public import proofs.«01_k».proof.Proof.Gen.KernelIdeal.Value
public import Idealize.ShloMosaic.Lib.Pipeline.ValueKit
public import Idealize.ShloMosaic.Lib.Pointwise

/-!
What the host code hands to the kernel: the four arrays that the windows cut, read at an index in terms of the arguments,
and the blocks of a grid point.
-/

@[expose] public section
set_option maxRecDepth 16384
noncomputable section
open Idealize.ShloMosaic Idealize.ShloMosaic.TcCoe Idealize.SL.Sem
namespace Cert.KernelIdeal.Fox
open Cert.KernelIdeal Cert.KernelIdeal.Gen Cert.Fox

/-- A zero constant is zero at every index. -/
theorem zero_init (i : S_.Idx) : (broadcastInDim S_ ![] bcast_S_S_ (constant (F := Ideal) S_ .f32 0#32) i : EReal) = 0 := by
  pointwise

section
variable (m : (ℓ : Loc nD τ sig) → Buf (Elt Ideal) ℓ) (c : Dev nD)

/-- The queries. -/
abbrev argQ : S4x4096x8x64.Idx → EReal := m ((c.tc : Thread nD τ).loc main_arg0)
/-- The keys. -/
abbrev argK : S4x4096x8x64.Idx → EReal := m ((c.tc : Thread nD τ).loc main_arg1)
/-- The values. -/
abbrev argV : S4x4096x8x64.Idx → EReal := m ((c.tc : Thread nD τ).loc main_arg2)
/-- The gates. -/
abbrev argL : S4x4096x8.Idx → EReal := m ((c.tc : Thread nD τ).loc main_arg3)

/-- The first operand is the queries, scaled, as a matrix. -/
theorem read_q (k : Fin 16384) (l : Fin 512) : (V m c main_v3 : S16384x512.Idx → Ideal .bf16) (ix2 k l)
    = argQ m c (ix4 ⟨k.1 / 4096, by omega⟩ ⟨k.1 % 4096, by omega⟩ ⟨l.1 / 64, by omega⟩ ⟨l.1 % 64, by omega⟩) * scl := by
  simp only [V, List.flatten_cons, List.flatten_nil, hostOps0, hostOps0_1, hostOps0_2, List.cons_append, List.nil_append, List.append_nil]
  entry_read
  pointwise
  rfl

/-- The second operand is the keys, chunk by chunk and transposed. -/
theorem read_k (b : Fin 4) (n : Fin 8) (l e : Fin 512) : (V m c main_v6 : S4x8x512x512.Idx → Ideal .bf16) (ix4 b n l e)
    = argK m c (ix4 b ⟨n.1 * 512 + e.1, by omega⟩ ⟨l.1 / 64, by omega⟩ ⟨l.1 % 64, by omega⟩) := by
  simp only [V, List.flatten_cons, List.flatten_nil, hostOps0, hostOps0_1, hostOps0_2, List.cons_append, List.nil_append, List.append_nil]
  entry_read
  pointwise

/-- The third operand is the values, chunk by chunk and transposed. -/
theorem read_v (b : Fin 4) (n : Fin 8) (l e : Fin 512) : (V m c main_v9 : S4x8x512x512.Idx → Ideal .bf16) (ix4 b n l e)
    = argV m c (ix4 b ⟨n.1 * 512 + e.1, by omega⟩ ⟨l.1 / 64, by omega⟩ ⟨l.1 % 64, by omega⟩) := by
  simp only [V, List.flatten_cons, List.flatten_nil, hostOps0, hostOps0_1, hostOps0_2, List.cons_append, List.nil_append, List.append_nil]
  entry_read
  pointwise

/-- The fourth operand is the running sums of the gates, chunk by chunk. -/
theorem read_c (b : Fin 4) (h n : Fin 8) (e : Fin 512) : (V m c main_v12 : S4x8x8x512.Idx → Ideal .f32) (ix4 b h n e)
    = run (argL m c) b h ⟨n.1 * 512 + e.1, by omega⟩ := by
  simp only [V, List.flatten_cons, List.flatten_nil, hostOps0, hostOps0_1, hostOps0_2, List.cons_append, List.nil_append, List.append_nil]
  entry_read
  pointwise
  exact cumsum_last (argL m c) (transpose S4x8x4096 [0, 2, 1] (argL m c) transposes_S4x4096x8_S4x8x4096_0_2_1)
    (fun b h t => by pointwise) _ reduceWindows_S4x8x4096_S4x8x4096_w1s1p0_0_w1s1p0_0_w4096s1p4095_0 h_S_ zero_init b _ h
end

/-- The windows' index maps over the grid of batches, head pairs and query chunks. -/
theorem idx : ∀ t : Fin cfg0.N,
    win0_0.index t = ![(grid0.coords t 0).val * 8 + (grid0.coords t 2).val, (grid0.coords t 1).val]
    ∧ win0_1.index t = ![(grid0.coords t 0).val, 0, (grid0.coords t 1).val, 0]
    ∧ win0_2.index t = ![(grid0.coords t 0).val, 0, (grid0.coords t 1).val, 0]
    ∧ win0_3.index t = ![(grid0.coords t 0).val, 0, 0, 0]
    ∧ win0_4.index t = ![(grid0.coords t 0).val * 8 + (grid0.coords t 2).val, (grid0.coords t 1).val] :=
  (by decide +kernel : ∀ t : Fin grid0.N, _)

/-- The grid's extents. -/
theorem coords_lt (i : grid0.Coords) : (i 0).val < 4 ∧ (i 1).val < 4 ∧ (i 2).val < 8 := ⟨(i 0).isLt, (i 1).isLt, (i 2).isLt⟩

section
variable (m : (ℓ : Loc nD τ sig) → Buf (Elt Ideal) ℓ) (c : Dev nD) (t : Fin cfg0.N)

/-- The query block. -/
theorem blk_q (r : Fin 512) (d : Fin 128) (k : Fin 16384) (l : Fin 512)
    (hk : k.1 = ((grid0.coords t 0).val * 8 + (grid0.coords t 2).val) * 512 + r.1) (hl : l.1 = (grid0.coords t 1).val * 128 + d.1) :
    (iblk m c 0 t : S512x128.Idx → EReal) (ix2 r d) = (V m c main_v3 : S16384x512.Idx → EReal) (ix2 k l) := by
  show (V m c main_v3 : S16384x512.Idx → EReal) (((cfg0.win 0).blk t).view.emb (ix2 r d)) = _
  have h0 : ((((cfg0.win 0).blk t).view.emb (ix2 r d) : S16384x512.Idx) 0).val = k.1 := by blk_simp [idx t]; rw [hk]
  have h1 : ((((cfg0.win 0).blk t).view.emb (ix2 r d) : S16384x512.Idx) 1).val = l.1 := by blk_simp [idx t]; rw [hl]
  exact congrArg _ (funext (Fin.forall_fin_two.2 ⟨Fin.ext h0, Fin.ext h1⟩))

/-- The key block. -/
theorem blk_k (n : Fin 8) (d : Fin 128) (e : Fin 512) (b : Fin 4) (l : Fin 512)
    (hb : b.1 = (grid0.coords t 0).val) (hl : l.1 = (grid0.coords t 1).val * 128 + d.1) :
    (iblk m c 1 t : S1x8x128x512.Idx → EReal) (ix4 0 n d e) = (V m c main_v6 : S4x8x512x512.Idx → EReal) (ix4 b n l e) := by
  blk_ext [iblk, idx t]

/-- The value block. -/
theorem blk_v (n : Fin 8) (d : Fin 128) (e : Fin 512) (b : Fin 4) (l : Fin 512)
    (hb : b.1 = (grid0.coords t 0).val) (hl : l.1 = (grid0.coords t 1).val * 128 + d.1) :
    (iblk m c 2 t : S1x8x128x512.Idx → EReal) (ix4 0 n d e) = (V m c main_v9 : S4x8x512x512.Idx → EReal) (ix4 b n l e) := by
  blk_ext [iblk, idx t]

/-- The block of running sums. -/
theorem blk_c (h n : Fin 8) (e : Fin 512) (b : Fin 4) (hb : b.1 = (grid0.coords t 0).val) :
    (iblk m c 3 t : S1x8x8x512.Idx → EReal) (ix4 0 h n e) = (V m c main_v12 : S4x8x8x512.Idx → EReal) (ix4 b h n e) := by
  show (V m c main_v12 : S4x8x8x512.Idx → EReal) (((cfg0.win 3).blk t).view.emb (ix4 0 h n e)) = _
  have h0 : ((((cfg0.win 3).blk t).view.emb (ix4 0 h n e) : S4x8x8x512.Idx) 0).val = b.1 := by blk_simp [idx t]; rw [hb]; rfl
  have h1 : ((((cfg0.win 3).blk t).view.emb (ix4 0 h n e) : S4x8x8x512.Idx) 1).val = h.1 := by blk_simp [idx t]
  have h2 : ((((cfg0.win 3).blk t).view.emb (ix4 0 h n e) : S4x8x8x512.Idx) 2).val = n.1 := by blk_simp [idx t]
  have h3 : ((((cfg0.win 3).blk t).view.emb (ix4 0 h n e) : S4x8x8x512.Idx) 3).val = e.1 := by blk_simp [idx t]
  exact congrArg _ (funext (Fin.forall_fin_succ.2 ⟨Fin.ext h0, Fin.forall_fin_succ.2 ⟨Fin.ext h1, Fin.forall_fin_two.2 ⟨Fin.ext h2, Fin.ext h3⟩⟩⟩))
end

end Cert.KernelIdeal.Fox
-- ==== Proof.Payloads.lean ====
module

public import proofs.«01_k».proof.Proof.Gen.KernelIdeal.Value
public import Idealize.ShloMosaic.Lib.Pipeline.ValueKit
public import Idealize.ShloMosaic.Lib.Pointwise

/-!
What the kernel's vector expressions are at one index: the masked queries, the scores of a chunk, the new maximum,
the rescaled sums, and the value that is stored. Everything is over the extended reals.
-/

@[expose] public section
set_option maxRecDepth 16384
noncomputable section
open Idealize.ShloMosaic Idealize.ShloMosaic.TcCoe Idealize.SL.Sem
open Idealize.ShloMosaic.Pipeline (Dat)
namespace Cert.KernelIdeal.Fox
open Cert.KernelIdeal Cert.KernelIdeal.Gen

/-- The named constant of the mask is the least extended real. -/
theorem mask_bot : (Named.named (F := Ideal) κ "mask" (φ := .f32) 4048155338#32 : EReal) = ⊥ := rfl

/-- The word of minus infinity. -/
theorem neg_inf : (Ideal.ofBits FTy.f32 4286578688#32 : EReal) = ⊥ := by
  simp [Ideal.ofBits, Ideal.ieee, show (BitVec.extractLsb' 31 1 (4286578688#32 : BitVec 32)) = 1#1 by decide]

/-- A row of scores of one chunk: queries against keys, less the cumulative gate of the key. -/
def scores (q : S512x128.Idx → EReal) (kk : S128x512.Idx → EReal) (ck : Fin 512 → EReal) (r c : Fin 512) : EReal :=
  (∑ d : Fin 128, q (ix2 r d) * kk (ix2 d c)) - ck c

/-- The same, masked above the diagonal. -/
def scoresM (q : S512x128.Idx → EReal) (kk : S128x512.Idx → EReal) (ck : Fin 512 → EReal) (r c : Fin 512) : EReal :=
  if c ≤ r then scores q kk ck r c else ⊥

variable (q : FVec Ideal S512x128 .bf16) (m l : FVec Ideal S512x1 .f32) (a : FVec Ideal S512x128 .f32)
  (k4 v4 : Vec Ideal S1x1x128x512 .bf16) (kk vv : FVec Ideal S128x512 .bf16) (ck : Vec Ideal S1x1x1x512 .f32) (r c : Fin 512) (d : Fin 128)

/-- The keys of a chunk as a matrix. -/
theorem pay2_at (e : Fin 512) : k0_pay2 k4 (ix2 d e) = k4 (ix4 0 0 d e) := by pointwise [k0_pay2]
theorem pay3_at (e : Fin 512) : k0_pay3 k4 (ix2 d e) = k4 (ix4 0 0 d e) := by pointwise [k0_pay3]
theorem pay39_at (e : Fin 512) : k0_pay39 k4 (ix2 d e) = k4 (ix4 0 0 d e) := by pointwise [k0_pay39]
theorem pay40_at (e : Fin 512) : k0_pay40 k4 (ix2 d e) = k4 (ix4 0 0 d e) := by pointwise [k0_pay40]
theorem pay10_at (e : Fin 512) : k0_pay10 ck (ix2 0 e) = ck (ix4 0 0 0 e) := by pointwise [k0_pay10]

/-- The first head's scores in an unmasked chunk. -/
theorem pay4_at : k0_pay4 q k4 ck (ix2 r c) = scores q (k0_pay2 k4) (fun e => ck (ix4 0 0 0 e)) r c := by
  unfold scores
  simp only [pay2_at]
  pointwise [k0_pay4, k0_pay2]

/-- The first head's new maximum. -/
theorem pay5_at : k0_pay5 q m k4 ck (ix2 r 0) =
    max (m (ix2 r 0)) (Finset.univ.fold max (⊥ : EReal) fun c : Fin 512 => k0_pay4 q k4 ck (ix2 r c)) := by
  pointwise [k0_pay5]
  rw [neg_inf]

/-- The first head's new sum of the weights. -/
theorem pay8_at : k0_pay8 q m l k4 ck (ix2 r 0) =
    Ideal.exp (m (ix2 r 0) - k0_pay5 q m k4 ck (ix2 r 0)) * l (ix2 r 0) +
      ∑ c : Fin 512, Ideal.exp (k0_pay4 q k4 ck (ix2 r c) - k0_pay5 q m k4 ck (ix2 r 0)) := by
  pointwise [k0_pay8, k0_pay6, k0_pay7]

/-- The first head's new weighted sum of the values. -/
theorem pay9_at : k0_pay9 q m a k4 v4 ck (ix2 r d) =
    Ideal.exp (m (ix2 r 0) - k0_pay5 q m k4 ck (ix2 r 0)) * a (ix2 r d) +
      ∑ c : Fin 512, Ideal.exp (k0_pay4 q k4 ck (ix2 r c) - k0_pay5 q m k4 ck (ix2 r 0)) * k0_pay3 v4 (ix2 d c) := by
  simp only [pay3_at]
  pointwise [k0_pay9, k0_pay6, k0_pay7, k0_pay3]

/-- The constant the second head's product starts from. -/
abbrev zero512 : FVec Ideal S512x512 .f32 := constant S512x512 .f32 0x00000000#32

/-- The second head's scores in an unmasked chunk. -/
theorem pay27_at : k0_pay27 q kk (k0_pay10 ck) zero512 (ix2 r c) = scores q kk (fun e => ck (ix4 0 0 0 e)) r c := by
  unfold scores
  pointwise [k0_pay27, k0_pay10, zero512]

theorem pay28_at : k0_pay28 q m kk (k0_pay10 ck) zero512 (ix2 r 0) =
    max (m (ix2 r 0)) (Finset.univ.fold max (⊥ : EReal) fun c : Fin 512 => k0_pay27 q kk (k0_pay10 ck) zero512 (ix2 r c)) := by
  pointwise [k0_pay28]
  rw [neg_inf]

theorem pay31_at : k0_pay31 q m l kk (k0_pay10 ck) zero512 (ix2 r 0) =
    Ideal.exp (m (ix2 r 0) - k0_pay28 q m kk (k0_pay10 ck) zero512 (ix2 r 0)) * l (ix2 r 0) +
      ∑ c : Fin 512, Ideal.exp (k0_pay27 q kk (k0_pay10 ck) zero512 (ix2 r c) - k0_pay28 q m kk (k0_pay10 ck) zero512 (ix2 r 0)) := by
  pointwise [k0_pay31, k0_pay29, k0_pay30]

theorem pay32_at : k0_pay32 q m a kk vv (k0_pay10 ck) zero512 (ix2 r d) =
    Ideal.exp (m (ix2 r 0) - k0_pay28 q m kk (k0_pay10 ck) zero512 (ix2 r 0)) * a (ix2 r d) +
      ∑ c : Fin 512, Ideal.exp (k0_pay27 q kk (k0_pay10 ck) zero512 (ix2 r c) - k0_pay28 q m kk (k0_pay10 ck) zero512 (ix2 r 0)) * vv (ix2 d c) := by
  pointwise [k0_pay32, k0_pay29, k0_pay30]

/-- The comparison of the diagonal chunk: the key's column is not beyond the query's row. -/
theorem pay23_at (t : ℕ) (ht : t < 8) : k0_pay23 (BitVec.ofNat 32 t) (ix2 r c) = if c ≤ r then 1#1 else 0#1 := by
  pointwise [k0_pay23]
  have h : Scalar.remsi (BitVec.ofNat 32 t) 1#32 = 0#32 := by
    have : ∀ t : Fin 8, Scalar.remsi (BitVec.ofNat 32 t.1) 1#32 = 0#32 := by decide
    exact this ⟨t, ht⟩
  rw [h]
  have h0 : ∀ x : BitVec 32, IntOp.addi (Scalar.muli
      (Scalar.select (Scalar.andi (Scalar.xori (Scalar.cmpi CmpIPredicate.slt (0#32) (0#32))
        (Scalar.cmpi CmpIPredicate.slt 1#32 (0#32))) (Scalar.cmpi CmpIPredicate.ne (0#32) (0#32)))
        (Scalar.addi (0#32) 1#32) (0#32)) 512#32) x = x := fun x => by
    have : Scalar.muli (Scalar.select (Scalar.andi (Scalar.xori (Scalar.cmpi CmpIPredicate.slt (0#32) (0#32))
        (Scalar.cmpi CmpIPredicate.slt 1#32 (0#32))) (Scalar.cmpi CmpIPredicate.ne (0#32) (0#32)))
        (Scalar.addi (0#32) 1#32) (0#32)) 512#32 = 0#32 := by decide
    rw [this]; exact BitVec.zero_add x
  rw [h0]
  have hr := r.2
  have hc := c.2
  have e : (BitVec.ofNat 32 c.1).sle (BitVec.ofNat 32 r.1) = decide (c ≤ r) := by
    rw [BitVec.sle_eq_decide, BitVec.toInt_eq_toNat_of_lt (by simp; omega), BitVec.toInt_eq_toNat_of_lt (by simp; omega)]
    simp only [BitVec.toNat_ofNat, Nat.mod_eq_of_lt (show c.1 < 2 ^ 32 by omega), Nat.mod_eq_of_lt (show r.1 < 2 ^ 32 by omega)]
    exact decide_eq_decide.2 (by rw [Fin.le_def]; omega)
  simp only [IntOp.cmpi, e]
  by_cases hcr : c ≤ r <;> simp [hcr]

/-- A choice by a bit that is a comparison. -/
theorem select_ite {p : Prop} [Decidable p] (x y : EReal) :
    Scalar.select (if p then 1#1 else 0#1) x y = if p then x else y := by
  by_cases h : p <;> simp [h, Scalar.select]

/-- The first head's scores in the diagonal chunk. -/
theorem pay41_at (t : ℕ) (ht : t < 8) :
    k0_pay41 q (k0_pay23 (BitVec.ofNat 32 t)) kk ck (ix2 r c) = scoresM q kk (fun e => ck (ix4 0 0 0 e)) r c := by
  unfold scoresM scores
  have h := pay23_at r c t ht
  generalize k0_pay23 (BitVec.ofNat 32 t) = w at h
  pointwise [k0_pay41]
  rw [h, mask_bot, select_ite]

theorem pay42_at (w : IVec S512x512 1) : k0_pay42 q w m kk ck (ix2 r 0) =
    max (m (ix2 r 0)) (Finset.univ.fold max (⊥ : EReal) fun c : Fin 512 => k0_pay41 q w kk ck (ix2 r c)) := by
  pointwise [k0_pay42]
  rw [neg_inf]

theorem pay45_at (w : IVec S512x512 1) : k0_pay45 q w m l kk ck (ix2 r 0) =
    Ideal.exp (m (ix2 r 0) - k0_pay42 q w m kk ck (ix2 r 0)) * l (ix2 r 0) +
      ∑ c : Fin 512, Ideal.exp (k0_pay41 q w kk ck (ix2 r c) - k0_pay42 q w m kk ck (ix2 r 0)) := by
  pointwise [k0_pay45, k0_pay43, k0_pay44]

theorem pay46_at (w : IVec S512x512 1) : k0_pay46 q w m a kk vv ck (ix2 r d) =
    Ideal.exp (m (ix2 r 0) - k0_pay42 q w m kk ck (ix2 r 0)) * a (ix2 r d) +
      ∑ c : Fin 512, Ideal.exp (k0_pay41 q w kk ck (ix2 r c) - k0_pay42 q w m kk ck (ix2 r 0)) * vv (ix2 d c) := by
  pointwise [k0_pay46, k0_pay43, k0_pay44]

/-- The second head's scores in the diagonal chunk. -/
theorem pay47_at (t : ℕ) (ht : t < 8) :
    k0_pay47 q (k0_pay23 (BitVec.ofNat 32 t)) kk ck (ix2 r c) = scoresM q kk (fun e => ck (ix4 0 0 0 e)) r c := by
  unfold scoresM scores
  have h := pay23_at r c t ht
  generalize k0_pay23 (BitVec.ofNat 32 t) = w at h
  pointwise [k0_pay47]
  rw [h, mask_bot, select_ite]

theorem pay48_at (w : IVec S512x512 1) : k0_pay48 q w m kk ck (ix2 r 0) =
    max (m (ix2 r 0)) (Finset.univ.fold max (⊥ : EReal) fun c : Fin 512 => k0_pay47 q w kk ck (ix2 r c)) := by
  pointwise [k0_pay48]
  rw [neg_inf]

/-- The factor by which the second head's sums are rescaled, and the weights of the diagonal chunk. -/
theorem pay49_at (w : IVec S512x512 1) : k0_pay49 q w m kk ck (ix2 r 0) =
    Ideal.exp (m (ix2 r 0) - k0_pay48 q w m kk ck (ix2 r 0)) := by pointwise [k0_pay49]
theorem pay50_at (w : IVec S512x512 1) : k0_pay50 q w m kk ck (ix2 r c) =
    Ideal.exp (k0_pay47 q w kk ck (ix2 r c) - k0_pay48 q w m kk ck (ix2 r 0)) := by pointwise [k0_pay50]

/-- A comparison of a lane with 64. -/
theorem lane_lt : IntOp.cmpi CmpIPredicate.slt (BitVec.ofNat 32 d.1) 64#32 = if d.1 < 64 then 1#1 else 0#1 := by
  revert d; decide

/-- The value stored: the first head's quotient in the first 64 lanes, the second head's in the others. -/
theorem pay1_at (l2 : FVec Ideal S512x1 .f32) (a2 : FVec Ideal S512x128 .f32) (al : FVec Ideal S512x1 .f32) (p : FVec Ideal S512x512 .f32) :
    k0_pay1 l2 a2 vv l a al p (ix2 r d) =
      if d.1 < 64 then Ideal.div (a (ix2 r d)) (l (ix2 r 0)) else
        Ideal.div (al (ix2 r 0) * a2 (ix2 r d) + ∑ c : Fin 512, p (ix2 r c) * vv (ix2 d c))
          (al (ix2 r 0) * l2 (ix2 r 0) + ∑ c : Fin 512, p (ix2 r c)) := by
  pointwise [k0_pay1]
  rw [lane_lt, select_ite]

/-- The first head's queries: the lanes of the second head are zeroed. -/
theorem pay21_at (x : Vec Ideal S512x128 .bf16) : k0_pay21 x (ix2 r d) = x (ix2 r d) * (if d.1 < 64 then 1 else 0 : EReal) := by
  pointwise [k0_pay21, k0_pay20]
  have e : IntOp.andi (IntOp.cmpi CmpIPredicate.sge (BitVec.ofNat 32 d.1) 0#32) (IntOp.cmpi CmpIPredicate.slt (BitVec.ofNat 32 d.1) 64#32) = if d.1 < 64 then 1#1 else 0#1 := by
    revert d; decide
  rw [e, select_ite]
  split <;> simp

/-- The second head's queries: the lanes of the first head are zeroed. -/
theorem pay22_at (x : Vec Ideal S512x128 .bf16) : k0_pay22 x (ix2 r d) = x (ix2 r d) * (if d.1 < 64 then 0 else 1 : EReal) := by
  pointwise [k0_pay22, k0_pay20]
  have e : IntOp.andi (IntOp.cmpi CmpIPredicate.sge (BitVec.ofNat 32 d.1) 64#32) (IntOp.cmpi CmpIPredicate.slt (BitVec.ofNat 32 d.1) 128#32) = if d.1 < 64 then 0#1 else 1#1 := by
    revert d; decide
  rw [e]
  by_cases h : d.1 < 64 <;> simp [h, Scalar.select]

/-- The state before the first chunk. -/
theorem pay24_at : k0_pay24 (F := Ideal) (ix2 r 0) = (⊥ : EReal) := by pointwise [k0_pay24]; exact mask_bot
theorem pay25_at : k0_pay25 (F := Ideal) (ix2 r 0) = (0 : EReal) := by pointwise [k0_pay25]
theorem pay26_at : k0_pay26 (F := Ideal) (ix2 r d) = (0 : EReal) := by pointwise [k0_pay26]

end Cert.KernelIdeal.Fox
end
-- ==== Proof.Heads.lean ====
module

public import proofs.«01_k».proof.Proof.Payloads
public import proofs.«01_k».proof.Proof.Online

/-!
One head's running state, one chunk further: the kernel's vector expressions satisfy the step of the running softmax.
The first two theorems are for a chunk below the diagonal, the last two for the chunk of the diagonal.
-/

@[expose] public section
set_option maxRecDepth 16384
noncomputable section
open Idealize.ShloMosaic Idealize.ShloMosaic.TcCoe Idealize.SL.Sem
namespace Cert.KernelIdeal.Fox
open Cert.KernelIdeal Cert.KernelIdeal.Gen Cert.Fox

/-- The scores of row `r` of the query block `t`, by chunk and column: a key after the query is masked. -/
def zrow (q : S512x128.Idx → EReal) (K : ℕ → S128x512.Idx → EReal) (C : ℕ → Fin 512 → EReal) (t : ℕ) (r : Fin 512)
    (j : ℕ) (c : Fin 512) : EReal :=
  if j < t then scores q (K j) (C j) r c else if j = t then scoresM q (K j) (C j) r c else ⊥

/-- The values of lane `d`, by chunk and column. -/
def vrow (V : ℕ → S128x512.Idx → EReal) (d : Fin 128) (j : ℕ) (c : Fin 512) : EReal := V j (ix2 d c)

/-- Every score of the row is a real number. -/
def RealRow (q : S512x128.Idx → EReal) (K : ℕ → S128x512.Idx → EReal) (C : ℕ → Fin 512 → EReal) (t : ℕ) (r : Fin 512) : Prop :=
  ∀ j ≤ t, ∀ c, ∃ x : ℝ, scores q (K j) (C j) r c = (x : EReal)

section
variable {q : FVec Ideal S512x128 .bf16} {K : ℕ → S128x512.Idx → EReal} {C : ℕ → Fin 512 → EReal} {V : ℕ → S128x512.Idx → EReal}
  {t n : ℕ} {r : Fin 512} (d : Fin 128)

/-- No score up to the diagonal chunk is `⊤`. -/
theorem zrow_ne_top (h : RealRow q K C t r) (j : ℕ) (hj : j ≤ t) (c : Fin 512) : zrow q K C t r j c ≠ ⊤ := by
  obtain ⟨x, hx⟩ := h j hj c
  unfold zrow scoresM
  rw [hx]
  split
  · exact EReal.coe_ne_top x
  · split
    · split
      · exact EReal.coe_ne_top x
      · exact bot_ne_top
    · exact bot_ne_top

/-- In each chunk up to the diagonal the first column's score is not masked. -/
theorem zrow_ne_bot (h : RealRow q K C t r) (j : ℕ) (hj : j ≤ t) : ∃ c, zrow q K C t r j c ≠ ⊥ := by
  refine ⟨0, ?_⟩
  obtain ⟨x, hx⟩ := h j hj 0
  unfold zrow scoresM
  rw [hx]
  rcases hj.lt_or_eq with hlt | heq
  · rw [if_pos hlt]; exact EReal.coe_ne_bot x
  · rw [if_neg (by omega), if_pos heq, if_pos (Fin.zero_le r)]; exact EReal.coe_ne_bot x

theorem zrow_below (hn : n < t) (c : Fin 512) : zrow q K C t r n c = scores q (K n) (C n) r c := by
  unfold zrow; rw [if_pos hn]

theorem zrow_diag (c : Fin 512) : zrow q K C t r t c = scoresM q (K t) (C t) r c := by
  unfold zrow; rw [if_neg (lt_irrefl t), if_pos rfl]

/-- The first head in a chunk below the diagonal. -/
theorem head0_below {m l : FVec Ideal S512x1 .f32} {a : FVec Ideal S512x128 .f32} {k4 v4 : Vec Ideal S1x1x128x512 .bf16} {ck : Vec Ideal S1x1x1x512 .f32}
    (hK : k0_pay2 k4 = K n) (hV : k0_pay3 v4 = V n) (hC : ∀ e, ck (ix4 0 0 0 e) = C n e) (hR : RealRow q K C t r) (hn : n < t)
    (h : Inv (zrow q K C t r) (vrow V d) n (m (ix2 r 0)) (l (ix2 r 0)) (a (ix2 r d))) :
    Inv (zrow q K C t r) (vrow V d) (n + 1) (k0_pay5 q m k4 ck (ix2 r 0)) (k0_pay8 q m l k4 ck (ix2 r 0)) (k0_pay9 q m a k4 v4 ck (ix2 r d)) := by
  have hz : ∀ c, k0_pay4 q k4 ck (ix2 r c) = zrow q K C t r n c := fun c => by
    rw [pay4_at, hK, zrow_below hn]; simp only [hC]
  refine h.step (fun j hj => zrow_ne_top hR j (by omega)) (zrow_ne_bot hR n hn.le) ?_ ?_ ?_
  · rw [pay5_at]; simp only [hz]
  · rw [pay8_at]; simp only [hz]
  · rw [pay9_at, hV]; simp only [hz]; rfl

/-- The second head in a chunk below the diagonal. -/
theorem head1_below {m l : FVec Ideal S512x1 .f32} {a : FVec Ideal S512x128 .f32} {k4 v4 : Vec Ideal S1x1x128x512 .bf16} {ck : Vec Ideal S1x1x1x512 .f32}
    (hK : k0_pay2 k4 = K n) (hV : k0_pay3 v4 = V n) (hC : ∀ e, ck (ix4 0 0 0 e) = C n e) (hR : RealRow q K C t r) (hn : n < t)
    (h : Inv (zrow q K C t r) (vrow V d) n (m (ix2 r 0)) (l (ix2 r 0)) (a (ix2 r d))) :
    Inv (zrow q K C t r) (vrow V d) (n + 1) (k0_pay28 q m (k0_pay2 k4) (k0_pay10 ck) zero512 (ix2 r 0))
      (k0_pay31 q m l (k0_pay2 k4) (k0_pay10 ck) zero512 (ix2 r 0)) (k0_pay32 q m a (k0_pay2 k4) (k0_pay3 v4) (k0_pay10 ck) zero512 (ix2 r d)) := by
  have hz : ∀ c, k0_pay27 q (k0_pay2 k4) (k0_pay10 ck) zero512 (ix2 r c) = zrow q K C t r n c := fun c => by
    rw [pay27_at, hK, zrow_below hn]; simp only [hC]
  refine h.step (fun j hj => zrow_ne_top hR j (by omega)) (zrow_ne_bot hR n hn.le) ?_ ?_ ?_
  · rw [pay28_at]; simp only [hz]
  · rw [pay31_at]; simp only [hz]
  · rw [pay32_at, hV]; simp only [hz]; rfl

/-- The first head in the chunk of the diagonal. -/
theorem head0_diag {m l : FVec Ideal S512x1 .f32} {a : FVec Ideal S512x128 .f32} {kk vv : FVec Ideal S128x512 .bf16} {ck : Vec Ideal S1x1x1x512 .f32}
    (ht : t < 8) (hK : kk = K t) (hV : vv = V t) (hC : ∀ e, ck (ix4 0 0 0 e) = C t e) (hR : RealRow q K C t r)
    (h : Inv (zrow q K C t r) (vrow V d) t (m (ix2 r 0)) (l (ix2 r 0)) (a (ix2 r d))) :
    Inv (zrow q K C t r) (vrow V d) (t + 1) (k0_pay42 q (k0_pay23 (BitVec.ofNat 32 t)) m kk ck (ix2 r 0))
      (k0_pay45 q (k0_pay23 (BitVec.ofNat 32 t)) m l kk ck (ix2 r 0)) (k0_pay46 q (k0_pay23 (BitVec.ofNat 32 t)) m a kk vv ck (ix2 r d)) := by
  have hz : ∀ c, k0_pay41 q (k0_pay23 (BitVec.ofNat 32 t)) kk ck (ix2 r c) = zrow q K C t r t c := fun c => by
    rw [pay41_at _ _ _ _ _ t ht, hK, zrow_diag]; simp only [hC]
  refine h.step (fun j hj => zrow_ne_top hR j hj) (zrow_ne_bot hR t le_rfl) ?_ ?_ ?_
  · rw [pay42_at]; simp only [hz]
  · rw [pay45_at]; simp only [hz]
  · rw [pay46_at, hV]; simp only [hz]; rfl

/-- The second head in the chunk of the diagonal: its sums as the store computes them. -/
theorem head1_diag {m l : FVec Ideal S512x1 .f32} {a : FVec Ideal S512x128 .f32} {kk vv : FVec Ideal S128x512 .bf16} {ck : Vec Ideal S1x1x1x512 .f32}
    (ht : t < 8) (hK : kk = K t) (hV : vv = V t) (hC : ∀ e, ck (ix4 0 0 0 e) = C t e) (hR : RealRow q K C t r)
    (h : Inv (zrow q K C t r) (vrow V d) t (m (ix2 r 0)) (l (ix2 r 0)) (a (ix2 r d))) :
    Inv (zrow q K C t r) (vrow V d) (t + 1) (k0_pay48 q (k0_pay23 (BitVec.ofNat 32 t)) m kk ck (ix2 r 0))
      (k0_pay49 q (k0_pay23 (BitVec.ofNat 32 t)) m kk ck (ix2 r 0) * l (ix2 r 0) + ∑ c : Fin 512, k0_pay50 q (k0_pay23 (BitVec.ofNat 32 t)) m kk ck (ix2 r c))
      (k0_pay49 q (k0_pay23 (BitVec.ofNat 32 t)) m kk ck (ix2 r 0) * a (ix2 r d) +
        ∑ c : Fin 512, k0_pay50 q (k0_pay23 (BitVec.ofNat 32 t)) m kk ck (ix2 r c) * vv (ix2 d c)) := by
  have hz : ∀ c, k0_pay47 q (k0_pay23 (BitVec.ofNat 32 t)) kk ck (ix2 r c) = zrow q K C t r t c := fun c => by
    rw [pay47_at _ _ _ _ _ t ht, hK, zrow_diag]; simp only [hC]
  refine h.step (fun j hj => zrow_ne_top hR j hj) (zrow_ne_bot hR t le_rfl) ?_ ?_ ?_
  · rw [pay48_at]; simp only [hz]
  · rw [pay49_at]; simp only [pay50_at, hz]
  · rw [pay49_at, hV]; simp only [pay50_at, hz]; rfl

/-- What the quotient is after the diagonal chunk: the softmax average over all eight chunks, at any shift. -/
theorem head_final {m l a : EReal} (ht : t < 8) (hR : RealRow q K C t r) (h : Inv (zrow q K C t r) (vrow V d) (t + 1) m l a) (M' : ℝ) :
    Ideal.div a l = ∑ j ∈ Finset.range 8, ∑ c, vrow V d j c * Ideal.div (wt (zrow q K C t r j c) M') (den (zrow q K C t r) 8 M') := by
  refine h.final_extend (Nat.succ_ne_zero t) (by omega) (fun j hj => zrow_ne_top hR j (by omega)) ⟨t, by omega, zrow_ne_bot hR t le_rfl⟩ ?_ M'
  intro j hj _ c
  unfold zrow
  rw [if_neg (by omega), if_neg (by omega)]
end

end Cert.KernelIdeal.Fox
end
-- ==== Proof.Trip.lean ====
module

public import proofs.«01_k».proof.Proof.Heads

/-!
The counted loop over the chunks below the diagonal: where its loads read, how many trips it makes, and the invariant
that both heads' running states satisfy before each trip.
-/

@[expose] public section
set_option maxRecDepth 16384
noncomputable section
open Idealize.ShloMosaic Idealize.ShloMosaic.TcCoe Idealize.SL.Sem
namespace Cert.KernelIdeal.Fox
open Cert.KernelIdeal Cert.KernelIdeal.Gen Cert.Fox

/-- The first loop makes one trip for each chunk below the query block's; the second makes none. -/
theorem trips1 : ∀ i : grid0.Coords, (k0_t1_loop i).trips = (i 2).val := by decide +kernel
theorem trips2 : ∀ i : grid0.Coords, (k0_t2_loop i).trips = 0 := by decide +kernel
/-- The offsets of the loads. -/
theorem off1 : ∀ i : grid0.Coords, ∀ k : Fin (k0_t1_loop i).trips, k0_off1 i k = ![0, k.val, 0, 0] := by decide +kernel
theorem off2 : ∀ i : grid0.Coords, ∀ k : Fin (k0_t1_loop i).trips, ∀ h : Fin 2,
    k0_off2 i k (BitVec.ofNat 32 h.1) = ![0, 2 * (i 1).val + h.1, k.val, 0] := by decide +kernel
theorem off5 : ∀ i : grid0.Coords, k0_off5 i = ![0, (i 2).val, 0, 0] := by decide +kernel
theorem off6 : ∀ i : grid0.Coords, ∀ h : Fin 2,
    k0_off6 i (BitVec.ofNat 32 h.1) = ![0, 2 * (i 1).val + h.1, (i 2).val, 0] := by decide +kernel

/-- Chunk `n` of a block of keys or values, as a matrix of lanes by columns. -/
def kc (x : Vec Ideal S1x8x128x512 .bf16) (n : ℕ) (y : S128x512.Idx) : EReal :=
  if h : n < 8 then x (ix4 0 ⟨n, h⟩ (y 0) (y 1)) else 0

/-- Chunk `n` of head `h`'s cumulative gates. -/
def cc (x : Vec Ideal S1x8x8x512 .f32) (h n : ℕ) (e : Fin 512) : EReal :=
  if hh : h < 8 ∧ n < 8 then x (ix4 0 ⟨h, hh.1⟩ ⟨n, hh.2⟩ e) else 0

/-- A load of one chunk of keys or values. -/
theorem ld_kc (x : Vec Ideal S1x8x128x512 .bf16) (n : ℕ) (hn : n < 8) (off : Fin 4 → ℕ) (ho : off = ![0, n, 0, 0])
    (inb : ∀ a, off a + S1x1x128x512.size a ≤ S1x8x128x512.size a) (d : Fin 128) (e : Fin 512) :
    View.ld (S := S1x8x128x512) x (Rect.unit off S1x1x128x512.size inb) (ix4 0 0 d e) = kc x n (ix2 d e) := by
  subst ho
  unfold kc
  rw [dif_pos hn]
  refine View.ld_unit_apply_of x _ _ _ _ _ fun a => ?_
  fin_cases a <;> simp

/-- A load of one chunk of a head's cumulative gates. -/
theorem ld_cc (x : Vec Ideal S1x8x8x512 .f32) (h n : ℕ) (hh : h < 8) (hn : n < 8) (off : Fin 4 → ℕ) (ho : off = ![0, h, n, 0])
    (inb : ∀ a, off a + S1x1x1x512.size a ≤ S1x8x8x512.size a) (e : Fin 512) :
    View.ld (S := S1x8x8x512) x (Rect.unit off S1x1x1x512.size inb) (ix4 0 0 0 e) = cc x h n e := by
  subst ho
  unfold cc
  rw [dif_pos ⟨hh, hn⟩]
  refine View.ld_unit_apply_of x _ _ _ _ _ fun a => ?_
  fin_cases a <;> simp

/-- The six arrays a trip carries: per head the maximum, the sum of the weights, the weighted sum of the values. -/
abbrev Carry : Type := FVec Ideal S512x1 .f32 × FVec Ideal S512x1 .f32 × FVec Ideal S512x128 .f32 ×
  FVec Ideal S512x1 .f32 × FVec Ideal S512x1 .f32 × FVec Ideal S512x128 .f32

/-- One trip, from what it loads. -/
def stepV (q0 q1 : FVec Ideal S512x128 .bf16) (k4 v4 : Vec Ideal S1x1x128x512 .bf16) (c0 c1 : Vec Ideal S1x1x1x512 .f32) (s : Carry) : Carry :=
  (k0_pay5 q0 s.1 k4 c0, k0_pay8 q0 s.1 s.2.1 k4 c0, k0_pay9 q0 s.1 s.2.2.1 k4 v4 c0,
    k0_pay28 q1 s.2.2.2.1 (k0_pay2 k4) (k0_pay10 c1) zero512, k0_pay31 q1 s.2.2.2.1 s.2.2.2.2.1 (k0_pay2 k4) (k0_pay10 c1) zero512,
    k0_pay32 q1 s.2.2.2.1 s.2.2.2.2.2 (k0_pay2 k4) (k0_pay3 v4) (k0_pay10 c1) zero512)

variable (bd : Option Variants.none.V) (c : Dev nD) (i : grid0.Coords) (arg3 : Memref sig .tc .vmem S512x128 .bf16) (harg3 : arg3.IsWhole) (arg4 : Memref sig .tc .vmem S1x8x128x512 .bf16) (harg4 : arg4.IsWhole) (arg5 : Memref sig .tc .vmem S1x8x128x512 .bf16) (harg5 : arg5.IsWhole) (arg6 : Memref sig .tc .vmem S1x8x8x512 .f32) (harg6 : arg6.IsWhole) (arg7 : Memref sig .tc .vmem S512x128 .bf16) (harg7 : arg7.IsWhole)
    (x0 : Vec Ideal S512x128 .bf16) (x1 : Vec Ideal S1x8x128x512 .bf16) (x2 : Vec Ideal S1x8x128x512 .bf16) (x3 : Vec Ideal S1x8x8x512 .f32)
    (a1 a2 : BitVec 32) (q0 q1 : FVec Ideal S512x128 .bf16) (w26 : BitVec 32) (w40 : BitVec 1)

/-- A trip of the kernel's loop is that step, on the loads of the trip's chunk. -/
theorem trip_eq (k : Fin (k0_t1_loop i).trips) (s : Carry) :
    tripR_k0_t1 (F := Ideal) Variants.none c bd i arg3 harg3 arg4 harg4 arg5 harg5 arg6 harg6 arg7 harg7 a1 a2 q0 q1 w26 w40 (harg4.unread x1) (harg5.unread x2) (harg6.unread x3) k s
      = stepV q0 q1
          (View.ld x1 (Rect.unit (s := S1x8x128x512) (k0_off1 i k) S1x1x128x512.size (k0_off1_inb i k)))
          (View.ld x2 (Rect.unit (s := S1x8x128x512) (k0_off1 i k) S1x1x128x512.size (k0_off1_inb i k)))
          (View.ld x3 (Rect.unit (s := S1x8x8x512) (k0_off2 i k 0#32) S1x1x1x512.size (k0_off2_inb i k 0)))
          (View.ld x3 (Rect.unit (s := S1x8x8x512) (k0_off2 i k 1#32) S1x1x1x512.size (k0_off2_inb i k 1))) s := by
  have e4 : ∀ rc, View.ld x1 rc = View.readAt (Elt Ideal) arg4.view rc.toLoadRect (harg4.unread x1) := fun rc => by
    rw [View.readAt_eq_ld, harg4.read_unread]
  have e5 : ∀ rc, View.ld x2 rc = View.readAt (Elt Ideal) arg5.view rc.toLoadRect (harg5.unread x2) := fun rc => by
    rw [View.readAt_eq_ld, harg5.read_unread]
  have e6 : ∀ rc, View.ld x3 rc = View.readAt (Elt Ideal) arg6.view rc.toLoadRect (harg6.unread x3) := fun rc => by
    rw [View.readAt_eq_ld, harg6.read_unread]
  rw [e4, e5, e6, e6]
  unfold tripR_k0_t1 trip_k0_t1
  rfl

/-- Before trip `n` the first head's state has taken in the chunks `0 … n-1`, and so has the second head's. -/
theorem loop_inv (r : Fin 512) (d : Fin 128)
    (h0 : RealRow q0 (kc x1) (cc x3 (2 * (i 1).val)) (i 2).val r) (h1 : RealRow q1 (kc x1) (cc x3 (2 * (i 1).val + 1)) (i 2).val r)
    (n : ℕ) (hn : n ≤ (i 2).val) :
    Inv (zrow q0 (kc x1) (cc x3 (2 * (i 1).val)) (i 2).val r) (vrow (kc x2) d) n
      ((st_k0_t1 (F := Ideal) Variants.none c bd i arg3 harg3 arg4 harg4 arg5 harg5 arg6 harg6 arg7 harg7 a1 a2 q0 q1 w26 w40 (harg4.unread x1) (harg5.unread x2) (harg6.unread x3) (k0_pay24, k0_pay25, k0_pay26, k0_pay24, k0_pay25, k0_pay26) n).1 (ix2 r 0))
      ((st_k0_t1 (F := Ideal) Variants.none c bd i arg3 harg3 arg4 harg4 arg5 harg5 arg6 harg6 arg7 harg7 a1 a2 q0 q1 w26 w40 (harg4.unread x1) (harg5.unread x2) (harg6.unread x3) (k0_pay24, k0_pay25, k0_pay26, k0_pay24, k0_pay25, k0_pay26) n).2.1 (ix2 r 0))
      ((st_k0_t1 (F := Ideal) Variants.none c bd i arg3 harg3 arg4 harg4 arg5 harg5 arg6 harg6 arg7 harg7 a1 a2 q0 q1 w26 w40 (harg4.unread x1) (harg5.unread x2) (harg6.unread x3) (k0_pay24, k0_pay25, k0_pay26, k0_pay24, k0_pay25, k0_pay26) n).2.2.1 (ix2 r d))
    ∧ Inv (zrow q1 (kc x1) (cc x3 (2 * (i 1).val + 1)) (i 2).val r) (vrow (kc x2) d) n
      ((st_k0_t1 (F := Ideal) Variants.none c bd i arg3 harg3 arg4 harg4 arg5 harg5 arg6 harg6 arg7 harg7 a1 a2 q0 q1 w26 w40 (harg4.unread x1) (harg5.unread x2) (harg6.unread x3) (k0_pay24, k0_pay25, k0_pay26, k0_pay24, k0_pay25, k0_pay26) n).2.2.2.1 (ix2 r 0))
      ((st_k0_t1 (F := Ideal) Variants.none c bd i arg3 harg3 arg4 harg4 arg5 harg5 arg6 harg6 arg7 harg7 a1 a2 q0 q1 w26 w40 (harg4.unread x1) (harg5.unread x2) (harg6.unread x3) (k0_pay24, k0_pay25, k0_pay26, k0_pay24, k0_pay25, k0_pay26) n).2.2.2.2.1 (ix2 r 0))
      ((st_k0_t1 (F := Ideal) Variants.none c bd i arg3 harg3 arg4 harg4 arg5 harg5 arg6 harg6 arg7 harg7 a1 a2 q0 q1 w26 w40 (harg4.unread x1) (harg5.unread x2) (harg6.unread x3) (k0_pay24, k0_pay25, k0_pay26, k0_pay24, k0_pay25, k0_pay26) n).2.2.2.2.2 (ix2 r d)) := by
  have hi1 : (i 1).val < 4 := (i 1).isLt
  have hi2 : (i 2).val < 8 := (i 2).isLt
  induction n with
  | zero =>
    rw [st_k0_t1_zero]
    exact ⟨.inl ⟨rfl, pay24_at r, pay25_at r, pay26_at r d⟩, .inl ⟨rfl, pay24_at r, pay25_at r, pay26_at r d⟩⟩
  | succ n ih =>
    have hk : n < (k0_t1_loop i).trips := by rw [trips1]; omega
    have hs := st_k0_t1_succ (F := Ideal) Variants.none c bd i arg3 harg3 arg4 harg4 arg5 harg5 arg6 harg6 arg7 harg7 a1 a2 q0 q1 w26 w40 (harg4.unread x1) (harg5.unread x2) (harg6.unread x3) (k0_pay24, k0_pay25, k0_pay26, k0_pay24, k0_pay25, k0_pay26) ⟨n, hk⟩
    rw [trip_eq] at hs
    dsimp only at hs
    obtain ⟨i0, i1⟩ := ih (by omega)
    rw [hs]
    have hn8 : n < 8 := by omega
    have hK : k0_pay2 (View.ld x1 (Rect.unit (s := S1x8x128x512) (k0_off1 i ⟨n, hk⟩) S1x1x128x512.size (k0_off1_inb i ⟨n, hk⟩))) = kc x1 n := by
      funext y
      obtain ⟨d', e, rfl⟩ : ∃ d' e, y = ix2 d' e := ⟨y 0, y 1, eq_ix2 y⟩
      rw [pay2_at]; exact ld_kc x1 n hn8 _ (off1 i ⟨n, hk⟩) _ d' e
    have hV : k0_pay3 (View.ld x2 (Rect.unit (s := S1x8x128x512) (k0_off1 i ⟨n, hk⟩) S1x1x128x512.size (k0_off1_inb i ⟨n, hk⟩))) = kc x2 n := by
      funext y
      obtain ⟨d', e, rfl⟩ : ∃ d' e, y = ix2 d' e := ⟨y 0, y 1, eq_ix2 y⟩
      rw [pay3_at]; exact ld_kc x2 n hn8 _ (off1 i ⟨n, hk⟩) _ d' e
    exact ⟨head0_below d hK hV (fun e => ld_cc x3 (2 * (i 1).val) n (by omega) hn8 _ (off2 i ⟨n, hk⟩ 0) _ e) h0 (by omega) i0,
      head1_below d hK hV (fun e => ld_cc x3 (2 * (i 1).val + 1) n (by omega) hn8 _ (off2 i ⟨n, hk⟩ 1) _ e) h1 (by omega) i1⟩

end Cert.KernelIdeal.Fox
end
-- ==== Proof.Block.lean ====
module

public import proofs.«01_k».proof.Proof.Trip

/-!
What one grid point stores: at row `r` and lane `d` the softmax average of the values, for the head the lane belongs to.
-/

@[expose] public section
set_option maxRecDepth 16384
noncomputable section
open Idealize.ShloMosaic Idealize.ShloMosaic.TcCoe Idealize.SL.Sem
namespace Cert.KernelIdeal.Fox
open Cert.KernelIdeal Cert.KernelIdeal.Gen Cert.Fox

/-- The store's value from the state `s` after the loops and the loads of the diagonal chunk. -/
def storeV (w : IVec S512x512 1) (q0 q1 : FVec Ideal S512x128 .bf16) (k4 v4 : Vec Ideal S1x1x128x512 .bf16) (c0 c1 : Vec Ideal S1x1x1x512 .f32) (s : Carry) :
    FVec Ideal S512x128 .bf16 :=
  k0_pay1 s.2.2.2.2.1 s.2.2.2.2.2 (k0_pay40 v4) (k0_pay45 q0 w s.1 s.2.1 (k0_pay39 k4) c0) (k0_pay46 q0 w s.1 s.2.2.1 (k0_pay39 k4) (k0_pay40 v4) c0)
    (k0_pay49 q1 w s.2.2.2.1 (k0_pay39 k4) c1) (k0_pay50 q1 w s.2.2.2.1 (k0_pay39 k4) c1)

variable (c : Dev nD) (i : grid0.Coords) (arg3 : Memref sig .tc .vmem S512x128 .bf16) (harg3 : arg3.IsWhole) (arg4 : Memref sig .tc .vmem S1x8x128x512 .bf16) (harg4 : arg4.IsWhole) (arg5 : Memref sig .tc .vmem S1x8x128x512 .bf16) (harg5 : arg5.IsWhole) (arg6 : Memref sig .tc .vmem S1x8x8x512 .f32) (harg6 : arg6.IsWhole) (arg7 : Memref sig .tc .vmem S512x128 .bf16) (harg7 : arg7.IsWhole)
    (x0 : Vec Ideal S512x128 .bf16) (x1 : Vec Ideal S1x8x128x512 .bf16) (x2 : Vec Ideal S1x8x128x512 .bf16) (x3 : Vec Ideal S1x8x8x512 .f32)

/-- The point's output block is that store, on the state after the first loop. -/
theorem out_eq : ∃ a1 a2 w26 w40,
    out0_A_4 c i arg3 harg3 arg4 harg4 arg5 harg5 arg6 harg6 arg7 harg7 x0 x1 x2 x3
      = storeV (k0_pay23 (BitVec.ofNat 32 (i 2).val)) (k0_pay21 x0) (k0_pay22 x0)
          (View.ld x1 (Rect.unit (s := S1x8x128x512) (k0_off5 i) S1x1x128x512.size (k0_off5_inb i)))
          (View.ld x2 (Rect.unit (s := S1x8x128x512) (k0_off5 i) S1x1x128x512.size (k0_off5_inb i)))
          (View.ld x3 (Rect.unit (s := S1x8x8x512) (k0_off6 i 0#32) S1x1x1x512.size (k0_off6_inb i 0)))
          (View.ld x3 (Rect.unit (s := S1x8x8x512) (k0_off6 i 1#32) S1x1x1x512.size (k0_off6_inb i 1)))
          (st_k0_t1 (F := Ideal) Variants.none c none i arg3 harg3 arg4 harg4 arg5 harg5 arg6 harg6 arg7 harg7 a1 a2 (k0_pay21 x0) (k0_pay22 x0) w26 w40
            (harg4.unread x1) (harg5.unread x2) (harg6.unread x3) (k0_pay24, k0_pay25, k0_pay26, k0_pay24, k0_pay25, k0_pay26) (i 2).val) := by
  have e3 : View.readAt (Elt Ideal) arg3.view (Rect.unit (s := S512x128) ![0, 0] S512x128.size inb_S512x128_S512x128_0_0).toLoadRect (harg3.unread x0) = x0 := by
    rw [View.readAt_eq_ld, harg3.read_unread]; exact View.ld_unit_zero (by decide) _ _
  have e4 : ∀ rc, View.ld x1 rc = View.readAt (Elt Ideal) arg4.view rc.toLoadRect (harg4.unread x1) := fun rc => by
    rw [View.readAt_eq_ld, harg4.read_unread]
  have e5 : ∀ rc, View.ld x2 rc = View.readAt (Elt Ideal) arg5.view rc.toLoadRect (harg5.unread x2) := fun rc => by
    rw [View.readAt_eq_ld, harg5.read_unread]
  have e6 : ∀ rc, View.ld x3 rc = View.readAt (Elt Ideal) arg6.view rc.toLoadRect (harg6.unread x3) := fun rc => by
    rw [View.readAt_eq_ld, harg6.read_unread]
  have ez : ∀ a1 a2 v13 v25 w26 w40 w66 init n, n = 0 → st_k0_t2 (F := Ideal) Variants.none c none i arg3 harg3 arg4 harg4 arg5 harg5 arg6 harg6 arg7 harg7 a1 a2 v13 v25 w26 w40 w66
      (harg4.unread x1) (harg5.unread x2) (harg6.unread x3) init n = init := by
    intros _ _ _ _ _ _ _ _ _ h; rw [h, st_k0_t2_zero]
  have en : ∀ a1 a2 v13 v25 w26 w40 init n, n = (i 2).val → st_k0_t1 (F := Ideal) Variants.none c none i arg3 harg3 arg4 harg4 arg5 harg5 arg6 harg6 arg7 harg7 a1 a2 v13 v25 w26 w40
      (harg4.unread x1) (harg5.unread x2) (harg6.unread x3) init n = st_k0_t1 (F := Ideal) Variants.none c none i arg3 harg3 arg4 harg4 arg5 harg5 arg6 harg6 arg7 harg7 a1 a2 v13 v25 w26 w40
      (harg4.unread x1) (harg5.unread x2) (harg6.unread x3) init (i 2).val := by
    intros _ _ _ _ _ _ _ _ h; rw [h]
  refine ⟨BitVec.ofNat 32 (i 1).val, BitVec.ofNat 32 (i 2).val, ?_, ?_, ?_⟩
  rotate_left 2
  · funext y
    unfold out0_A_4
    rw [View.read_writes_eq_canon _ _ _ (cover0_A_4 c i arg3 harg3 arg4 harg4 arg5 harg5 arg6 harg6 arg7 harg7 x0 x1 x2 x3)]
    unfold kernelRun0_A
    dsimp only
    rw [View.canon_unit_zero (by decide), e4, e5, e6, e6]
    sl_unfold_words
    rw [ez]
    rotate_left
    · exact trips2 i
    dsimp only
    rw [en]
    rotate_left
    · exact trips1 i
    rw [View.readAt_eq_ld arg3.view, harg3.read_unread, View.ld_unit_zero (S := S512x128) (by decide)]
    rfl

/-- A row of the point's scores: row `r`, with the queries of the head that lane `d` belongs to. -/
def zblk (i : grid0.Coords) (d : Fin 128) (r : Fin 512) : ℕ → Fin 512 → EReal :=
  zrow (if d.1 < 64 then k0_pay21 x0 else k0_pay22 x0) (kc x1) (cc x3 (2 * (i 1).val + d.1 / 64)) (i 2).val r

/-- The stored value at row `r` and lane `d` is the softmax average of the values, at any shift. -/
theorem block_at (r : Fin 512) (d : Fin 128)
    (h0 : RealRow (k0_pay21 x0) (kc x1) (cc x3 (2 * (i 1).val)) (i 2).val r) (h1 : RealRow (k0_pay22 x0) (kc x1) (cc x3 (2 * (i 1).val + 1)) (i 2).val r)
    (M' : ℝ) :
    out0_A_4 c i arg3 harg3 arg4 harg4 arg5 harg5 arg6 harg6 arg7 harg7 x0 x1 x2 x3 (ix2 r d)
      = ∑ j ∈ Finset.range 8, ∑ e, vrow (kc x2) d j e *
          Ideal.div (wt (zblk x0 x1 x3 i d r j e) M') (den (zblk x0 x1 x3 i d r) 8 M') := by
  obtain ⟨a1, a2, w26, w40, ho⟩ := out_eq c i arg3 harg3 arg4 harg4 arg5 harg5 arg6 harg6 arg7 harg7 x0 x1 x2 x3
  obtain ⟨i0, i1⟩ := loop_inv none c i arg3 harg3 arg4 harg4 arg5 harg5 arg6 harg6 arg7 harg7 x1 x2 x3 a1 a2 (k0_pay21 x0) (k0_pay22 x0) w26 w40 r d h0 h1 (i 2).val le_rfl
  rw [ho]
  have hi1 : (i 1).val < 4 := (i 1).isLt
  have hi2 : (i 2).val < 8 := (i 2).isLt
  have hK : k0_pay39 (View.ld x1 (Rect.unit (s := S1x8x128x512) (k0_off5 i) S1x1x128x512.size (k0_off5_inb i))) = kc x1 (i 2).val := by
    funext y
    obtain ⟨d', e, rfl⟩ : ∃ d' e, y = ix2 d' e := ⟨y 0, y 1, eq_ix2 y⟩
    rw [pay39_at]; exact ld_kc x1 (i 2).val hi2 _ (off5 i) _ d' e
  have hV : k0_pay40 (View.ld x2 (Rect.unit (s := S1x8x128x512) (k0_off5 i) S1x1x128x512.size (k0_off5_inb i))) = kc x2 (i 2).val := by
    funext y
    obtain ⟨d', e, rfl⟩ : ∃ d' e, y = ix2 d' e := ⟨y 0, y 1, eq_ix2 y⟩
    rw [pay40_at]; exact ld_kc x2 (i 2).val hi2 _ (off5 i) _ d' e
  unfold storeV
  rw [pay1_at]
  by_cases hd : d.1 < 64
  · rw [if_pos hd]
    have hz : zblk x0 x1 x3 i d r = zrow (k0_pay21 x0) (kc x1) (cc x3 (2 * (i 1).val)) (i 2).val r := by
      unfold zblk; rw [if_pos hd, Nat.div_eq_of_lt hd, add_zero]
    rw [hz]
    exact head_final d hi2 h0 (head0_diag d hi2 hK hV (fun e => ld_cc x3 (2 * (i 1).val) (i 2).val (by omega) hi2 _ (off6 i 0) _ e) h0 i0) M'
  · rw [if_neg hd]
    have hz : zblk x0 x1 x3 i d r = zrow (k0_pay22 x0) (kc x1) (cc x3 (2 * (i 1).val + 1)) (i 2).val r := by
      unfold zblk; rw [if_neg hd, show d.1 / 64 = 1 by omega]
    rw [hz]
    exact head_final d hi2 h1 (head1_diag d hi2 hK hV (fun e => ld_cc x3 (2 * (i 1).val + 1) (i 2).val (by omega) hi2 _ (off6 i 1) _ e) h1 i1) M'

end Cert.KernelIdeal.Fox
end
-- ==== Proof.Rows.lean ====
module

public import proofs.«01_k».proof.Proof.Host
public import proofs.«01_k».proof.Proof.Block

/-!
The scores of a grid point's rows are the scores of the attention: a head's half of the lanes gives its product, a chunk's
columns are 512 keys, and the diagonal chunk is masked where the key lies behind the query.
-/

@[expose] public section
set_option maxRecDepth 16384
noncomputable section
open Idealize.ShloMosaic Idealize.ShloMosaic.TcCoe Idealize.SL.Sem
namespace Cert.KernelIdeal.Fox
open Cert.KernelIdeal Cert.KernelIdeal.Gen Cert.Fox

/-- A sum over 128 lanes of which the second half is zeroed. -/
theorem half0 (f g : Fin 128 → EReal) :
    ∑ d : Fin 128, f d * (if d.1 < 64 then 1 else 0 : EReal) * g d = ∑ d : Fin 64, f ⟨d.1, by omega⟩ * g ⟨d.1, by omega⟩ := by
  rw [show (∑ d : Fin 128, f d * (if d.1 < 64 then 1 else 0 : EReal) * g d) = _ from
    Fin.sum_univ_add (a := 64) (b := 64) fun d : Fin (64 + 64) => f d * (if d.1 < 64 then 1 else 0 : EReal) * g d]
  rw [Finset.sum_eq_zero (s := Finset.univ) (f := fun i : Fin 64 => f (Fin.natAdd 64 i) * (if (Fin.natAdd 64 i).1 < 64 then 1 else 0 : EReal) * g (Fin.natAdd 64 i))
    (fun i _ => by rw [if_neg (by simp)]; simp), add_zero]
  exact Finset.sum_congr rfl fun i _ => by
    rw [if_pos (show (Fin.castAdd 64 i).1 < 64 from i.2), mul_one]; rfl

/-- A sum over 128 lanes of which the first half is zeroed. -/
theorem half1 (f g : Fin 128 → EReal) :
    ∑ d : Fin 128, f d * (if d.1 < 64 then 0 else 1 : EReal) * g d = ∑ d : Fin 64, f ⟨64 + d.1, by omega⟩ * g ⟨64 + d.1, by omega⟩ := by
  rw [show (∑ d : Fin 128, f d * (if d.1 < 64 then 0 else 1 : EReal) * g d) = _ from
    Fin.sum_univ_add (a := 64) (b := 64) fun d : Fin (64 + 64) => f d * (if d.1 < 64 then 0 else 1 : EReal) * g d]
  rw [Finset.sum_eq_zero (s := Finset.univ) (f := fun i : Fin 64 => f (Fin.castAdd 64 i) * (if (Fin.castAdd 64 i).1 < 64 then 0 else 1 : EReal) * g (Fin.castAdd 64 i))
    (fun i _ => by rw [if_pos (show (Fin.castAdd 64 i).1 < 64 from i.2)]; simp), zero_add]
  exact Finset.sum_congr rfl fun i _ => by
    rw [if_neg (by simp), mul_one]; rfl

section
variable (m : (ℓ : Loc nD τ sig) → Buf (Elt Ideal) ℓ) (c : Dev nD) (t : Fin cfg0.N)
  (b : Fin 4) (h : Fin 8) (q : Fin 4096) (r e : Fin 512) (j : Fin 8)

/-- A scaled query at a lane of the block. -/
theorem query_at (d : Fin 128) (dd : Fin 64) (hb : b.1 = (grid0.coords t 0).val) (hq : q.1 = (grid0.coords t 2).val * 512 + r.1)
    (hl : (grid0.coords t 1).val * 128 + d.1 = h.1 * 64 + dd.1) :
    (iblk m c 0 t : S512x128.Idx → EReal) (ix2 r d) = argQ m c (ix4 b q h dd) * scl := by
  obtain ⟨g0, g1, g2⟩ := coords_lt (grid0.coords t)
  rw [blk_q m c t r d ⟨((grid0.coords t 0).val * 8 + (grid0.coords t 2).val) * 512 + r.1, by omega⟩
    ⟨(grid0.coords t 1).val * 128 + d.1, by omega⟩ rfl rfl, read_q]
  congr 2
  exact (ix4_inj _ _ _ _ _ _ _ _).2 ⟨Fin.ext (by dsimp only; omega), Fin.ext (by dsimp only; omega), Fin.ext (by dsimp only; omega), Fin.ext (by dsimp only; omega)⟩

/-- A key at a chunk, a lane and a column of the block. -/
theorem key_at (d : Fin 128) (dd : Fin 64) (hb : b.1 = (grid0.coords t 0).val)
    (hl : (grid0.coords t 1).val * 128 + d.1 = h.1 * 64 + dd.1) :
    kc (iblk m c 1 t) j.1 (ix2 d e) = argK m c (ix4 b ⟨j.1 * 512 + e.1, by omega⟩ h dd) := by
  obtain ⟨g0, g1, g2⟩ := coords_lt (grid0.coords t)
  rw [kc, dif_pos j.2]
  refine (blk_k m c t j d e b ⟨(grid0.coords t 1).val * 128 + d.1, by omega⟩ hb rfl).trans ?_
  rw [read_k]
  congr 1
  exact (ix4_inj _ _ _ _ _ _ _ _).2 ⟨rfl, rfl, Fin.ext (by dsimp only; omega), Fin.ext (by dsimp only; omega)⟩

/-- A value at a chunk, a lane and a column of the block. -/
theorem value_at (d : Fin 128) (dd : Fin 64) (hb : b.1 = (grid0.coords t 0).val)
    (hl : (grid0.coords t 1).val * 128 + d.1 = h.1 * 64 + dd.1) :
    vrow (kc (iblk m c 2 t)) d j.1 e = argV m c (ix4 b ⟨j.1 * 512 + e.1, by omega⟩ h dd) := by
  obtain ⟨g0, g1, g2⟩ := coords_lt (grid0.coords t)
  rw [vrow, kc, dif_pos j.2]
  refine (blk_v m c t j d e b ⟨(grid0.coords t 1).val * 128 + d.1, by omega⟩ hb rfl).trans ?_
  rw [read_v]
  congr 1
  exact (ix4_inj _ _ _ _ _ _ _ _).2 ⟨rfl, rfl, Fin.ext (by dsimp only; omega), Fin.ext (by dsimp only; omega)⟩

/-- A running sum of the block. -/
theorem sum_at (n : ℕ) (hn : n = h.1) (hb : b.1 = (grid0.coords t 0).val) :
    cc (iblk m c 3 t) n j.1 e = run (argL m c) b h ⟨j.1 * 512 + e.1, by omega⟩ := by
  subst hn
  rw [cc, dif_pos ⟨h.2, j.2⟩]
  exact (blk_c m c t h j e b hb).trans (read_c m c b h j e)

/-- The first head's scores. -/
theorem scores_first (hb : b.1 = (grid0.coords t 0).val) (hq : q.1 = (grid0.coords t 2).val * 512 + r.1)
    (hh : h.1 = 2 * (grid0.coords t 1).val) :
    scores (k0_pay21 (iblk m c 0 t)) (kc (iblk m c 1 t) j.1) (cc (iblk m c 3 t) (2 * (grid0.coords t 1).val) j.1) r e
      = score (argQ m c) (argK m c) (argL m c) b h q ⟨j.1 * 512 + e.1, by omega⟩ := by
  unfold scores score
  rw [sum_at m c t b h e j _ hh.symm hb]
  simp only [pay21_at]
  rw [half0 (fun d => (iblk m c 0 t : S512x128.Idx → EReal) (ix2 r d))]
  congr 1
  refine Finset.sum_congr rfl fun dd _ => ?_
  rw [query_at m c t b h q r _ dd hb hq (by dsimp only; omega), key_at m c t b h e j _ dd hb (by dsimp only; omega)]

/-- The second head's scores. -/
theorem scores_second (hb : b.1 = (grid0.coords t 0).val) (hq : q.1 = (grid0.coords t 2).val * 512 + r.1)
    (hh : h.1 = 2 * (grid0.coords t 1).val + 1) :
    scores (k0_pay22 (iblk m c 0 t)) (kc (iblk m c 1 t) j.1) (cc (iblk m c 3 t) (2 * (grid0.coords t 1).val + 1) j.1) r e
      = score (argQ m c) (argK m c) (argL m c) b h q ⟨j.1 * 512 + e.1, by omega⟩ := by
  unfold scores score
  rw [sum_at m c t b h e j _ hh.symm hb]
  simp only [pay22_at]
  rw [half1 (fun d => (iblk m c 0 t : S512x128.Idx → EReal) (ix2 r d))]
  congr 1
  refine Finset.sum_congr rfl fun dd _ => ?_
  rw [query_at m c t b h q r _ dd hb hq (by dsimp only; omega), key_at m c t b h e j _ dd hb (by dsimp only; omega)]

/-- The row of scores that a lane of the block uses is the row of its head. -/
theorem zblk_at (d : Fin 128) (hb : b.1 = (grid0.coords t 0).val) (hq : q.1 = (grid0.coords t 2).val * 512 + r.1)
    (hh : h.1 = 2 * (grid0.coords t 1).val + d.1 / 64) :
    zblk (iblk m c 0 t) (iblk m c 1 t) (iblk m c 3 t) (grid0.coords t) d r j.1 e
      = row (argQ m c) (argK m c) (argL m c) b h q ⟨j.1 * 512 + e.1, by omega⟩ := by
  have hs : scores (if d.1 < 64 then k0_pay21 (iblk m c 0 t) else k0_pay22 (iblk m c 0 t)) (kc (iblk m c 1 t) j.1)
      (cc (iblk m c 3 t) (2 * (grid0.coords t 1).val + d.1 / 64) j.1) r e
      = score (argQ m c) (argK m c) (argL m c) b h q ⟨j.1 * 512 + e.1, by omega⟩ := by
    by_cases hd : d.1 < 64
    · have h0 : d.1 / 64 = 0 := by omega
      rw [if_pos hd, h0]
      exact scores_first m c t b h q r e j hb hq (by omega)
    · have h1 : d.1 / 64 = 1 := by omega
      rw [if_neg hd, h1]
      exact scores_second m c t b h q r e j hb hq (by omega)
  unfold zblk zrow scoresM row
  rw [hs]
  rcases lt_trichotomy j.1 (grid0.coords t 2).val with hj | hj | hj
  · rw [if_pos hj, if_pos (Fin.le_def.2 (by dsimp only; omega))]
  · rw [if_neg (by omega), if_pos hj]
    by_cases her : e ≤ r
    · rw [if_pos her, if_pos (Fin.le_def.2 (by have := Fin.le_def.1 her; dsimp only; omega))]
    · rw [if_neg her, if_neg (fun g => her (Fin.le_def.2 (by have := Fin.le_def.1 g; dsimp only at this; omega)))]
  · rw [if_neg (by omega), if_neg (by omega), if_neg (fun g => by have := Fin.le_def.1 g; dsimp only at this; omega)]
end

section
variable (m : (ℓ : Loc nD τ sig) → Buf (Elt Ideal) ℓ) (c : Dev nD) (t : Fin cfg0.N)
  (hQ : ∀ i, ∃ x : ℝ, argQ m c i = (x : EReal)) (hK : ∀ i, ∃ x : ℝ, argK m c i = (x : EReal)) (hL : ∀ i, ∃ x : ℝ, argL m c i = (x : EReal))

include hQ hK hL in
/-- What a grid point leaves at a row and a lane of its output block, for finite queries, keys and gates: the average of the
values by the weights of the row, at any shift. -/
theorem point_at (r : Fin 512) (d : Fin 128) (b : Fin 4) (h : Fin 8) (q : Fin 4096) (dd : Fin 64)
    (hb : b.1 = (grid0.coords t 0).val) (hq : q.1 = (grid0.coords t 2).val * 512 + r.1)
    (hl : (grid0.coords t 1).val * 128 + d.1 = h.1 * 64 + dd.1) (M : ℝ) :
    out0_A_4 c (grid0.coords t) (ms0_0 t) (hs0_0 t) (ms0_1 t) (hs0_1 t) (ms0_2 t) (hs0_2 t) (ms0_3 t) (hs0_3 t) (ms0_4 t) (hs0_4 t)
        (iblk m c 0 t) (iblk m c 1 t) (iblk m c 2 t) (iblk m c 3 t) (ix2 r d)
      = ∑ x : Fin 4096, argV m c (ix4 b x h dd) * Ideal.div (wt (row (argQ m c) (argK m c) (argL m c) b h q x) M)
          (∑ y : Fin 4096, wt (row (argQ m c) (argK m c) (argL m c) b h q y) M) := by
  obtain ⟨g0, g1, g2⟩ := coords_lt (grid0.coords t)
  have hh : h.1 = 2 * (grid0.coords t 1).val + d.1 / 64 := by omega
  refine (block_at c (grid0.coords t) _ _ _ _ _ _ _ _ _ _ (iblk m c 0 t) (iblk m c 1 t) (iblk m c 2 t) (iblk m c 3 t) r d ?_ ?_ M).trans ?_
  · intro j hj e
    rw [scores_first m c t b ⟨2 * (grid0.coords t 1).val, by omega⟩ q r e ⟨j, by omega⟩ hb hq rfl]
    exact score_real _ _ _ _ hQ hK hL
  · intro j hj e
    rw [scores_second m c t b ⟨2 * (grid0.coords t 1).val + 1, by omega⟩ q r e ⟨j, by omega⟩ hb hq rfl]
    exact score_real _ _ _ _ hQ hK hL
  · exact (average_tiles _ (fun x => argV m c (ix4 b x h dd)) _ _ M (fun j e => zblk_at m c t b h q r e j d hb hq hh)
      (fun j e => value_at m c t b h e j d dd hb hl)).symm
end

end Cert.KernelIdeal.Fox
-- ==== Proof.Reference.lean ====
module

public import proofs.«01_k».proof.Proof.Attn
public import proofs.«01_k».proof.Proof.Gen.ReferenceIdeal.Run
public import Idealize.ShloMosaic.Lib.Pointwise

/-!
The reference's result, read at an index: the softmax average of the values over the masked row of scores.
-/

@[expose] public section
set_option maxRecDepth 16384
noncomputable section
open Idealize.ShloMosaic Idealize.ShloMosaic.TcCoe Idealize.SL.Sem
namespace Cert.ReferenceIdeal.Fox
open Cert.ReferenceIdeal Cert.ReferenceIdeal.Gen Cert.Fox

/-- The constant by which the reference masks is `⊥`. -/
theorem neg_inf : Ideal.ofBits .f32 4286578688#32 = ⊥ := by
  simp [Ideal.ofBits, Ideal.ieee, show (BitVec.extractLsb' 31 1 (4286578688#32 : BitVec 32)) = 1#1 by decide]

/-- A choice by a comparison of two positions is the choice by their order. -/
theorem select_le (a b : ℕ) (ha : a < 4096) (hb : b < 4096) (x y : EReal) :
    Scalar.select (IntOp.cmpi .sle (BitVec.ofNat 32 a) (BitVec.ofNat 32 b)) x y = if a ≤ b then x else y := by
  have e : (BitVec.ofNat 32 a).sle (BitVec.ofNat 32 b) = decide (a ≤ b) := by
    rw [BitVec.sle_eq_decide, BitVec.toInt_eq_toNat_of_lt (by simp; omega), BitVec.toInt_eq_toNat_of_lt (by simp; omega)]
    simp only [BitVec.toNat_ofNat, Nat.mod_eq_of_lt (show a < 2 ^ 32 by omega), Nat.mod_eq_of_lt (show b < 2 ^ 32 by omega)]
    exact decide_eq_decide.2 (by omega)
  simp only [IntOp.cmpi, e]
  by_cases h : a ≤ b <;> simp [h, Scalar.select]

/-- A zero constant is zero at every index. -/
theorem zero_init (i : S_.Idx) : (broadcastInDim S_ ![] bcast_S_S_ (constant (F := Ideal) S_ .f32 0#32) i : EReal) = 0 := by
  pointwise

/-- The masking constant is `⊥` at its one index. -/
theorem mask_init : (id (constant (F := Ideal) S_ .f32 4286578688#32) ix0 : EReal) = ⊥ := neg_inf

/-- The largest element along the last of four axes, at any extents: a fold by the maximum from the start. -/
theorem reduce_max_last {n0 n1 n2 n3 : ℕ} (x : FVec Ideal ⟨4, ![n0, n1, n2, n3]⟩ .f32) (init : FVec Ideal S_ .f32)
    (hr : (⟨4, ![n0, n1, n2, n3]⟩ : Shape).ReducesTo [3] ⟨3, ![n0, n1, n2]⟩) (hu : 0 < S_.numel) (b : Fin n0) (h : Fin n1) (t : Fin n2) :
    Host.reduce FloatOps.maximumf x init hr hu (ix3 b h t)
      = Finset.univ.fold max (init (Shape.Idx.first hu)) fun y : Fin n3 => x (ix4 b h t y) := by
  pointwise

/-- The elementwise maximum at an index. -/
theorem max_at {s : Shape} (x y : FVec Ideal s .f32) (j : s.Idx) : maximumf x y j = max (x j : EReal) (y j) := rfl

/-- The splat of the masking constant is `⊥` at every index. -/
theorem low_at (j : S4x8x4096.Idx) : (broadcastInDim S4x8x4096 ![] bcast_S_S4x8x4096 (constant (F := Ideal) S_ .f32 0xFF800000#32) j : EReal) = ⊥ := by
  pointwise
  exact neg_inf

/-- The masking constant itself. -/
theorem low_init (j : S_.Idx) : (constant (F := Ideal) S_ .f32 0xFF800000#32 j : EReal) = ⊥ := neg_inf

variable (m : (ℓ : Loc nD τ sig) → Buf (Elt Ideal) ℓ) (c : Dev nD)

/-- The queries. -/
abbrev argQ : S4x4096x8x64.Idx → EReal := m ((c.tc : Thread nD τ).loc main_arg0)
/-- The keys. -/
abbrev argK : S4x4096x8x64.Idx → EReal := m ((c.tc : Thread nD τ).loc main_arg1)
/-- The values. -/
abbrev argV : S4x4096x8x64.Idx → EReal := m ((c.tc : Thread nD τ).loc main_arg2)
/-- The gates. -/
abbrev argL : S4x4096x8.Idx → EReal := m ((c.tc : Thread nD τ).loc main_arg3)

/-- The reference's masked score of query `t` and key `s`. -/
def refRow (b : Fin 4) (h : Fin 8) (t s : Fin 4096) : EReal :=
  if s.1 ≤ t.1 then (∑ d : Fin 64, argQ m c (ix4 b t h d) * argK m c (ix4 b s h d)) * scl + run (argL m c) b h t - run (argL m c) b h s else ⊥

/-- The running sums of the gates, head by head. -/
def sums : FVec Ideal S4x8x4096 .f32 :=
  transpose S4x8x4096 [0, 2, 1] (Host.reduceWindowAdd ![1, 4096, 1] ![1, 1, 1] ![0, 4095, 0] ![0, 0, 0] (argL m c) (broadcastInDim S_ ![] bcast_S_S_ (constant S_ .f32 0x00000000#32)) reduceWindows_S4x4096x8_S4x4096x8_w1s1p0_0_w4096s1p4095_0_w1s1p0_0 h_S_) transposes_S4x4096x8_S4x8x4096_0_2_1

/-- The bit of the causal mask. -/
def maskBits : IVec S4096x4096 1 :=
  cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))

/-- The products of queries and keys. -/
def prods : FVec Ideal S4x8x4096x4096 .f32 :=
  Host.dotGeneral (φ₁ := .f32) (φ₂ := .f32) dot_S4x4096x8x64_S4x4096x8x64_S4x8x4096x4096_3_3_1_1_02_02 none (argQ m c) (argK m c)

/-- The masked scores, from the products, the mask and the running sums. -/
def masked (D : FVec Ideal S4x8x4096x4096 .f32) (B : IVec S4096x4096 1) (C : FVec Ideal S4x8x4096 .f32) : FVec Ideal S4x8x4096x4096 .f32 :=
  select (broadcastInDim S4x8x4096x4096 ![2, 3] bcast_S4096x4096_S4x8x4096x4096_2_3 B)
    (subf (addf (mulf D (broadcastInDim S4x8x4096x4096 ![] bcast_S_S4x8x4096x4096 (constant S_ .f32 0x3E000000#32)))
        (broadcastInDim S4x8x4096x4096 ![0, 1, 2, 3] bcast_S4x8x4096x1_S4x8x4096x4096_0_1_2_3 (broadcastInDim S4x8x4096x1 ![0, 1, 2] bcast_S4x8x4096_S4x8x4096x1_0_1_2 C)))
      (broadcastInDim S4x8x4096x4096 ![0, 1, 2, 3] bcast_S4x8x1x4096_S4x8x4096x4096_0_1_2_3 (broadcastInDim S4x8x1x4096 ![0, 1, 3] bcast_S4x8x4096_S4x8x1x4096_0_1_3 C)))
    (broadcastInDim S4x8x4096x4096 ![] bcast_S_S4x8x4096x4096 (id (constant S_ .f32 0xFF800000#32)))

/-- The largest score of a row. -/
def tops (s : FVec Ideal S4x8x4096x4096 .f32) : FVec Ideal S4x8x4096 .f32 :=
  maximumf (broadcastInDim S4x8x4096 ![] bcast_S_S4x8x4096 (constant S_ .f32 0xFF800000#32))
    (Host.reduce FloatOps.maximumf s (constant S_ .f32 0xFF800000#32) reducesTo_S4x8x4096x4096_S4x8x4096_d3 h_S_)

/-- The exponentials of the scores below the row's largest. -/
def exps (s : FVec Ideal S4x8x4096x4096 .f32) (M : FVec Ideal S4x8x4096 .f32) : FVec Ideal S4x8x4096x4096 .f32 :=
  Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 M)))

/-- The quotients by the row's sum. -/
def quots (e : FVec Ideal S4x8x4096x4096 .f32) : FVec Ideal S4x8x4096x4096 .f32 :=
  Host.divf e (broadcastInDim S4x8x4096x4096 ![0, 1, 2, 3] bcast_S4x8x4096x1_S4x8x4096x4096_0_1_2_3 (broadcastInDim S4x8x4096x1 ![0, 1, 2] bcast_S4x8x4096_S4x8x4096x1_0_1_2
    (Host.reduceAdd e (constant S_ .f32 0x00000000#32) reducesTo_S4x8x4096x4096_S4x8x4096_d3 h_S_)))

/-- The averages of the values, in the order of the products. -/
def avgs (p : FVec Ideal S4x8x4096x4096 .f32) : FVec Ideal S4x8x64x4096 .f32 :=
  Host.dotGeneral (φ₁ := .f32) (φ₂ := .f32) dot_S4x4096x8x64_S4x8x4096x4096_S4x8x64x4096_1_3_3_2_02_01 none (argV m c) p

/-- The averages as the result's matrix. -/
def laid (a : FVec Ideal S4x8x64x4096 .f32) : FVec Ideal S16384x512 .bf16 :=
  truncf .bf16 (shapeCast _ (transpose S4x4096x8x64 [0, 3, 1, 2] a transposes_S4x8x64x4096_S4x4096x8x64_0_3_1_2) shapeCasts_S4x4096x8x64_S16384x512) bitsLt_bf16_f32

/-- The reference's result is these steps in turn. -/
theorem res_eq : Cert.ReferenceIdeal.Value.res_main_v32 m c
    = laid (avgs m c (quots (exps (masked (prods m c) maskBits (sums m c)) (tops (masked (prods m c) maskBits (sums m c)))))) := by
  unfold Cert.ReferenceIdeal.Value.res_main_v32 laid avgs quots exps tops masked prods maskBits sums
  rfl

section
variable (b : Fin 4) (h : Fin 8) (t x : Fin 4096) (d : Fin 64)

theorem sums_at : sums m c (ix3 b h t) = run (argL m c) b h t := by
  unfold sums
  pointwise
  exact cumsum_mid (argL m c) _ reduceWindows_S4x4096x8_S4x4096x8_w1s1p0_0_w4096s1p4095_0_w1s1p0_0 h_S_ zero_init b t h

theorem maskBits_at : maskBits (ix2 t x) = IntOp.cmpi .sle (BitVec.ofNat 32 x.1) (BitVec.ofNat 32 t.1) := by
  unfold maskBits
  pointwise

theorem prods_at : prods m c (ix4 b h t x) = ∑ d : Fin 64, argQ m c (ix4 b t h d) * argK m c (ix4 b x h d) := by
  unfold prods
  pointwise

theorem masked_at (D : FVec Ideal S4x8x4096x4096 .f32) (B : IVec S4096x4096 1) (C : FVec Ideal S4x8x4096 .f32) :
    masked D B C (ix4 b h t x) = Scalar.select (B (ix2 t x)) (D (ix4 b h t x) * scl + C (ix3 b h t) - C (ix3 b h x)) ⊥ := by
  unfold masked
  pointwise
  rw [mask_init]
  rfl

theorem tops_at (s : FVec Ideal S4x8x4096x4096 .f32) :
    tops s (ix3 b h t) = max ⊥ (Finset.univ.fold max ⊥ fun y : Fin 4096 => s (ix4 b h t y)) := by
  unfold tops
  rw [max_at, low_at, reduce_max_last, low_init]

theorem exps_at (s : FVec Ideal S4x8x4096x4096 .f32) (M : FVec Ideal S4x8x4096 .f32) :
    exps s M (ix4 b h t x) = Ideal.exp (s (ix4 b h t x) - M (ix3 b h t)) := by
  unfold exps
  pointwise

theorem quots_at (e : FVec Ideal S4x8x4096x4096 .f32) :
    quots e (ix4 b h t x) = Ideal.div (e (ix4 b h t x)) (∑ z : Fin 4096, e (ix4 b h t z)) := by
  unfold quots
  pointwise

theorem avgs_at (p : FVec Ideal S4x8x4096x4096 .f32) :
    avgs m c p (ix4 b h d t) = ∑ x : Fin 4096, argV m c (ix4 b x h d) * p (ix4 b h t x) := by
  unfold avgs
  pointwise

theorem laid_at (a : FVec Ideal S4x8x64x4096 .f32) (k : Fin 16384) (l : Fin 512) :
    laid a (ix2 k l) = a (ix4 ⟨k.1 / 4096, by omega⟩ ⟨l.1 / 64, by omega⟩ ⟨l.1 % 64, by omega⟩ ⟨k.1 % 4096, by omega⟩) := by
  unfold laid
  pointwise
end

/-- The masked score at an index. -/
theorem refRow_at (b : Fin 4) (h : Fin 8) (t x : Fin 4096) :
    masked (prods m c) maskBits (sums m c) (ix4 b h t x) = refRow m c b h t x := by
  rw [masked_at, prods_at, sums_at, sums_at, maskBits_at, select_le _ _ x.2 t.2, refRow]

/-- The reference's result at a row and a lane. -/
theorem ref_at (k : Fin 16384) (l : Fin 512) (b : Fin 4) (h : Fin 8) (t : Fin 4096) (d : Fin 64)
    (hb : b.1 = k.1 / 4096) (ht : t.1 = k.1 % 4096) (hh : h.1 = l.1 / 64) (hd : d.1 = l.1 % 64) :
    (Cert.ReferenceIdeal.Value.res_main_v32 m c : S16384x512.Idx → EReal) (ix2 k l)
      = ∑ x : Fin 4096, argV m c (ix4 b x h d) *
          Ideal.div (Ideal.exp (refRow m c b h t x - max ⊥ (Finset.univ.fold max ⊥ fun y => refRow m c b h t y)))
            (∑ z : Fin 4096, Ideal.exp (refRow m c b h t z - max ⊥ (Finset.univ.fold max ⊥ fun y => refRow m c b h t y))) := by
  have eb : (⟨k.1 / 4096, by omega⟩ : Fin 4) = b := Fin.ext hb.symm
  have et : (⟨k.1 % 4096, by omega⟩ : Fin 4096) = t := Fin.ext ht.symm
  have eh : (⟨l.1 / 64, by omega⟩ : Fin 8) = h := Fin.ext hh.symm
  have ed : (⟨l.1 % 64, by omega⟩ : Fin 64) = d := Fin.ext hd.symm
  rw [res_eq]
  refine (laid_at _ k l).trans ?_
  rw [eb, et, eh, ed, avgs_at]
  simp only [quots_at, exps_at, tops_at, refRow_at]

end Cert.ReferenceIdeal.Fox
-- ==== Proof.Final.lean ====
module

public import proofs.«01_k».proof.Proof.Rows
public import proofs.«01_k».proof.Proof.Reference

/-!
The kernel's output array is the reference's result: every grid point's block holds the reference's values at the block's
place, and the blocks tile the array.
-/

@[expose] public section
set_option maxRecDepth 16384
noncomputable section
open Idealize.ShloMosaic Idealize.ShloMosaic.TcCoe Idealize.SL.Sem
namespace Cert.KernelIdeal.Fox
open Cert.KernelIdeal Cert.KernelIdeal.Gen Cert.Fox

section
variable (m' : (ℓ : Loc Cert.ReferenceIdeal.nD Cert.ReferenceIdeal.τ Cert.ReferenceIdeal.sig) → Buf (Elt Ideal) ℓ) (c : Dev Cert.ReferenceIdeal.nD)
open Cert.ReferenceIdeal.Fox (refRow ref_at)

/-- The reference's result at a row and a lane, for finite queries, keys and gates, is the average of the values by the weights of
the row at some real shift. -/
theorem ref_average (hQ : ∀ i, ∃ x : ℝ, Cert.ReferenceIdeal.Fox.argQ m' c i = (x : EReal)) (hK : ∀ i, ∃ x : ℝ, Cert.ReferenceIdeal.Fox.argK m' c i = (x : EReal))
    (hL : ∀ i, ∃ x : ℝ, Cert.ReferenceIdeal.Fox.argL m' c i = (x : EReal)) (k : Fin 16384) (l : Fin 512) (b : Fin 4) (h : Fin 8) (t : Fin 4096) (d : Fin 64)
    (hb : b.1 = k.1 / 4096) (ht : t.1 = k.1 % 4096) (hh : h.1 = l.1 / 64) (hd : d.1 = l.1 % 64) :
    ∃ M : ℝ, (Cert.ReferenceIdeal.Value.res_main_v32 m' c : Cert.ReferenceIdeal.S16384x512.Idx → EReal) (ix2 k l)
      = ∑ x : Fin 4096, Cert.ReferenceIdeal.Fox.argV m' c (ix4 b x h d) *
          Ideal.div (wt (row (Cert.ReferenceIdeal.Fox.argQ m' c) (Cert.ReferenceIdeal.Fox.argK m' c) (Cert.ReferenceIdeal.Fox.argL m' c) b h t x) M)
            (∑ y : Fin 4096, wt (row (Cert.ReferenceIdeal.Fox.argQ m' c) (Cert.ReferenceIdeal.Fox.argK m' c) (Cert.ReferenceIdeal.Fox.argL m' c) b h t y) M) := by
  obtain ⟨C, hC⟩ := run_real hL b h t
  obtain ⟨M, hM⟩ := softmax_shift (row (Cert.ReferenceIdeal.Fox.argQ m' c) (Cert.ReferenceIdeal.Fox.argK m' c) (Cert.ReferenceIdeal.Fox.argL m' c) b h t) C
    (fun x => row_ne_top b h t x hQ hK hL) ⟨t, row_ne_bot b h t hQ hK hL⟩
  refine ⟨M, ?_⟩
  have hr : ∀ x, refRow m' c b h t x
      = row (Cert.ReferenceIdeal.Fox.argQ m' c) (Cert.ReferenceIdeal.Fox.argK m' c) (Cert.ReferenceIdeal.Fox.argL m' c) b h t x + (C : EReal) := fun x => by
    rw [← hC]; exact ref_row b h t x hQ hK hL
  rw [ref_at m' c k l b h t d hb ht hh hd]
  simp only [hr, hM]
end

variable (m : (ℓ : Loc nD τ sig) → Buf (Elt Ideal) ℓ) (c : Dev nD)

/-- The output block's place in the array. -/
theorem place (t : Fin cfg0.N) (r : Fin 512) (d : Fin 128) (k : Fin 16384) (l : Fin 512)
    (hk : k.1 = ((grid0.coords t 0).val * 8 + (grid0.coords t 2).val) * 512 + r.1) (hl : l.1 = (grid0.coords t 1).val * 128 + d.1) :
    (((cfg0.win 4).blk t).view.emb (ix2 r d) : S16384x512.Idx) = ix2 k l := by
  have h0 : ((((cfg0.win 4).blk t).view.emb (ix2 r d) : S16384x512.Idx) 0).val = k.1 := by blk_simp [idx t]; rw [hk]
  have h1 : ((((cfg0.win 4).blk t).view.emb (ix2 r d) : S16384x512.Idx) 1).val = l.1 := by blk_simp [idx t]; rw [hl]
  exact funext (Fin.forall_fin_two.2 ⟨Fin.ext h0, Fin.ext h1⟩)

/-- The output array after the run is the reference's result, for finite queries, keys and gates and equal arguments. -/
theorem final_eq (m' : (ℓ : Loc Cert.ReferenceIdeal.nD Cert.ReferenceIdeal.τ Cert.ReferenceIdeal.sig) → Buf (Elt Ideal) ℓ)
    (e0 : Cert.ReferenceIdeal.Fox.argQ m' c = argQ m c) (e1 : Cert.ReferenceIdeal.Fox.argK m' c = argK m c)
    (e2 : Cert.ReferenceIdeal.Fox.argV m' c = argV m c) (e3 : Cert.ReferenceIdeal.Fox.argL m' c = argL m c)
    (hQ : ∀ i, ∃ x : ℝ, argQ m c i = (x : EReal)) (hK : ∀ i, ∃ x : ℝ, argK m c i = (x : EReal)) (hL : ∀ i, ∃ x : ℝ, argL m c i = (x : EReal)) :
    ((dats m 0 c).arrAt 4 cfg0.N : S16384x512.Idx → EReal) = (Cert.ReferenceIdeal.Value.res_main_v32 m' c : Cert.ReferenceIdeal.S16384x512.Idx → EReal) := by
  refine (dats m 0 c).arrAt_eq_of_covers 4 (Cert.ReferenceIdeal.Value.res_main_v32 m' c : S16384x512.Idx → EReal) (by decide +kernel) fun t hf y => ?_
  blk_simp
  rw [after0_4, outsAt0]
  have key : ∀ (r : Fin 512) (d : Fin 128),
      out0_A_4 c (grid0.coords t) (ms0_0 t) (hs0_0 t) (ms0_1 t) (hs0_1 t) (ms0_2 t) (hs0_2 t) (ms0_3 t) (hs0_3 t) (ms0_4 t) (hs0_4 t)
          (iblk m c 0 t) (iblk m c 1 t) (iblk m c 2 t) (iblk m c 3 t) (ix2 r d)
        = (Cert.ReferenceIdeal.Value.res_main_v32 m' c : S16384x512.Idx → EReal) (((cfg0.win 4).blk t).view.emb (ix2 r d)) := fun r d => by
    obtain ⟨g0, g1, g2⟩ := coords_lt (grid0.coords t)
    rw [place t r d ⟨((grid0.coords t 0).val * 8 + (grid0.coords t 2).val) * 512 + r.1, by omega⟩ ⟨(grid0.coords t 1).val * 128 + d.1, by omega⟩ rfl rfl]
    obtain ⟨M, hM⟩ := ref_average m' c (by rw [e0]; exact hQ) (by rw [e1]; exact hK) (by rw [e3]; exact hL)
      ⟨((grid0.coords t 0).val * 8 + (grid0.coords t 2).val) * 512 + r.1, by omega⟩ ⟨(grid0.coords t 1).val * 128 + d.1, by omega⟩
      ⟨(grid0.coords t 0).val, by omega⟩ ⟨2 * (grid0.coords t 1).val + d.1 / 64, by omega⟩ ⟨(grid0.coords t 2).val * 512 + r.1, by omega⟩ ⟨d.1 % 64, by omega⟩
      (by dsimp only; omega) (by dsimp only; omega) (by dsimp only; omega) (by dsimp only; omega)
    rw [e0, e1, e2, e3] at hM
    refine Eq.trans ?_ hM.symm
    exact point_at m c t hQ hK hL r d _ _ _ _ rfl rfl (by dsimp only; omega) M
  have hy : ∀ y : S512x128.Idx,
      out0_A_4 c (grid0.coords t) (ms0_0 t) (hs0_0 t) (ms0_1 t) (hs0_1 t) (ms0_2 t) (hs0_2 t) (ms0_3 t) (hs0_3 t) (ms0_4 t) (hs0_4 t)
          (iblk m c 0 t) (iblk m c 1 t) (iblk m c 2 t) (iblk m c 3 t) y
        = (Cert.ReferenceIdeal.Value.res_main_v32 m' c : S16384x512.Idx → EReal) (((cfg0.win 4).blk t).view.emb y) := fun y => by
    rw [show y = ix2 (y 0) (y 1) from eq_ix2 y]
    exact key (y 0) (y 1)
  exact hy y

end Cert.KernelIdeal.Fox
-- ==== Proof.Pre.lean ====
module

public import proofs.«01_k».proof.Pre_finite
public import Idealize.ShloMosaic.Lib.ReduceAll
public import Idealize.ShloMosaic.Lib.Affine
public import Idealize.ShloMosaic.Lib.Pointwise

/-!
The precondition read off: every query, key and gate is a real number.
-/

@[expose] public section
set_option maxRecDepth 16384
noncomputable section
open Idealize.ShloMosaic
namespace Cert.Fox
open Cert.Pre_finite

/-- The word of the largest bound reads `⊤`. -/
theorem bound_top : Ideal.ofBits .f32 2139095040#32 = ⊤ := by
  simp [Ideal.ofBits, Ideal.ieee, show (BitVec.extractLsb' 31 1 (2139095040#32 : BitVec 32)) = 0#1 by decide]

/-- A value whose magnitude lies below `⊤` is real. -/
theorem real_of_abs {x : EReal} (h : BitVec.ofBool (decide (max x (-x) < ⊤)) = 1#1) : ∃ r : ℝ, x = (r : EReal) := by
  induction x with
  | bot => simp at h
  | coe r => exact ⟨r, rfl⟩
  | top => simp at h

/-- The comparison of a magnitude with the bound, as the precondition spells it, at an index. -/
theorem real_of_cmp {s : Shape} (x : FVec Ideal s .f32) (hb : S_.BroadcastsInDim s ![]) (i : s.Idx)
    (h : cmpf .olt (Host.absf x) (broadcastInDim s ![] hb (constant (F := Ideal) S_ .f32 0x7F800000#32)) i = 1#1) :
    ∃ r : ℝ, (x i : EReal) = r := by
  refine real_of_abs (Eq.trans ?_ h)
  rw [← bound_top]
  rfl

instance : Subsingleton S_.Idx := ⟨fun a b => funext fun i => i.elim0⟩

/-- The precondition makes queries, keys and gates real. -/
theorem pre_real [Facts] (x0 x1 x2 : FVec Ideal S4x4096x8x64 .f32) (x3 : FVec Ideal S4x4096x8 .f32)
    (h : fn (F := Ideal) x0 x1 x2 x3 = fun _ => 1#1) :
    (∀ i, ∃ r : ℝ, (x0 i : EReal) = r) ∧ (∀ i, ∃ r : ℝ, (x1 i : EReal) = r) ∧ (∀ i, ∃ r : ℝ, (x3 i : EReal) = r) := by
  have h' := congrFun h ix0
  dsimp only [fn] at h'
  obtain ⟨h01, h3⟩ := IntOp.andi_eq_one.1 h'
  obtain ⟨h0, h1⟩ := IntOp.andi_eq_one.1 h01
  exact ⟨fun i => real_of_cmp x0 _ i (Host.reduce_andi_all _ _ _ _ _ h0 i), fun i => real_of_cmp x1 _ i (Host.reduce_andi_all _ _ _ _ _ h1 i),
    fun i => real_of_cmp x3 _ i (Host.reduce_andi_all _ _ _ _ _ h3 i)⟩

end Cert.Fox
-- ==== Proof.Swiglu.lean ====
module

public import Idealize.ShloMosaic.Lib.Pipeline.ValueKit
public import Idealize.ShloMosaic.Lib.Pointwise

/-!
The mathematics of the gated feed-forward layer: one hidden unit, the sum over the hidden units, and the same sum taken
chunk by chunk. Over the extended reals addition is associative and commutative, so nothing is asked of the values.
-/

@[expose] public section
noncomputable section
open Idealize.ShloMosaic
namespace Cert.Swiglu

/-- A hidden unit: the gate's activation `a / (1 + exp (-a))` times the other product. -/
def unit (a b : EReal) : EReal := a * Ideal.div 1 (1 + Ideal.exp (-a)) * b

/-- A row scaled by the reciprocal root of its mean square (over 1024 entries, and a small constant) and by `g`. -/
def nrm {D : ℕ} (x g : Fin D → EReal) (k : Fin D) : EReal :=
  x k * Ideal.rsqrt (Ideal.div (∑ k, x k * x k) (Ideal.ofBits .f32 1149239296#32) + Ideal.ofBits .f32 897988541#32) * g k

/-- The contribution of hidden unit `n` to one output entry, from the row `x`, the columns of the gate and of the other matrix,
and the entry's column of the last matrix; zero beyond the last hidden unit. -/
def term {D H : ℕ} (x : Fin D → EReal) (wg wu : Fin D → Fin H → EReal) (wd : Fin H → EReal) (n : ℕ) : EReal :=
  if h : n < H then unit (∑ k, x k * wg k ⟨n, h⟩) (∑ k, x k * wu k ⟨n, h⟩) * wd ⟨n, h⟩ else 0

/-- The sum over the first `n` chunks of `w` hidden units. -/
def part {D H : ℕ} (w : ℕ) (x : Fin D → EReal) (wg wu : Fin D → Fin H → EReal) (wd : Fin H → EReal) (n : ℕ) : EReal :=
  ∑ j ∈ Finset.range n, ∑ e : Fin w, term x wg wu wd (j * w + e.1)

/-- The sum over all hidden units. -/
def full {D H : ℕ} (x : Fin D → EReal) (wg wu : Fin D → Fin H → EReal) (wd : Fin H → EReal) : EReal :=
  ∑ h : Fin H, unit (∑ k, x k * wg k h) (∑ k, x k * wu k h) * wd h

section
variable {D H : ℕ} (w : ℕ) (x : Fin D → EReal) (wg wu : Fin D → Fin H → EReal) (wd : Fin H → EReal)

theorem part_zero : part w x wg wu wd 0 = 0 := by unfold part; rw [Finset.sum_range_zero]

theorem part_succ (n : ℕ) : part w x wg wu wd (n + 1) = part w x wg wu wd n + ∑ e : Fin w, term x wg wu wd (n * w + e.1) := by
  unfold part; rw [Finset.sum_range_succ]

/-- A sum over chunks is a sum over the whole range. -/
theorem chunks (f : ℕ → EReal) (n : ℕ) : ∑ j ∈ Finset.range n, ∑ e : Fin w, f (j * w + e.1) = ∑ i ∈ Finset.range (n * w), f i := by
  induction n with
  | zero => simp
  | succ n ih =>
    rw [Finset.sum_range_succ, ih, Nat.succ_mul, Finset.sum_range_add f (n * w) w]
    congr 1
    exact (Finset.sum_range fun e => f (n * w + e)).symm

/-- After as many chunks as there are, the sum is over all hidden units. -/
theorem part_full (n : ℕ) (h : n * w = H) : part w x wg wu wd n = full x wg wu wd := by
  unfold part full
  rw [chunks w, h, Finset.sum_range]
  exact Finset.sum_congr rfl fun i _ => by unfold term; rw [dif_pos i.2]

/-- The hidden unit with the negation written as a difference. -/
theorem unit_sub (a b : EReal) : a * Ideal.div 1 (1 + Ideal.exp (0 - a)) * b = unit a b := by
  unfold unit; rw [sub_eq_add_neg, zero_add]
end

end Cert.Swiglu
end
-- ==== Proof.DensePay.lean ====
module

public import proofs.«01_k».proof.Proof.Swiglu
public import proofs.«01_k».proof.Proof.Gen.DenseIdeal.Value

/-!
The dense feed-forward kernel's vector expressions at one index: the normalized row, one chunk's step of the sum, and the
value that is stored.
-/

@[expose] public section
set_option maxRecDepth 16384
noncomputable section
open Idealize.ShloMosaic Idealize.ShloMosaic.TcCoe Idealize.SL.Sem
namespace Cert.DenseIdeal.Ffn
open Cert.DenseIdeal Cert.DenseIdeal.Gen Cert.Swiglu

variable (x a : Vec Ideal S1024x1024 .f32) (g : Vec Ideal S1x1024 .f32) (h : Vec Ideal S1024x1024 .bf16)
  (wg wu : Vec Ideal S1x1024x256 .bf16) (wd : Vec Ideal S1x256x1024 .bf16) (r d : Fin 1024)

/-- The stored value. -/
theorem pay1_at : k0_pay1 x a (ix2 r d) = x (ix2 r d) + a (ix2 r d) := by pointwise [k0_pay1]

/-- The normalized row. -/
theorem pay2_at : k0_pay2 x g (ix2 r d) = nrm (fun k => x (ix2 r k)) (fun k => g (ix2 0 k)) d := by
  unfold nrm
  pointwise [k0_pay2]

/-- The sum's start. -/
theorem pay3_at : k0_pay3 (F := Ideal) (ix2 r d) = 0 := by pointwise [k0_pay3]

/-- One chunk's step. -/
theorem pay4_at : k0_pay4 a h wg wu wd (ix2 r d) = a (ix2 r d) +
    ∑ e : Fin 256, unit (∑ k, h (ix2 r k) * wg (ix3 0 k e)) (∑ k, h (ix2 r k) * wu (ix3 0 k e)) * wd (ix3 0 e d) := by
  simp only [← unit_sub]
  pointwise [k0_pay4]

end Cert.DenseIdeal.Ffn
end
-- ==== Proof.DenseHost.lean ====
module

public import proofs.«01_k».proof.Proof.DensePay

/-!
What the host code hands to the dense feed-forward kernel, read at an index in terms of the arguments, and the blocks of a
grid point.
-/

@[expose] public section
set_option maxRecDepth 16384
noncomputable section
open Idealize.ShloMosaic Idealize.ShloMosaic.TcCoe Idealize.SL.Sem
namespace Cert.DenseIdeal.Ffn
open Cert.DenseIdeal Cert.DenseIdeal.Gen Cert.Swiglu

section
variable (m : (ℓ : Loc nD τ sig) → Buf (Elt Ideal) ℓ) (c : Dev nD)

/-- The rows. -/
abbrev argX : S4x4096x1024.Idx → EReal := m ((c.tc : Thread nD τ).loc main_arg0)
/-- The scale of the norm. -/
abbrev argS : S1024.Idx → EReal := m ((c.tc : Thread nD τ).loc main_arg1)
/-- The gate's weights. -/
abbrev argG : S1x1024x2816.Idx → EReal := m ((c.tc : Thread nD τ).loc main_arg2)
/-- The other product's weights. -/
abbrev argU : S1x1024x2816.Idx → EReal := m ((c.tc : Thread nD τ).loc main_arg3)
/-- The last matrix. -/
abbrev argD : S1x2816x1024.Idx → EReal := m ((c.tc : Thread nD τ).loc main_arg4)

theorem read_g (k : Fin 1024) (h : Fin 2816) : (V m c main_v0 : S1x1024x2816.Idx → Ideal .bf16) (ix3 0 k h) = argG m c (ix3 0 k h) := by
  simp only [V, List.flatten_cons, List.flatten_nil, hostOps0, List.cons_append, List.nil_append, List.append_nil]
  entry_read
  pointwise

theorem read_u (k : Fin 1024) (h : Fin 2816) : (V m c main_v1 : S1x1024x2816.Idx → Ideal .bf16) (ix3 0 k h) = argU m c (ix3 0 k h) := by
  simp only [V, List.flatten_cons, List.flatten_nil, hostOps0, List.cons_append, List.nil_append, List.append_nil]
  entry_read
  pointwise

theorem read_d (h : Fin 2816) (d : Fin 1024) : (V m c main_v2 : S1x2816x1024.Idx → Ideal .bf16) (ix3 0 h d) = argD m c (ix3 0 h d) := by
  simp only [V, List.flatten_cons, List.flatten_nil, hostOps0, List.cons_append, List.nil_append, List.append_nil]
  entry_read
  pointwise

theorem read_x (n : Fin 16384) (k : Fin 1024) : (V m c main_v3 : S16384x1024.Idx → Ideal .f32) (ix2 n k)
    = argX m c (ix3 ⟨n.1 / 4096, by omega⟩ ⟨n.1 % 4096, by omega⟩ k) := by
  simp only [V, List.flatten_cons, List.flatten_nil, hostOps0, List.cons_append, List.nil_append, List.append_nil]
  entry_read
  pointwise

theorem read_s (k : Fin 1024) : (V m c main_v4 : S1x1024.Idx → Ideal .f32) (ix2 0 k) = argS m c (ix1 k) := by
  simp only [V, List.flatten_cons, List.flatten_nil, hostOps0, List.cons_append, List.nil_append, List.append_nil]
  entry_read
  pointwise
end

/-- The windows' index maps over the grid of row blocks and chunks of hidden units. -/
theorem idx : ∀ t : Fin cfg0.N,
    win0_0.index t = ![t.1 / 11, 0]
    ∧ win0_1.index t = ![0, 0]
    ∧ win0_2.index t = ![0, 0, t.1 % 11]
    ∧ win0_3.index t = ![0, 0, t.1 % 11]
    ∧ win0_4.index t = ![0, t.1 % 11, 0]
    ∧ win0_5.index t = ![t.1 / 11, 0] :=
  (by decide +kernel : ∀ t : Fin grid0.N, _)

section
variable (m : (ℓ : Loc nD τ sig) → Buf (Elt Ideal) ℓ) (c : Dev nD) (t : Fin cfg0.N)

/-- The block of rows. -/
theorem blk_x (r k : Fin 1024) (n : Fin 16384) (hn : n.1 = t.1 / 11 * 1024 + r.1) :
    (iblk m c 0 t : S1024x1024.Idx → EReal) (ix2 r k) = (V m c main_v3 : S16384x1024.Idx → EReal) (ix2 n k) := by
  show (V m c main_v3 : S16384x1024.Idx → EReal) (((cfg0.win 0).blk t).view.emb (ix2 r k)) = _
  have h0 : ((((cfg0.win 0).blk t).view.emb (ix2 r k) : S16384x1024.Idx) 0).val = n.1 := by blk_simp [idx t]; rw [hn]
  have h1 : ((((cfg0.win 0).blk t).view.emb (ix2 r k) : S16384x1024.Idx) 1).val = k.1 := by blk_simp [idx t]
  exact congrArg _ (funext (Fin.forall_fin_two.2 ⟨Fin.ext h0, Fin.ext h1⟩))

/-- The scale. -/
theorem blk_s (k : Fin 1024) : (iblk m c 1 t : S1x1024.Idx → EReal) (ix2 0 k) = (V m c main_v4 : S1x1024.Idx → EReal) (ix2 0 k) := by
  show (V m c main_v4 : S1x1024.Idx → EReal) (((cfg0.win 1).blk t).view.emb (ix2 0 k)) = _
  have h0 : ((((cfg0.win 1).blk t).view.emb (ix2 0 k) : S1x1024.Idx) 0).val = 0 := by blk_simp [idx t]; rfl
  have h1 : ((((cfg0.win 1).blk t).view.emb (ix2 0 k) : S1x1024.Idx) 1).val = k.1 := by blk_simp [idx t]
  exact congrArg _ (funext (Fin.forall_fin_two.2 ⟨Fin.ext h0, Fin.ext h1⟩))

/-- The gate's chunk. -/
theorem blk_g (k : Fin 1024) (e : Fin 256) (h : Fin 2816) (hh : h.1 = t.1 % 11 * 256 + e.1) :
    (iblk m c 2 t : S1x1024x256.Idx → EReal) (ix3 0 k e) = (V m c main_v0 : S1x1024x2816.Idx → EReal) (ix3 0 k h) := by
  show (V m c main_v0 : S1x1024x2816.Idx → EReal) (((cfg0.win 2).blk t).view.emb (ix3 0 k e)) = _
  have h0 : ((((cfg0.win 2).blk t).view.emb (ix3 0 k e) : S1x1024x2816.Idx) 0).val = 0 := by blk_simp [idx t]; rfl
  have h1 : ((((cfg0.win 2).blk t).view.emb (ix3 0 k e) : S1x1024x2816.Idx) 1).val = k.1 := by blk_simp [idx t]
  have h2 : ((((cfg0.win 2).blk t).view.emb (ix3 0 k e) : S1x1024x2816.Idx) 2).val = h.1 := by blk_simp [idx t]; rw [hh]
  exact congrArg _ (funext (Fin.forall_fin_succ.2 ⟨Fin.ext h0, Fin.forall_fin_two.2 ⟨Fin.ext h1, Fin.ext h2⟩⟩))

/-- The other product's chunk. -/
theorem blk_u (k : Fin 1024) (e : Fin 256) (h : Fin 2816) (hh : h.1 = t.1 % 11 * 256 + e.1) :
    (iblk m c 3 t : S1x1024x256.Idx → EReal) (ix3 0 k e) = (V m c main_v1 : S1x1024x2816.Idx → EReal) (ix3 0 k h) := by
  show (V m c main_v1 : S1x1024x2816.Idx → EReal) (((cfg0.win 3).blk t).view.emb (ix3 0 k e)) = _
  have h0 : ((((cfg0.win 3).blk t).view.emb (ix3 0 k e) : S1x1024x2816.Idx) 0).val = 0 := by blk_simp [idx t]; rfl
  have h1 : ((((cfg0.win 3).blk t).view.emb (ix3 0 k e) : S1x1024x2816.Idx) 1).val = k.1 := by blk_simp [idx t]
  have h2 : ((((cfg0.win 3).blk t).view.emb (ix3 0 k e) : S1x1024x2816.Idx) 2).val = h.1 := by blk_simp [idx t]; rw [hh]
  exact congrArg _ (funext (Fin.forall_fin_succ.2 ⟨Fin.ext h0, Fin.forall_fin_two.2 ⟨Fin.ext h1, Fin.ext h2⟩⟩))

/-- The last matrix's chunk. -/
theorem blk_d (e : Fin 256) (d : Fin 1024) (h : Fin 2816) (hh : h.1 = t.1 % 11 * 256 + e.1) :
    (iblk m c 4 t : S1x256x1024.Idx → EReal) (ix3 0 e d) = (V m c main_v2 : S1x2816x1024.Idx → EReal) (ix3 0 h d) := by
  show (V m c main_v2 : S1x2816x1024.Idx → EReal) (((cfg0.win 4).blk t).view.emb (ix3 0 e d)) = _
  have h0 : ((((cfg0.win 4).blk t).view.emb (ix3 0 e d) : S1x2816x1024.Idx) 0).val = 0 := by blk_simp [idx t]; rfl
  have h1 : ((((cfg0.win 4).blk t).view.emb (ix3 0 e d) : S1x2816x1024.Idx) 1).val = h.1 := by blk_simp [idx t]; rw [hh]
  have h2 : ((((cfg0.win 4).blk t).view.emb (ix3 0 e d) : S1x2816x1024.Idx) 2).val = d.1 := by blk_simp [idx t]
  exact congrArg _ (funext (Fin.forall_fin_succ.2 ⟨Fin.ext h0, Fin.forall_fin_two.2 ⟨Fin.ext h1, Fin.ext h2⟩⟩))

/-- The place of an output entry. -/
theorem place (r d : Fin 1024) (n : Fin 16384) (hn : n.1 = t.1 / 11 * 1024 + r.1) :
    (((cfg0.win 5).blk t).view.emb (ix2 r d) : S16384x1024.Idx) = ix2 n d := by
  have h0 : ((((cfg0.win 5).blk t).view.emb (ix2 r d) : S16384x1024.Idx) 0).val = n.1 := by blk_simp [idx t]; rw [hn]
  have h1 : ((((cfg0.win 5).blk t).view.emb (ix2 r d) : S16384x1024.Idx) 1).val = d.1 := by blk_simp [idx t]
  exact funext (Fin.forall_fin_two.2 ⟨Fin.ext h0, Fin.ext h1⟩)
end

end Cert.DenseIdeal.Ffn
end
-- ==== Proof.DenseBlock.lean ====
module

public import proofs.«01_k».proof.Proof.DenseHost

/-!
What the cases of the dense feed-forward kernel's body leave in the two scratch buffers and in the output's block.
-/

@[expose] public section
set_option maxRecDepth 16384
noncomputable section
open Idealize.ShloMosaic Idealize.ShloMosaic.TcCoe Idealize.SL.Sem
namespace Cert.DenseIdeal.Ffn
open Cert.DenseIdeal Cert.DenseIdeal.Gen Cert.Swiglu

variable (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S1x256x1024 .bf16) (harg6 : arg6.IsWhole) (arg7 : Memref sig .tc .vmem S1024x1024 .f32) (harg7 : arg7.IsWhole) (arg8 : Memref sig .tc .vmem S1024x1024 .bf16) (harg8 : arg8.IsWhole) (arg9 : Memref sig .tc .vmem S1024x1024 .f32) (harg9 : arg9.IsWhole)
    (x0 : Vec Ideal S1024x1024 .f32) (x1 : Vec Ideal S1x1024 .f32) (x2 x3 : Vec Ideal S1x1024x256 .bf16) (x4 : Vec Ideal S1x256x1024 .bf16)
    (xs0 : Vec Ideal S1024x1024 .bf16) (xs1 : Vec Ideal S1024x1024 .f32)

/-- The first chunk's point keeps the normalized rows. -/
theorem soutA0 (hc0 : cond0_0 i) (hc1 : ¬cond0_1 i) :
    sout0_A_0 c i arg2 harg2 arg3 harg3 arg4 harg4 arg5 harg5 arg6 harg6 arg7 harg7 arg8 harg8 arg9 harg9 hc0 hc1 x0 x1 x2 x3 x4 = k0_pay2 x0 x1 := by
  frame_out

/-- The first chunk's point sets the sum to its own step from zero. -/
theorem soutA1 (hc0 : cond0_0 i) (hc1 : ¬cond0_1 i) :
    sout0_A_1 c i arg2 harg2 arg3 harg3 arg4 harg4 arg5 harg5 arg6 harg6 arg7 harg7 arg8 harg8 arg9 harg9 hc0 hc1 x0 x1 x2 x3 x4 = k0_pay4 k0_pay3 (k0_pay2 x0 x1) x2 x3 x4 := by
  frame_out

/-- A middle chunk's point adds its step. -/
theorem soutB1 (hc0 : ¬cond0_0 i) (hc1 : ¬cond0_1 i) :
    sout0_B_1 c i arg2 harg2 arg3 harg3 arg4 harg4 arg5 harg5 arg6 harg6 arg7 harg7 arg8 harg8 arg9 harg9 hc0 hc1 x0 x1 x2 x3 x4 xs0 xs1 = k0_pay4 xs1 xs0 x2 x3 x4 := by
  frame_out

/-- The last chunk's point stores the rows plus the whole sum. -/
theorem outC (hc0 : ¬cond0_0 i) (hc1 : cond0_1 i) :
    out0_C_5 c i arg2 harg2 arg3 harg3 arg4 harg4 arg5 harg5 arg6 harg6 arg7 harg7 arg8 harg8 arg9 harg9 hc0 hc1 x0 x1 x2 x3 x4 xs0 xs1 = k0_pay1 x0 (k0_pay4 xs1 xs0 x2 x3 x4) := by
  frame_out

end Cert.DenseIdeal.Ffn
end
-- ==== Proof.DenseRef.lean ====
module

public import proofs.«01_k».proof.Proof.Swiglu
public import proofs.«01_k».proof.Proof.Gen.DenseReferenceIdeal.Run

/-!
The dense feed-forward layer's reference, read at an index.
-/

@[expose] public section
set_option maxRecDepth 16384
noncomputable section
open Idealize.ShloMosaic Idealize.ShloMosaic.TcCoe Idealize.SL.Sem
namespace Cert.DenseReferenceIdeal.Ffn
open Cert.DenseReferenceIdeal Cert.DenseReferenceIdeal.Gen Cert.Swiglu

variable (X : FVec Ideal S4x4096x1024 .f32) (s : FVec Ideal S1024 .f32) (wg wu : FVec Ideal S1x1024x2816 .f32) (wd : FVec Ideal S1x2816x1024 .f32)

/-- The normalized rows. -/
def hrow : FVec Ideal S4x4096x1024 .f32 :=
  mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 s))

/-- The rows times a matrix of the hidden units. -/
def prod (h : FVec Ideal S4x4096x1024 .f32) (w : FVec Ideal S1x1024x2816 .f32) : FVec Ideal S4x4096x2816 .f32 :=
  Host.dotGeneral (φ₁ := .f32) (φ₂ := .f32) dot_S4x4096x1024_S1024x2816_S4x4096x2816_2_0_01_1_n_n none h (shapeCast _ w shapeCasts_S1x1024x2816_S1024x2816)

/-- The activation. -/
def act (a : FVec Ideal S4x4096x2816 .f32) : FVec Ideal S4x4096x2816 .f32 :=
  mulf a (Host.divf (broadcastInDim S4x4096x2816 ![] bcast_S_S4x4096x2816 (constant S_ .f32 0x3F800000#32)) (addf (broadcastInDim S4x4096x2816 ![] bcast_S_S4x4096x2816 (constant S_ .f32 0x3F800000#32)) (Host.exp (Host.negf a))))

/-- The layer. -/
def layer (a b : FVec Ideal S4x4096x2816 .f32) : FVec Ideal S16384x1024 .f32 :=
  shapeCast _ (addf X (Host.dotGeneral (φ₁ := .f32) (φ₂ := .f32) dot_S4x4096x2816_S2816x1024_S4x4096x1024_2_0_01_1_n_n none (mulf (act a) b) (shapeCast _ wd shapeCasts_S1x2816x1024_S2816x1024))) shapeCasts_S4x4096x1024_S16384x1024

theorem hrow_at (b : Fin 4) (t : Fin 4096) (k : Fin 1024) : hrow X s (ix3 b t k) = nrm (fun k => X (ix3 b t k)) (fun k => s (ix1 k)) k := by
  unfold hrow nrm
  pointwise

theorem prod_at (h : FVec Ideal S4x4096x1024 .f32) (w : FVec Ideal S1x1024x2816 .f32) (b : Fin 4) (t : Fin 4096) (e : Fin 2816) :
    prod h w (ix3 b t e) = ∑ k : Fin 1024, h (ix3 b t k) * w (ix3 0 k e) := by
  unfold prod
  pointwise

theorem act_at (a b : FVec Ideal S4x4096x2816 .f32) (x : Fin 4) (t : Fin 4096) (e : Fin 2816) :
    mulf (act a) b (ix3 x t e) = unit (a (ix3 x t e)) (b (ix3 x t e)) := by
  unfold unit act
  pointwise

theorem layer_at (a b : FVec Ideal S4x4096x2816 .f32) (n : Fin 16384) (d : Fin 1024) :
    layer X wd a b (ix2 n d) = X (ix3 ⟨n.1 / 4096, by omega⟩ ⟨n.1 % 4096, by omega⟩ d) +
      ∑ e : Fin 2816, mulf (act a) b (ix3 ⟨n.1 / 4096, by omega⟩ ⟨n.1 % 4096, by omega⟩ e) * wd (ix3 0 e d) := by
  unfold layer
  generalize mulf (act a) b = u
  pointwise

/-- The reference's result at a row and an entry. -/
theorem ref_at (n : Fin 16384) (d : Fin 1024) :
    layer X wd (prod (hrow X s) wg) (prod (hrow X s) wu) (ix2 n d) = X (ix3 ⟨n.1 / 4096, by omega⟩ ⟨n.1 % 4096, by omega⟩ d) +
      full (nrm (fun k => X (ix3 ⟨n.1 / 4096, by omega⟩ ⟨n.1 % 4096, by omega⟩ k)) (fun k => s (ix1 k)))
        (fun k h => wg (ix3 0 k h)) (fun k h => wu (ix3 0 k h)) (fun h => wd (ix3 0 h d)) := by
  rw [layer_at]
  unfold full
  simp only [act_at, prod_at, hrow_at]

/-- On every device the reference ends with that layer of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = layer (m ((c.tc : Thread nD τ).loc main_arg0)) (m ((c.tc : Thread nD τ).loc main_arg4))
          (prod (hrow (m ((c.tc : Thread nD τ).loc main_arg0)) (m ((c.tc : Thread nD τ).loc main_arg1))) (m ((c.tc : Thread nD τ).loc main_arg2)))
          (prod (hrow (m ((c.tc : Thread nD τ).loc main_arg0)) (m ((c.tc : Thread nD τ).loc main_arg1))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by unfold layer act prod hrow; rfl), (h c).2⟩) (Cert.DenseReferenceIdeal.Value.run (F := Ideal) m ρ)

end Cert.DenseReferenceIdeal.Ffn
end
-- ==== Proof.DenseFinal.lean ====
module

public import proofs.«01_k».proof.Proof.DenseBlock
public import proofs.«01_k».proof.Proof.DenseRef

/-!
The dense feed-forward kernel's output array is the reference's result: along a row block's chunks the scratch holds the
normalized rows and the sum over the chunks so far, and after the last chunk the whole sum is stored.
-/

@[expose] public section
set_option maxRecDepth 16384
noncomputable section
open Idealize.ShloMosaic Idealize.ShloMosaic.TcCoe Idealize.SL.Sem
namespace Cert.DenseIdeal.Ffn
open Cert.DenseIdeal Cert.DenseIdeal.Gen Cert.Swiglu

variable (m : (ℓ : Loc nD τ sig) → Buf (Elt Ideal) ℓ) (c : Dev nD)

/-- Row `n` of the rows. -/
abbrev xrow (n : Fin 16384) (k : Fin 1024) : EReal := argX m c (ix3 ⟨n.1 / 4096, by omega⟩ ⟨n.1 % 4096, by omega⟩ k)
/-- Row `n`, normalized. -/
abbrev nrow (n : Fin 16384) : Fin 1024 → EReal := nrm (xrow m c n) (fun k => argS m c (ix1 k))
/-- The sum over the first `j` chunks at row `n` and entry `d`. -/
abbrev psum (n : Fin 16384) (d : Fin 1024) (j : ℕ) : EReal :=
  part 256 (nrow m c n) (fun k h => argG m c (ix3 0 k h)) (fun k h => argU m c (ix3 0 k h)) (fun h => argD m c (ix3 0 h d)) j

/-- What a row block's first point keeps is the normalized rows. -/
theorem norm_at (t : Fin cfg0.N) (r k : Fin 1024) (n : Fin 16384) (hn : n.1 = t.1 / 11 * 1024 + r.1) :
    k0_pay2 (iblk m c 0 t) (iblk m c 1 t) (ix2 r k) = nrow m c n k := by
  rw [pay2_at]
  unfold nrow
  congr 1
  · funext k'; exact (blk_x m c t r k' n hn).trans (read_x m c n k')
  · funext k'; exact (blk_s m c t k').trans (read_s m c k')

/-- A point's step adds its chunk of hidden units. -/
theorem step_at (t : Fin cfg0.N) (a : Vec Ideal S1024x1024 .f32) (h : Vec Ideal S1024x1024 .bf16) (r d : Fin 1024) (n : Fin 16384)
    (hh : ∀ k, h (ix2 r k) = nrow m c n k) (ha : a (ix2 r d) = psum m c n d (t.1 % 11)) :
    k0_pay4 a h (iblk m c 2 t) (iblk m c 3 t) (iblk m c 4 t) (ix2 r d) = psum m c n d (t.1 % 11 + 1) := by
  rw [pay4_at, ha]
  unfold psum
  rw [part_succ]
  congr 1
  refine Finset.sum_congr rfl fun e _ => ?_
  have hm : t.1 % 11 < 11 := Nat.mod_lt _ (by decide)
  have hlt : t.1 % 11 * 256 + e.1 < 2816 := by have := e.2; omega
  unfold term
  rw [dif_pos hlt]
  have hg : ∀ k, (iblk m c 2 t : S1x1024x256.Idx → EReal) (ix3 0 k e) = argG m c (ix3 0 k ⟨t.1 % 11 * 256 + e.1, hlt⟩) :=
    fun k => (blk_g m c t k e ⟨_, hlt⟩ rfl).trans (read_g m c k _)
  have hu : ∀ k, (iblk m c 3 t : S1x1024x256.Idx → EReal) (ix3 0 k e) = argU m c (ix3 0 k ⟨t.1 % 11 * 256 + e.1, hlt⟩) :=
    fun k => (blk_u m c t k e ⟨_, hlt⟩ rfl).trans (read_u m c k _)
  have hd : (iblk m c 4 t : S1x256x1024.Idx → EReal) (ix3 0 e d) = argD m c (ix3 0 ⟨t.1 % 11 * 256 + e.1, hlt⟩ d) :=
    (blk_d m c t e d ⟨_, hlt⟩ rfl).trans (read_d m c _ d)
  simp only [hh, hg, hu, hd]

/-- Before a row block's last point the scratch holds the normalized rows and the sum so far. -/
theorem state_at : ∀ (j : ℕ) (t : Fin cfg0.N), t.1 % 11 = j → j < 10 → ∀ (r : Fin 1024) (n : Fin 16384), n.1 = t.1 / 11 * 1024 + r.1 →
    (∀ k, (outsAt0 m c t.1 t.isLt).2.1 (ix2 r k) = nrow m c n k) ∧ (∀ d, (outsAt0 m c t.1 t.isLt).2.2 (ix2 r d) = psum m c n d (j + 1))
  | 0, t, ht, _, r, n, hn => by
    rw [outsAt0_A m c t ht (by omega)]
    dsimp only
    rw [soutA0, soutA1]
    refine ⟨fun k => norm_at m c t r k n hn, fun d => ?_⟩
    have := step_at m c t (k0_pay3 (F := Ideal)) _ r d n (fun k => norm_at m c t r k n hn) (by rw [pay3_at, ht]; exact (part_zero ..).symm)
    rwa [ht] at this
  | j + 1, t, ht, hj, r, n, hn => by
    have hprev := state_at j ⟨t.1 - 1, Nat.lt_of_le_of_lt (Nat.sub_le _ _) t.isLt⟩ (by dsimp only; omega) (by omega) r n (by dsimp only; omega)
    dsimp only at hprev
    rw [outsAt0_B m c t (by omega) (by omega)]
    dsimp only
    rw [soutB1]
    refine ⟨fun k => hprev.1 k, fun d => ?_⟩
    have := step_at m c t (outsAt0 m c (t.val - 1) (Nat.lt_of_le_of_lt (Nat.sub_le _ _) t.isLt)).2.2 _ r d n (fun k => hprev.1 k) (by rw [ht]; exact hprev.2 d)
    rwa [ht] at this

/-- What a row block's last point stores. -/
theorem out_at (t : Fin cfg0.N) (ht : t.1 % 11 = 10) (r d : Fin 1024) (n : Fin 16384) (hn : n.1 = t.1 / 11 * 1024 + r.1) :
    (outsAt0 m c t.1 t.isLt).1 (ix2 r d) = xrow m c n d +
      full (nrow m c n) (fun k h => argG m c (ix3 0 k h)) (fun k h => argU m c (ix3 0 k h)) (fun h => argD m c (ix3 0 h d)) := by
  have hprev := state_at m c 9 ⟨t.1 - 1, Nat.lt_of_le_of_lt (Nat.sub_le _ _) t.isLt⟩ (by dsimp only; omega) (by omega) r n (by dsimp only; omega)
  dsimp only at hprev
  rw [outsAt0_C m c t (by omega) ht]
  dsimp only
  rw [outC, pay1_at]
  have h1 := step_at m c t (outsAt0 m c (t.val - 1) (Nat.lt_of_le_of_lt (Nat.sub_le _ _) t.isLt)).2.2 _ r d n (fun k => hprev.1 k) (by rw [ht]; exact hprev.2 d)
  rw [h1, ht]
  unfold psum
  rw [part_full 256 _ _ _ _ (10 + 1) (by norm_num)]
  congr 1
  exact (blk_x m c t r d n hn).trans (read_x m c n d)

section
open Cert.DenseReferenceIdeal.Ffn (layer prod hrow ref_at)

/-- The reference's layer of the arguments. -/
abbrev target : S16384x1024.Idx → EReal :=
  layer (argX m c) (argD m c) (prod (hrow (argX m c) (argS m c)) (argG m c)) (prod (hrow (argX m c) (argS m c)) (argU m c))

/-- The kernel's output array is the reference's layer of the arguments. -/
theorem final_eq : ((dats m 0 c).arrAt 5 cfg0.N : S16384x1024.Idx → EReal) = target m c := by
  refine (dats m 0 c).arrAt_eq_of_covers 5 (target m c) (by decide +kernel) fun t hf y => ?_
  blk_simp
  rw [after0_5]
  have ht : t.1 % 11 = 10 := (by decide +kernel : ∀ t : Fin cfg0.N, (cfg0.win 5).flush t = true → t.1 % 11 = 10) t hf
  have hN : t.1 < 176 := t.2
  have hy : ∀ y : S1024x1024.Idx, (outsAt0 m c t.1 t.isLt).1 y = target m c (((cfg0.win 5).blk t).view.emb y) := fun y => by
    obtain ⟨r, d, rfl⟩ : ∃ r d, y = ix2 r d := ⟨y 0, y 1, eq_ix2 y⟩
    have hlt : t.1 / 11 * 1024 + r.1 < 16384 := by have := r.2; omega
    rw [place t r d ⟨_, hlt⟩ rfl, out_at m c t ht r d ⟨_, hlt⟩ rfl]
    exact (ref_at (argX m c) (argS m c) (argG m c) (argU m c) (argD m c) _ d).symm
  exact hy y
end

end Cert.DenseIdeal.Ffn
end
-- ==== Proof.ExpertsIdealFrame.lean ====
module

public import proofs.«01_k».proof.Proof.Gen.ExpertsIdeal.Frame.RunC
public import Idealize.ShloMosaic.Lib.Claim

/-!
The launch set-up of the experts' call over the extended reals: what each point of its grid leaves, and the run.
-/

@[expose] public section

set_option maxRecDepth 16384

noncomputable section

namespace Cert.ExpertsIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A leaves the output's block alone: a placeholder nothing reads. -/
def out0_A_5 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) : Vec F S512x1024 .f32 :=
  VO0_5.read (Elt F) (VO0_5.writes (Elt F) VO0_5.junk (kernelRun0_A c i arg3 harg3 arg4 harg4 arg5 harg5 arg6 harg6 arg7 harg7 arg8 harg8 arg9 harg9 arg10 harg10 hc0 hc1 x0 x1 x2 x3 x4 xt0).1)

/-- Case A's stores fill scratch 0. -/
theorem scover0_A_0 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (y : S512x1024.Idx) :
    ∃ pc ∈ (kernelRun0_A c i arg3 harg3 arg4 harg4 arg5 harg5 arg6 harg6 arg7 harg7 arg8 harg8 arg9 harg9 arg10 harg10 hc0 hc1 x0 x1 x2 x3 x4 xt0).2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4 xt0).2.1 S512x1024.size (by sl_kernel_rfl) y

/-- What case A leaves in scratch 0. -/
def sout0_A_0 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) : Vec F S512x1024 .bf16 :=
  VS0_0.read (Elt F) (VS0_0.writes (Elt F) VS0_0.junk (kernelRun0_A c i arg3 harg3 arg4 harg4 arg5 harg5 arg6 harg6 arg7 harg7 arg8 harg8 arg9 harg9 arg10 harg10 hc0 hc1 x0 x1 x2 x3 x4 xt0).2.1)

/-- Case A's stores fill scratch 1. -/
theorem scover0_A_1 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (y : S512x1024.Idx) :
    ∃ pc ∈ (kernelRun0_A c i arg3 harg3 arg4 harg4 arg5 harg5 arg6 harg6 arg7 harg7 arg8 harg8 arg9 harg9 arg10 harg10 hc0 hc1 x0 x1 x2 x3 x4 xt0).2.2.1, y ∈ pc.1.set :=
  View.cover_of_tiledL (kernelRun0_A c i arg3 harg3 arg4 harg4 arg5 harg5 arg6 harg6 arg7 harg7 arg8 harg8 arg9 harg9 arg10 harg10 hc0 hc1 x0 x1 x2 x3 x4 xt0).2.2.1 S512x1024.size (by sl_kernel_rfl) y

/-- What case A leaves in scratch 1. -/
def sout0_A_1 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : cond0_0 i) (hc1 : ¬cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) : Vec F S512x1024 .f32 :=
  VS0_1.read (Elt F) (VS0_1.writes (Elt F) VS0_1.junk (kernelRun0_A c i arg3 harg3 arg4 harg4 arg5 harg5 arg6 harg6 arg7 harg7 arg8 harg8 arg9 harg9 arg10 harg10 hc0 hc1 x0 x1 x2 x3 x4 xt0).2.2.1)

/-- Case B leaves the output's block alone: a placeholder nothing reads. -/
def out0_B_5 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : ¬cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (xs0 : Vec F S512x1024 .bf16) (xs1 : Vec F S512x1024 .f32) : Vec F S512x1024 .f32 :=
  VO0_5.read (Elt F) (VO0_5.writes (Elt F) VO0_5.junk (kernelRun0_B c i arg3 harg3 arg4 harg4 arg5 harg5 arg6 harg6 arg7 harg7 arg8 harg8 arg9 harg9 arg10 harg10 hc0 hc1 x0 x1 x2 x3 x4 xt0 xs0 xs1).1)

/-- What case B leaves in scratch 0. -/
def sout0_B_0 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : ¬cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (xs0 : Vec F S512x1024 .bf16) (xs1 : Vec F S512x1024 .f32) : Vec F S512x1024 .bf16 := xs0

/-- Case B's stores fill scratch 1. -/
theorem scover0_B_1 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : ¬cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (xs0 : Vec F S512x1024 .bf16) (xs1 : Vec F S512x1024 .f32) (y : S512x1024.Idx) :
    ∃ pc ∈ (kernelRun0_B c i arg3 harg3 arg4 harg4 arg5 harg5 arg6 harg6 arg7 harg7 arg8 harg8 arg9 harg9 arg10 harg10 hc0 hc1 x0 x1 x2 x3 x4 xt0 xs0 xs1).2.2.1, y ∈ pc.1.set :=
  View.cover_of_tiledL (kernelRun0_B c i arg3 harg3 arg4 harg4 arg5 harg5 arg6 harg6 arg7 harg7 arg8 harg8 arg9 harg9 arg10 harg10 hc0 hc1 x0 x1 x2 x3 x4 xt0 xs0 xs1).2.2.1 S512x1024.size (by sl_kernel_rfl) y

/-- What case B leaves in scratch 1. -/
def sout0_B_1 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : ¬cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (xs0 : Vec F S512x1024 .bf16) (xs1 : Vec F S512x1024 .f32) : Vec F S512x1024 .f32 :=
  VS0_1.read (Elt F) (VS0_1.writes (Elt F) VS0_1.junk (kernelRun0_B c i arg3 harg3 arg4 harg4 arg5 harg5 arg6 harg6 arg7 harg7 arg8 harg8 arg9 harg9 arg10 harg10 hc0 hc1 x0 x1 x2 x3 x4 xt0 xs0 xs1).2.2.1)

/-- Case C's store fills the output's block. -/
theorem cover0_C_5 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (xs0 : Vec F S512x1024 .bf16) (xs1 : Vec F S512x1024 .f32) (y : S512x1024.Idx) :
    ∃ pc ∈ (kernelRun0_C c i arg3 harg3 arg4 harg4 arg5 harg5 arg6 harg6 arg7 harg7 arg8 harg8 arg9 harg9 arg10 harg10 hc0 hc1 x0 x1 x2 x3 x4 xt0 xs0 xs1).1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xt0 xs0 xs1).1 S512x1024.size (by sl_kernel_rfl) y

/-- What case C leaves in the output's block. -/
def out0_C_5 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (xs0 : Vec F S512x1024 .bf16) (xs1 : Vec F S512x1024 .f32) : Vec F S512x1024 .f32 :=
  VO0_5.read (Elt F) (VO0_5.writes (Elt F) VO0_5.junk (kernelRun0_C c i arg3 harg3 arg4 harg4 arg5 harg5 arg6 harg6 arg7 harg7 arg8 harg8 arg9 harg9 arg10 harg10 hc0 hc1 x0 x1 x2 x3 x4 xt0 xs0 xs1).1)

/-- What case C leaves in scratch 0. -/
def sout0_C_0 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (xs0 : Vec F S512x1024 .bf16) (xs1 : Vec F S512x1024 .f32) : Vec F S512x1024 .bf16 := xs0

/-- Case C's stores fill scratch 1. -/
theorem scover0_C_1 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (xs0 : Vec F S512x1024 .bf16) (xs1 : Vec F S512x1024 .f32) (y : S512x1024.Idx) :
    ∃ pc ∈ (kernelRun0_C c i arg3 harg3 arg4 harg4 arg5 harg5 arg6 harg6 arg7 harg7 arg8 harg8 arg9 harg9 arg10 harg10 hc0 hc1 x0 x1 x2 x3 x4 xt0 xs0 xs1).2.2.1, y ∈ pc.1.set :=
  View.cover_of_tiledL (kernelRun0_C c i arg3 harg3 arg4 harg4 arg5 harg5 arg6 harg6 arg7 harg7 arg8 harg8 arg9 harg9 arg10 harg10 hc0 hc1 x0 x1 x2 x3 x4 xt0 xs0 xs1).2.2.1 S512x1024.size (by sl_kernel_rfl) y

/-- What case C leaves in scratch 1. -/
def sout0_C_1 (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole) (hc0 : ¬cond0_0 i) (hc1 : cond0_1 i)
    (x0 : Vec F S512x1024 .bf16) (x1 : Vec F S1x1024 .f32) (x2 : Vec F S1x1024x512 .bf16) (x3 : Vec F S1x1024x512 .bf16) (x4 : Vec F S1x512x1024 .bf16) (xt0 : TbBuf0 (F := F) c tbM0_0) (xs0 : Vec F S512x1024 .bf16) (xs1 : Vec F S512x1024 .f32) : Vec F S512x1024 .f32 :=
  VS0_1.read (Elt F) (VS0_1.writes (Elt F) VS0_1.junk (kernelRun0_C c i arg3 harg3 arg4 harg4 arg5 harg5 arg6 harg6 arg7 harg7 arg8 harg8 arg9 harg9 arg10 harg10 hc0 hc1 x0 x1 x2 x3 x4 xt0 xs0 xs1).2.2.1)

/-- The output's block and the two scratch buffers after the body at point `n`. -/
def outsAt0 (hO : Ok m) (c : Dev nD) : (n : ℕ) → n < (cfgM m hO).N → Vec F S512x1024 .f32 × Vec F S512x1024 .bf16 × Vec F S512x1024 .f32
  | 0, hn => (out0_A_5 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0), sout0_A_0 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0), sout0_A_1 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (tbl m 0))
  | n + 1, hn =>
    if h0 : (n + 1) % 7 = 0 then
      if h1 : (n + 1) % 7 = 6 then
        False.elim (by have hN : n + 1 < 504 := lt_of_lt_of_eq hn (show (cfgM m hO).N = 504 from N_0); omega)
      else
        (out0_A_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0), sout0_A_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0), sout0_A_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0))
    else
      if h1 : (n + 1) % 7 = 6 then
        (out0_C_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2.1 (outsAt0 hO c n (Nat.lt_of_succ_lt hn)).2.2, sout0_C_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2.1 (outsAt0 hO c n (Nat.lt_of_succ_lt hn)).2.2, sout0_C_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2.1 (outsAt0 hO c n (Nat.lt_of_succ_lt hn)).2.2)
      else
        (out0_B_5 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2.1 (outsAt0 hO c n (Nat.lt_of_succ_lt hn)).2.2, sout0_B_0 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2.1 (outsAt0 hO c n (Nat.lt_of_succ_lt hn)).2.2, sout0_B_1 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (tbl m 0) (outsAt0 hO c n (Nat.lt_of_succ_lt hn)).2.1 (outsAt0 hO c n (Nat.lt_of_succ_lt hn)).2.2)

/-- The contents at a point of case A. -/
theorem outsAt0_A (hO : Ok m) (c : Dev nD) (t : Fin (cfgM m hO).N) (h0 : t.val % 7 = 0) (h1 : ¬t.val % 7 = 6) :
    outsAt0 m hO c t.val t.isLt = (out0_A_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (tbl m 0), sout0_A_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (tbl m 0), sout0_A_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) ((hcond0_0 t).mpr h0) (fun h => h1 ((hcond0_1 t).mp h)) (iblk m hO c 0 t) (iblk m hO c 1 t) (iblk m hO c 2 t) (iblk m hO c 3 t) (iblk m hO c 4 t) (tbl m 0)) := by
  obtain ⟨n, hn⟩ := t
  cases n with
  | zero => exact rfl
  | succ n => simp only [outsAt0, dif_pos h0, dif_neg h1]

/-- The contents at a point of case B. -/
theorem outsAt0_B (hO : Ok m) (c : Dev nD) (t : Fin (cfgM m hO).N) (h0 : ¬t.val % 7 = 0) (h1 : ¬t.val % 7 = 6) :
    outsAt0 m hO c t.val t.isLt = (out0_B_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_B_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) (fun h => h1 ((hcond0_1 t).mp h)) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => simp only [outsAt0, dif_neg h0, dif_neg h1, Nat.add_sub_cancel]

/-- The contents at a point of case C. -/
theorem outsAt0_C (hO : Ok m) (c : Dev nD) (t : Fin (cfgM m hO).N) (h0 : ¬t.val % 7 = 0) (h1 : t.val % 7 = 6) :
    outsAt0 m hO c t.val t.isLt = (out0_C_5 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_C_0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2, sout0_C_1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (fun h => h0 ((hcond0_0 t).mp h)) ((hcond0_1 t).mpr h1) (iblk m hO c 0 t) (iblk m hO c 1 t) (iblk m hO c 2 t) (iblk m hO c 3 t) (iblk m hO c 4 t) (tbl m 0) (outsAt0 m hO c (t.val - 1) (Nat.lt_of_le_of_lt (Nat.sub_le _ _) t.isLt)).2.1 (outsAt0 m hO c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => simp only [outsAt0, dif_neg h0, dif_pos h1, Nat.add_sub_cancel]

/-- What the launch keeps between points: the two scratch buffers at their contents, the generator and the table. -/
def PhiS (hO : Ok m) (c : Dev nD) : (n : ℕ) → n ≤ (cfgM m hO).N → sProp (MT nD τ sig Unit (Elt F) ℕ (UR sig nD τ) ℕ)
  | 0, _ => iprop(Pipeline.ΦA spec0 c ∗ Pipeline.ΦT pre0 (tbl m) c)
  | n + 1, hn => iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

/-- After a point. -/
theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.1) ∗ owns (c : Thread nD τ) scM0_1 fullShare ((outsAt0 m hO c n hn).2.2)) ∗ (∃ r, prngReg c r)) ∗ Pipeline.ΦT pre0 (tbl m) c) := rfl

/-- Before a later point. -/
theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.1) ∗ owns (c : Thread nD τ) scM0_1 fullShare ((outsAt0 m hO c (n - 1) (by omega)).2.2)) ∗ (∃ r, prngReg c r)) ∗ Pipeline.ΦT pre0 (tbl m) c) := by
  cases n with
  | zero => exact absurd rfl hz
  | succ n => rfl

/-- The launch's data: the arrays as found, the blocks after each point, and what is kept between points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => (outsAt0 m hO c t.val t.isLt).1
  Φ t := PhiS m hO c t.val (Nat.le_of_lt_succ t.isLt)
  q _ := fullShare
  owed _ := 0

/-- The data's arrays are those the launch finds. -/
theorem A_eq (hO : Ok m) (c : Dev nD) (w : Fin (cfgM m hO).W) : (dats m hO 0 c).A w = V m c (Pipeline.arrRef spec0 w) := by
  dsimp only [dats]

/-- What is kept at a point's start. -/
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

/-- What the body leaves, window by window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = (outsAt0 m hO c t.val t.isLt).1 := by dsimp only [dats]; try rfl

/-- Each input's buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- What the body is called with at a point. -/
def bodyPre (hO : Ok m) (c : Dev nD) (t : Fin (cfgM m hO).N) : sProp (MT nD τ sig Unit (Elt F) ℕ (UR sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d)))

/-- What the body returns at a point. -/
def bodyPost (hO : Ok m) (c : Dev nD) (t : Fin (cfgM m hO).N) : sProp (MT nD τ sig Unit (Elt F) ℕ (UR sig nD τ) ℕ) :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

set_option maxHeartbeats 9600000 in
/-- The body at any point, by its three cases. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl]
  rw [show (dats m hO 0 c).Φ t.succ = PhiS m hO c (t.val + 1) t.isLt from rfl, PhiS_succ, PhiT0_eq]
  have hN : t.val < 504 := lt_of_lt_of_eq t.isLt (show (cfgM m hO).N = 504 from N_0)
  by_cases h0 : t.val % 7 = 0
  · by_cases h1 : t.val % 7 = 6
    · exfalso; omega
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [Dat.leavesExact_idle (dats m hO 0 c) 5 t (idleAt0_5_A m hO t ((hcond0_0 t).mpr h0) (fun h => h1 ((hcond0_1 t).mp h))) (noFlush0_5_A m hO t ((hcond0_0 t).mpr h0) (fun h => h1 ((hcond0_1 t).mp h)))]
      by_cases hz : t.val = 0
      · rw [PhiS_castSucc m hO c t, PhiS_zero m hO c _ _ hz, PhiT0_eq, PhiA0_eq]
        rw [outsAt0_A m hO c t h0 h1]
        unfold sout0_A_0 sout0_A_1; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (tbl m 0)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HT0]; · iexact HT0
        iintro ⟨H0, H1, H2, H3, H4, H5, ⟨%es0, HS0⟩, ⟨%es1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        iexists _; iexact H5
      · rw [PhiS_castSucc m hO c t, PhiS_pos m hO c _ _ hz, PhiT0_eq]
        rw [outsAt0_A m hO c t h0 h1]
        unfold sout0_A_0 sout0_A_1; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
        iapply ((kernelRun0_A c (grid0.coords t) _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (tbl m 0)).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        isplitl [HT0]; · iexact HT0
        iintro ⟨H0, H1, H2, H3, H4, H5, ⟨%es0, HS0⟩, ⟨%es1, HS1⟩, HT0⟩
        isplitl [HS0 HS1 Hg HT0]
        · isplitl [HS0 HS1 Hg]
          · isplitl [HS0 HS1]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _)
              unfold owns; iexists _; isplitr
              swap; · iexact HS1
              ipureintro; exact View.read_writes_of_cover _ _ _ _ _ (scover0_A_1 c _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        iexists _; iexact H5
  · by_cases h1 : t.val % 7 = 6
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [show (dats m hO 0 c).leavesExact 5 t = owns (c : Thread nD τ) (ms0_5 m hO t) fullShare ((dats m hO 0 c).after 5 t) from by
      unfold Dat.leavesExact; rw [liveAt0_5_C m hO t (fun h => h0 ((hcond0_0 t).mp h)) ((hcond0_1 t).mpr h1)]; try rfl, after0_5]
      by_cases hz : t.val = 0
      · exfalso; have hN : t.val < 504 := lt_of_lt_of_eq t.isLt (show (cfgM m hO).N = 504 from N_0); omega
      · rw [PhiS_castSucc m hO c t, PhiS_pos m hO c _ _ hz, PhiT0_eq]
        rw [outsAt0_C m hO c t h0 h1]
        unfold out0_C_5 sout0_C_0 sout0_C_1; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
        iapply ((kernelRun0_C c (grid0.coords t) _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (tbl m 0) _ _).2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        iintro ⟨H0, H1, H2, H3, H4, ⟨%e5, H5⟩, HS0, ⟨%es1, HS1⟩, HT0⟩
        isplitl [HS0 HS1 Hg HT0]
        · isplitl [HS0 HS1 Hg]
          · isplitl [HS0 HS1]
            · isplitl [HS0]
              · iexact HS0
              unfold owns; iexists _; isplitr
              swap; · iexact HS1
              ipureintro; exact View.read_writes_of_cover _ _ _ _ _ (scover0_C_1 c _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        unfold owns; iexists _; isplitr
        swap; · iexact H5
        ipureintro; exact View.read_writes_of_cover _ _ _ _ _ (cover0_C_5 c _ _ _ _ _ _ _ _ _ _ _ _ _ _ _ _ _ _ _ _ _ _ _ _ _ _ _)
    · rw [show (dats m hO 0 c).leavesExact 0 t = owns (c : Thread nD τ) (ms0_0 m hO t) fullShare ((dats m hO 0 c).after 0 t) from by
      unfold Dat.leavesExact; rw [liveAt0_0 m hO t]; try rfl, after0_0]
      rw [show (dats m hO 0 c).leavesExact 1 t = owns (c : Thread nD τ) (ms0_1 m hO t) fullShare ((dats m hO 0 c).after 1 t) from by
      unfold Dat.leavesExact; rw [liveAt0_1 m hO t]; try rfl, after0_1]
      rw [show (dats m hO 0 c).leavesExact 2 t = owns (c : Thread nD τ) (ms0_2 m hO t) fullShare ((dats m hO 0 c).after 2 t) from by
      unfold Dat.leavesExact; rw [liveAt0_2 m hO t]; try rfl, after0_2]
      rw [show (dats m hO 0 c).leavesExact 3 t = owns (c : Thread nD τ) (ms0_3 m hO t) fullShare ((dats m hO 0 c).after 3 t) from by
      unfold Dat.leavesExact; rw [liveAt0_3 m hO t]; try rfl, after0_3]
      rw [show (dats m hO 0 c).leavesExact 4 t = owns (c : Thread nD τ) (ms0_4 m hO t) fullShare ((dats m hO 0 c).after 4 t) from by
      unfold Dat.leavesExact; rw [liveAt0_4 m hO t]; try rfl, after0_4]
      rw [Dat.leavesExact_idle (dats m hO 0 c) 5 t (idleAt0_5_B m hO t (fun h => h0 ((hcond0_0 t).mp h)) (fun h => h1 ((hcond0_1 t).mp h))) (noFlush0_5_B m hO t (fun h => h0 ((hcond0_0 t).mp h)) (fun h => h1 ((hcond0_1 t).mp h)))]
      by_cases hz : t.val = 0
      · exfalso; have hN : t.val < 504 := lt_of_lt_of_eq t.isLt (show (cfgM m hO).N = 504 from N_0); omega
      · rw [PhiS_castSucc m hO c t, PhiS_pos m hO c _ _ hz, PhiT0_eq]
        rw [outsAt0_B m hO c t h0 h1]
        unfold sout0_B_0 sout0_B_1; (try dsimp only)
        iintro ⟨⟨⟨⟨HS0, HS1⟩, Hg⟩, HT0⟩, Ho, ⟨%d0, H0⟩, ⟨%d1, H1⟩, ⟨%d2, H2⟩, ⟨%d3, H3⟩, ⟨%d4, H4⟩, ⟨%d5, H5⟩⟩
        iapply ((kernelRun0_B c (grid0.coords t) _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (tbl m 0) _ _).2.2.2 _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        isplitl [HT0]; · iexact HT0
        iintro ⟨H0, H1, H2, H3, H4, H5, HS0, ⟨%es1, HS1⟩, HT0⟩
        isplitl [HS0 HS1 Hg HT0]
        · isplitl [HS0 HS1 Hg]
          · isplitl [HS0 HS1]
            · isplitl [HS0]
              · iexact HS0
              unfold owns; iexists _; isplitr
              swap; · iexact HS1
              ipureintro; exact View.read_writes_of_cover _ _ _ _ _ (scover0_B_1 c _ _ _ _ _ _ _ _ _ _ _ _ _ _ _ _ _ _ _ _ _ _ _ _ _ _ _)
            iexact Hg
          iexact HT0
        isplitl [Ho]; · iexact Ho
        isplitl [H0]; · iexact H0
        isplitl [H1]; · iexact H1
        isplitl [H2]; · iexact H2
        isplitl [H3]; · iexact H3
        isplitl [H4]; · iexact H4
        iexists _; iexact H5

/-- The body's row of the table of bodies. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body's obligation at every point. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands over is what is kept before the first point. -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

/-- What is kept after any later point gives the scratch back. -/
theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨⟨HS0, HS1⟩, Hg⟩, -⟩
  isplitl [HS0 HS1]
  · isplitl [HS0]
    · iexists _; iexact HS0
    iexists _; iexact HS1
  iexact Hg

/-- The same after the last point. -/
theorem hout (hO : Ok m) (c : Dev nD) : (dats m hO 0 c).Φ (Fin.last (cfgM m hO).N) ⊢ Pipeline.ΦA spec0 c :=
  Phi_out m hO c _ (by rw [Fin.val_last]; have : (cfgM m hO).N = 504 := N_0; omega)

set_option backward.isDefEq.respectTransparency.types false in
/-- The launch, with the counters at zero at its end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The launch: every array at what the data says, every other buffer as found. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- The arguments end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ hO (dats m hO) (A_eq m hO) (run_main m ρ hO)

/-- The arguments end unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO) ((θ_run defs _ _).mono (fun _ h => h.2) (run_main_quiescent m ρ hO))

end Cert.ExpertsIdeal.Gen

end
-- ==== Proof.ExpertsIdealTable.lean ====
module

public import proofs.«01_k».proof.Proof.ExpertsIdealFrame
public import Idealize.ShloMosaic.Lib.StableHlo.Predicate
public import Idealize.ShloMosaic.Lib.PairWhole

/-!
The table of the experts' call over the extended reals: the expert that owns each block of rows is a count of at most eight, cut off at seven, so every block
of weights lies inside its array. This is what the launch asks of the table.
-/

@[expose] public section
set_option maxRecDepth 16384
noncomputable section
open Idealize.ShloMosaic Idealize.ShloMosaic.TcCoe Idealize.SL.Sem
namespace Cert.ExpertsIdeal.Tab
open Cert.ExpertsIdeal Cert.ExpertsIdeal.Gen

variable {F : FTy → Type} [FloatOps F]

/-- A count of eight, cut off at seven, is between zero and seven. -/
theorem capped (mask : IVec S72x8 1) (y : S72.Idx) :
    (minsi (Host.reduce IntOp.addi (extui 32 mask natLt_1_32) (constantI S_ 32 0#32) reducesTo_S72x8_S72_d1 h_S_)
      (broadcastInDim S72 ![] bcast_S_S72 (constantI S_ 32 7#32)) y : BitVec 32).toNat ≤ 7 := by
  have h := StableHlo.Predicate.toNat_reduce_count_cols (n := 72) (m := 8) (by decide) mask natLt_1_32 reducesTo_S72x8_S72_d1 h_S_ y
  have hc : (Finset.univ.filter (fun q : Fin 8 => mask (StableHlo.Predicate.ij (y 0) q) = 1#1)).card ≤ 8 :=
    (Finset.card_le_univ _).trans (by simp)
  show (IntOp.minsi (Host.reduce IntOp.addi (extui 32 mask natLt_1_32) (constantI S_ 32 0#32) reducesTo_S72x8_S72_d1 h_S_ y) 7#32).toNat ≤ 7
  have hR : (Host.reduce IntOp.addi (extui 32 mask natLt_1_32) (constantI S_ 32 0#32) reducesTo_S72x8_S72_d1 h_S_ y).toNat ≤ 8 := (le_of_eq h).trans hc
  generalize Host.reduce IntOp.addi (extui 32 mask natLt_1_32) (constantI S_ 32 0#32) reducesTo_S72x8_S72_d1 h_S_ y = w at hR
  unfold IntOp.minsi
  split
  · rename_i hs
    have := BitVec.slt_iff_toInt_lt.1 hs
    rw [BitVec.toInt_eq_toNat_of_lt (by omega)] at this
    simp at this
    omega
  · simp

/-- The table, from the ends of the experts' padded groups. -/
def cap (ends : IVec S8 32) : IVec S72 32 :=
  minsi (Host.reduce IntOp.addi (extui 32 (cmpi .sge
      (broadcastInDim S72x8 ![0, 1] bcast_S72x1_S72x8_0_1 (broadcastInDim S72x1 ![0] bcast_S72_S72x1_0 (muli (iotaInDim S72 32 0) (broadcastInDim S72 ![] bcast_S_S72 (constantI S_ 32 512#32)))))
      (broadcastInDim S72x8 ![0, 1] bcast_S1x8_S72x8_0_1 (broadcastInDim S1x8 ![1] bcast_S8_S1x8_1 ends))) natLt_1_32) (constantI S_ 32 0#32) reducesTo_S72x8_S72_d1 h_S_)
    (broadcastInDim S72 ![] bcast_S_S72 (constantI S_ 32 7#32))

open StableHlo in
/-- What the last host operations leave as the table. -/
theorem last_group (W : Valuation τ sig (Elt F)) : after hostOps0_12 W (Proc.devRef .tc main_v71) = cap (W (Proc.devRef .tc main_v31)) := by
  simp only [hostOps0_12]
  after_results_simp
  rfl

variable (m : (ℓ : Loc nD τ sig) → Buf (Elt F) ℓ)

open StableHlo in
/-- Every entry of the table is at most seven. -/
theorem tab_le (c : Dev nD) (y : S72.Idx) : ((V m c main_v71 : S72.Idx → BitVec 32) y).toNat ≤ 7 := by
  have hV : V m c main_v71 = after hostOps0_12 (after (List.flatten [hostOps0, hostOps0_1, hostOps0_2, hostOps0_3, hostOps0_4, hostOps0_5, hostOps0_6, hostOps0_7, hostOps0_8, hostOps0_9, hostOps0_10, hostOps0_11]) (fun b => m (c, b))) (Proc.devRef .tc main_v71) := by
    rw [← after_append]
    rfl
  rw [hV, last_group]
  exact capped _ y

/-- A table with entries at most seven puts every block inside its array. -/
theorem ok_of_le (pf : pre0.Contents (Elt F)) (h : ∀ y : S72.Idx, ((pf 0 : S72.Idx → BitVec 32) y).toNat ≤ 7) : ok0 pf := by
  have hi : ∀ i : grid0.Coords, (BitVec.ofNat 32 (i 1).val).toNat ≤ 6 := fun i => by
    have h1 : (i 1).val < 7 := (i 1).isLt
    rw [BitVec.toNat_ofNat, Nat.mod_eq_of_lt (by omega)]
    omega
  refine ⟨fun i => ?_, fun i => ?_, fun i => ?_⟩
  · refine ⟨Fin.forall_fin_succ.2 ⟨?_, Fin.forall_fin_two.2 ⟨?_, ?_⟩⟩, .inr (Rect.PackedRows.wholeWords ?_)⟩
    · exact Nat.le_trans (Nat.mul_le_mul_right 1 (Nat.succ_le_succ (h _))) (by decide)
    · exact Nat.le_refl 1024
    · exact Nat.le_trans (Nat.mul_le_mul_right 512 (Nat.succ_le_succ (hi i))) (by decide)
    · exact Rect.packedRows_of_rowAxis _ _ (by decide) ⟨0, rfl⟩ ⟨512, rfl⟩ rfl
  · refine ⟨Fin.forall_fin_succ.2 ⟨?_, Fin.forall_fin_two.2 ⟨?_, ?_⟩⟩, .inr (Rect.PackedRows.wholeWords ?_)⟩
    · exact Nat.le_trans (Nat.mul_le_mul_right 1 (Nat.succ_le_succ (h _))) (by decide)
    · exact Nat.le_refl 1024
    · exact Nat.le_trans (Nat.mul_le_mul_right 512 (Nat.succ_le_succ (hi i))) (by decide)
    · exact Rect.packedRows_of_rowAxis _ _ (by decide) ⟨0, rfl⟩ ⟨512, rfl⟩ rfl
  · refine ⟨Fin.forall_fin_succ.2 ⟨?_, Fin.forall_fin_two.2 ⟨?_, ?_⟩⟩, .inr (Rect.PackedRows.wholeWords ?_)⟩
    · exact Nat.le_trans (Nat.mul_le_mul_right 1 (Nat.succ_le_succ (h _))) (by decide)
    · exact Nat.le_trans (Nat.mul_le_mul_right 512 (Nat.succ_le_succ (hi i))) (by decide)
    · exact Nat.le_refl 1024
    · exact Rect.packedRows_of_rowAxis _ _ (by decide) ⟨(BitVec.ofNat 32 (i 1).val).toNat * 256, by
        show (BitVec.ofNat 32 (i 1).val).toNat * 512 = 2 * ((BitVec.ofNat 32 (i 1).val).toNat * 256); omega⟩ ⟨256, rfl⟩ rfl

/-- What the launch asks of the table holds from any contents. -/
theorem ok : Ok m := ok_of_le (tbl m) fun y => tab_le m 0 y

end Cert.ExpertsIdeal.Tab
end
-- ==== Proof.ExpertsPay.lean ====
module

public import proofs.«01_k».proof.Proof.Swiglu
public import proofs.«01_k».proof.Proof.ExpertsIdealTable

/-!
The experts kernel's vector expressions at one index, and what the cases of its body leave in the two scratch buffers and in
the output's block.
-/

@[expose] public section
set_option maxRecDepth 16384
noncomputable section
open Idealize.ShloMosaic Idealize.ShloMosaic.TcCoe Idealize.SL.Sem
namespace Cert.ExpertsIdeal.Ffn
open Cert.ExpertsIdeal Cert.ExpertsIdeal.Gen Cert.Swiglu

section
variable (a : Vec Ideal S512x1024 .f32) (h : Vec Ideal S512x1024 .bf16)
  (wg wu : Vec Ideal S1x1024x512 .bf16) (wd : Vec Ideal S1x512x1024 .bf16) (r : Fin 512) (d : Fin 1024)

/-- The kept rows are the rows. -/
theorem pay1_at : k0_pay1 h (ix2 r d) = h (ix2 r d) := by pointwise [k0_pay1]

/-- The sum's start. -/
theorem pay2_at : k0_pay2 (F := Ideal) (ix2 r d) = 0 := by pointwise [k0_pay2]

/-- One chunk's step. -/
theorem pay3_at : k0_pay3 h wg wu a wd (ix2 r d) = a (ix2 r d) +
    ∑ e : Fin 512, unit (∑ k, h (ix2 r k) * wg (ix3 0 k e)) (∑ k, h (ix2 r k) * wu (ix3 0 k e)) * wd (ix3 0 e d) := by
  simp only [← unit_sub]
  pointwise [k0_pay3]
end

section
variable (c : Dev nD) (i : grid0.Coords) (arg3 : Memref sig .tc .vmem S512x1024 .bf16) (harg3 : arg3.IsWhole) (arg4 : Memref sig .tc .vmem S1x1024 .f32) (harg4 : arg4.IsWhole) (arg5 : Memref sig .tc .vmem S1x1024x512 .bf16) (harg5 : arg5.IsWhole) (arg6 : Memref sig .tc .vmem S1x1024x512 .bf16) (harg6 : arg6.IsWhole) (arg7 : Memref sig .tc .vmem S1x512x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
    (x0 : Vec Ideal S512x1024 .bf16) (x1 : Vec Ideal S1x1024 .f32) (x2 x3 : Vec Ideal S1x1024x512 .bf16) (x4 : Vec Ideal S1x512x1024 .bf16)
    (xt0 : TbBuf0 (F := Ideal) c tbM0_0) (xs0 : Vec Ideal S512x1024 .bf16) (xs1 : Vec Ideal S512x1024 .f32)

/-- The first chunk's point keeps the rows. -/
theorem soutA0 (hc0 : cond0_0 i) (hc1 : ¬cond0_1 i) :
    sout0_A_0 c i arg3 harg3 arg4 harg4 arg5 harg5 arg6 harg6 arg7 harg7 arg8 harg8 arg9 harg9 arg10 harg10 hc0 hc1 x0 x1 x2 x3 x4 xt0 = k0_pay1 x0 := by
  frame_out

/-- The first chunk's point sets the sum to its own step from zero. -/
theorem soutA1 (hc0 : cond0_0 i) (hc1 : ¬cond0_1 i) :
    sout0_A_1 c i arg3 harg3 arg4 harg4 arg5 harg5 arg6 harg6 arg7 harg7 arg8 harg8 arg9 harg9 arg10 harg10 hc0 hc1 x0 x1 x2 x3 x4 xt0 = k0_pay3 (k0_pay1 x0) x2 x3 (k0_pay2 (F := Ideal)) x4 := by
  frame_out

/-- A middle chunk's point adds its step. -/
theorem soutB1 (hc0 : ¬cond0_0 i) (hc1 : ¬cond0_1 i) :
    sout0_B_1 c i arg3 harg3 arg4 harg4 arg5 harg5 arg6 harg6 arg7 harg7 arg8 harg8 arg9 harg9 arg10 harg10 hc0 hc1 x0 x1 x2 x3 x4 xt0 xs0 xs1 = k0_pay3 xs0 x2 x3 xs1 x4 := by
  frame_out

/-- The last chunk's point stores the whole sum. -/
theorem outC (hc0 : ¬cond0_0 i) (hc1 : cond0_1 i) :
    out0_C_5 c i arg3 harg3 arg4 harg4 arg5 harg5 arg6 harg6 arg7 harg7 arg8 harg8 arg9 harg9 arg10 harg10 hc0 hc1 x0 x1 x2 x3 x4 xt0 xs0 xs1 = k0_pay3 xs0 x2 x3 xs1 x4 := by
  frame_out
end

end Cert.ExpertsIdeal.Ffn
end
-- ==== Proof.ExpertsBlk.lean ====
module

public import proofs.«01_k».proof.Proof.ExpertsPay

/-!
The blocks of a grid point of the experts' call: which rows, and which chunk of which expert's matrices.
-/

@[expose] public section
set_option maxRecDepth 16384
noncomputable section
open Idealize.ShloMosaic Idealize.ShloMosaic.TcCoe Idealize.SL.Sem
namespace Cert.ExpertsIdeal.Ffn
open Cert.ExpertsIdeal Cert.ExpertsIdeal.Gen Cert.Swiglu

/-- A grid point's coordinates: the block of rows and the chunk of hidden units. -/
theorem coords_at : ∀ t : Fin grid0.N, (grid0.coords t 0).val = t.1 / 7 ∧ (grid0.coords t 1).val = t.1 % 7 := by decide +kernel

theorem lt_pts (t : Fin grid0.N) : t.1 < 504 := t.2

variable (m : (ℓ : Loc nD τ sig) → Buf (Elt Ideal) ℓ) (hO : Ok m) (c : Dev nD) (t : Fin (cfgM m hO).N)

/-- The expert that owns a block of rows. -/
def own (b : Fin 72) : Fin 8 := ⟨((tbl m 0 : S72.Idx → BitVec 32) (ix1 b)).toNat, Nat.lt_succ_of_le (Tab.tab_le m 0 _)⟩

theorem own_val (b : Fin 72) : (own m b).1 = ((tbl m 0 : S72.Idx → BitVec 32) (ix1 b)).toNat := rfl

/-- The block of rows of a point. -/
abbrev rb (t : Fin grid0.N) : Fin 72 := ⟨t.1 / 7, by have := lt_pts t; omega⟩

theorem word_of (n : ℕ) (h : n < 2 ^ 32) : (BitVec.ofNat 32 n).toNat = n := by rw [BitVec.toNat_ofNat, Nat.mod_eq_of_lt h]

theorem word_row : (BitVec.ofNat 32 (grid0.coords t 0).val).toNat = t.1 / 7 := by
  have := lt_pts t
  rw [(coords_at t).1, word_of _ (by omega)]
theorem word_chunk : (BitVec.ofNat 32 (grid0.coords t 1).val).toNat = t.1 % 7 := by
  rw [(coords_at t).2, word_of _ (by omega)]

/-- A table read at one place. -/
theorem at_place (pf : pre0.Contents (Elt Ideal)) (n : ℕ) (hb : ∀ a, (![n] : Fin 1 → ℕ) a + S1.size a ≤ S72.size a) (b : Fin 72) (h : n = b.1) :
    (pf.at 0 (Rect.unit (s := S72) ![n] S1.size hb) numel1_S1 : BitVec 32) = (pf 0 : S72.Idx → BitVec 32) (ix1 b) := by
  have hj : (Rect.unit (s := S72) ![n] S1.size hb).emb (Shape.Idx.first (numel1_S1.symm ▸ Nat.one_pos)) = ix1 b := by
    funext a
    obtain rfl : a = 0 := Subsingleton.elim _ _
    apply Fin.ext
    rw [Rect.emb_apply]
    show n + 1 * ((Shape.Idx.first (s := S1) (numel1_S1.symm ▸ Nat.one_pos)) 0).val = b.1
    have h0 : ((Shape.Idx.first (s := S1) (numel1_S1.symm ▸ Nat.one_pos)) 0).val < 1 := ((Shape.Idx.first (s := S1) (numel1_S1.symm ▸ Nat.one_pos)) 0).isLt
    omega
  exact congrArg (pf 0 : S72.Idx → BitVec 32) hj

/-- The table read by the index maps. -/
theorem read_own (hb : ∀ a, (![(BitVec.ofNat 32 (grid0.coords t 0).val).toNat] : Fin 1 → ℕ) a + S1.size a ≤ S72.size a) :
    ((tbl m).at 0 (Rect.unit (s := S72) ![(BitVec.ofNat 32 (grid0.coords t 0).val).toNat] S1.size hb) numel1_S1 : BitVec 32).toNat = (own m (rb t)).1 :=
  Eq.trans (congrArg (fun w : BitVec 32 => w.toNat) (at_place (tbl m) _ hb (rb t) (word_row m hO t))) (own_val m (rb t)).symm

theorem idx0 : ((cfgM m hO).win 0).index t = ![t.1 / 7, 0] := by
  show ![(BitVec.ofNat 32 (grid0.coords t 0).val).toNat, 0] = _
  rw [word_row m hO t]
theorem idx2 : ((cfgM m hO).win 2).index t = ![(own m (rb t)).1, 0, t.1 % 7] := by
  rw [← word_chunk m hO t, ← read_own m hO t (k0_off1_inb (grid0.coords t))]
  rfl
theorem idx3 : ((cfgM m hO).win 3).index t = ![(own m (rb t)).1, 0, t.1 % 7] := by
  rw [← word_chunk m hO t, ← read_own m hO t (k0_off1_inb (grid0.coords t))]
  rfl
theorem idx4 : ((cfgM m hO).win 4).index t = ![(own m (rb t)).1, t.1 % 7, 0] := by
  rw [← word_chunk m hO t, ← read_own m hO t (k0_off1_inb (grid0.coords t))]
  rfl
theorem idx5 : ((cfgM m hO).win 5).index t = ![t.1 / 7, 0] := by
  show ![(BitVec.ofNat 32 (grid0.coords t 0).val).toNat, 0] = _
  rw [word_row m hO t]

/-- The block of rows. -/
theorem blk_x (r : Fin 512) (k : Fin 1024) (n : Fin 36864) (hn : n.1 = t.1 / 7 * 512 + r.1) :
    (iblk m hO c 0 t : S512x1024.Idx → EReal) (ix2 r k) = (V m c main_v78 : S36864x1024.Idx → EReal) (ix2 n k) := by
  show (V m c main_v78 : S36864x1024.Idx → EReal) ((((cfgM m hO).win 0).blk t).view.emb (ix2 r k)) = _
  have h0 : (((((cfgM m hO).win 0).blk t).view.emb (ix2 r k) : S36864x1024.Idx) (0 : Fin 2)).val = n.1 := by blk_simp [idx0 m hO t]; rw [hn]
  have h1 : (((((cfgM m hO).win 0).blk t).view.emb (ix2 r k) : S36864x1024.Idx) (1 : Fin 2)).val = k.1 := by blk_simp [idx0 m hO t]
  exact congrArg _ (funext (Fin.forall_fin_two.2 ⟨Fin.ext h0, Fin.ext h1⟩))

/-- The gate's chunk. -/
theorem blk_g (k : Fin 1024) (e : Fin 512) (h : Fin 3584) (hh : h.1 = t.1 % 7 * 512 + e.1) :
    (iblk m hO c 2 t : S1x1024x512.Idx → EReal) (ix3 0 k e) = (V m c main_v0 : S8x1024x3584.Idx → EReal) (ix3 (own m (rb t)) k h) := by
  show (V m c main_v0 : S8x1024x3584.Idx → EReal) ((((cfgM m hO).win 2).blk t).view.emb (ix3 0 k e)) = _
  have h0 : (((((cfgM m hO).win 2).blk t).view.emb (ix3 0 k e) : S8x1024x3584.Idx) (0 : Fin 3)).val = (own m (rb t)).1 := by blk_simp [idx2 m hO t]; rfl
  have h1 : (((((cfgM m hO).win 2).blk t).view.emb (ix3 0 k e) : S8x1024x3584.Idx) (1 : Fin 3)).val = k.1 := by blk_simp [idx2 m hO t]
  have h2 : (((((cfgM m hO).win 2).blk t).view.emb (ix3 0 k e) : S8x1024x3584.Idx) (2 : Fin 3)).val = h.1 := by blk_simp [idx2 m hO t]; rw [hh]
  exact congrArg _ (funext (Fin.forall_fin_succ.2 ⟨Fin.ext h0, Fin.forall_fin_two.2 ⟨Fin.ext h1, Fin.ext h2⟩⟩))

/-- The other product's chunk. -/
theorem blk_u (k : Fin 1024) (e : Fin 512) (h : Fin 3584) (hh : h.1 = t.1 % 7 * 512 + e.1) :
    (iblk m hO c 3 t : S1x1024x512.Idx → EReal) (ix3 0 k e) = (V m c main_v1 : S8x1024x3584.Idx → EReal) (ix3 (own m (rb t)) k h) := by
  show (V m c main_v1 : S8x1024x3584.Idx → EReal) ((((cfgM m hO).win 3).blk t).view.emb (ix3 0 k e)) = _
  have h0 : (((((cfgM m hO).win 3).blk t).view.emb (ix3 0 k e) : S8x1024x3584.Idx) (0 : Fin 3)).val = (own m (rb t)).1 := by blk_simp [idx3 m hO t]; rfl
  have h1 : (((((cfgM m hO).win 3).blk t).view.emb (ix3 0 k e) : S8x1024x3584.Idx) (1 : Fin 3)).val = k.1 := by blk_simp [idx3 m hO t]
  have h2 : (((((cfgM m hO).win 3).blk t).view.emb (ix3 0 k e) : S8x1024x3584.Idx) (2 : Fin 3)).val = h.1 := by blk_simp [idx3 m hO t]; rw [hh]
  exact congrArg _ (funext (Fin.forall_fin_succ.2 ⟨Fin.ext h0, Fin.forall_fin_two.2 ⟨Fin.ext h1, Fin.ext h2⟩⟩))

/-- The last matrix's chunk. -/
theorem blk_d (e : Fin 512) (d : Fin 1024) (h : Fin 3584) (hh : h.1 = t.1 % 7 * 512 + e.1) :
    (iblk m hO c 4 t : S1x512x1024.Idx → EReal) (ix3 0 e d) = (V m c main_v2 : S8x3584x1024.Idx → EReal) (ix3 (own m (rb t)) h d) := by
  show (V m c main_v2 : S8x3584x1024.Idx → EReal) ((((cfgM m hO).win 4).blk t).view.emb (ix3 0 e d)) = _
  have h0 : (((((cfgM m hO).win 4).blk t).view.emb (ix3 0 e d) : S8x3584x1024.Idx) (0 : Fin 3)).val = (own m (rb t)).1 := by blk_simp [idx4 m hO t]; rfl
  have h1 : (((((cfgM m hO).win 4).blk t).view.emb (ix3 0 e d) : S8x3584x1024.Idx) (1 : Fin 3)).val = h.1 := by blk_simp [idx4 m hO t]; rw [hh]
  have h2 : (((((cfgM m hO).win 4).blk t).view.emb (ix3 0 e d) : S8x3584x1024.Idx) (2 : Fin 3)).val = d.1 := by blk_simp [idx4 m hO t]
  exact congrArg _ (funext (Fin.forall_fin_succ.2 ⟨Fin.ext h0, Fin.forall_fin_two.2 ⟨Fin.ext h1, Fin.ext h2⟩⟩))

/-- The place of an output entry. -/
theorem place (r : Fin 512) (d : Fin 1024) (n : Fin 36864) (hn : n.1 = t.1 / 7 * 512 + r.1) :
    ((((cfgM m hO).win 5).blk t).view.emb (ix2 r d) : S36864x1024.Idx) = ix2 n d := by
  have h0 : (((((cfgM m hO).win 5).blk t).view.emb (ix2 r d) : S36864x1024.Idx) (0 : Fin 2)).val = n.1 := by blk_simp [idx5 m hO t]; rw [hn]
  have h1 : (((((cfgM m hO).win 5).blk t).view.emb (ix2 r d) : S36864x1024.Idx) (1 : Fin 2)).val = d.1 := by blk_simp [idx5 m hO t]
  exact funext (Fin.forall_fin_two.2 ⟨Fin.ext h0, Fin.ext h1⟩)

end Cert.ExpertsIdeal.Ffn
end
-- ==== Proof.ExpertsSum.lean ====
module

public import proofs.«01_k».proof.Proof.ExpertsBlk

/-!
The experts' output array after the launch: along a block's chunks the scratch holds the rows and the sum over the chunks so far of the owner's hidden units,
and after the last chunk the whole sum is stored.
-/

@[expose] public section
set_option maxRecDepth 16384
noncomputable section
open Idealize.ShloMosaic Idealize.ShloMosaic.TcCoe Idealize.SL.Sem
namespace Cert.ExpertsIdeal.Ffn
open Cert.ExpertsIdeal Cert.ExpertsIdeal.Gen Cert.Swiglu

/-- The hidden layer of every row with the matrices of the expert that owns the row's block. -/
def layer (o : Fin 72 → Fin 8) (X : S36864x1024.Idx → EReal) (G U : S8x1024x3584.Idx → EReal) (D : S8x3584x1024.Idx → EReal) (n : Fin 36864) (d : Fin 1024) : EReal :=
  full (fun k => X (ix2 n k)) (fun k h => G (ix3 (o ⟨n.1 / 512, by omega⟩) k h)) (fun k h => U (ix3 (o ⟨n.1 / 512, by omega⟩) k h))
    (fun h => D (ix3 (o ⟨n.1 / 512, by omega⟩) h d))

variable (m : (ℓ : Loc nD τ sig) → Buf (Elt Ideal) ℓ) (hO : Ok m) (c : Dev nD)

/-- The gathered rows. -/
abbrev arrX : S36864x1024.Idx → EReal := V m c main_v78
/-- The gate's matrices. -/
abbrev arrG : S8x1024x3584.Idx → EReal := V m c main_v0
/-- The other product's matrices. -/
abbrev arrU : S8x1024x3584.Idx → EReal := V m c main_v1
/-- The last matrices. -/
abbrev arrD : S8x3584x1024.Idx → EReal := V m c main_v2

/-- The sum over the first `j` chunks of expert `q` at row `n` and entry `d`. -/
def psum (q : Fin 8) (n : Fin 36864) (d : Fin 1024) (j : ℕ) : EReal :=
  part 512 (fun k => arrX m c (ix2 n k)) (fun k h => arrG m c (ix3 q k h)) (fun k h => arrU m c (ix3 q k h)) (fun h => arrD m c (ix3 q h d)) j

/-- One step adds chunk `j` of expert `q`'s hidden units. -/
theorem step (q : Fin 8) (j : ℕ) (hj : j < 7) (h : Vec Ideal S512x1024 .bf16) (wg wu : Vec Ideal S1x1024x512 .bf16) (a : Vec Ideal S512x1024 .f32)
    (wd : Vec Ideal S1x512x1024 .bf16) (r : Fin 512) (d : Fin 1024) (n : Fin 36864)
    (hg : ∀ (k : Fin 1024) (e : Fin 512) (i : Fin 3584), i.1 = j * 512 + e.1 → wg (ix3 0 k e) = arrG m c (ix3 q k i))
    (hu : ∀ (k : Fin 1024) (e : Fin 512) (i : Fin 3584), i.1 = j * 512 + e.1 → wu (ix3 0 k e) = arrU m c (ix3 q k i))
    (hd : ∀ (e : Fin 512) (i : Fin 3584), i.1 = j * 512 + e.1 → wd (ix3 0 e d) = arrD m c (ix3 q i d))
    (hh : ∀ k, h (ix2 r k) = arrX m c (ix2 n k)) (ha : a (ix2 r d) = psum m c q n d j) :
    k0_pay3 h wg wu a wd (ix2 r d) = psum m c q n d (j + 1) := by
  rw [pay3_at, ha]
  unfold psum
  rw [part_succ]
  congr 1
  refine Finset.sum_congr rfl fun e _ => ?_
  have hlt : j * 512 + e.1 < 3584 := by have := e.2; omega
  unfold term
  rw [dif_pos hlt]
  simp only [hh, hg _ e ⟨_, hlt⟩ rfl, hu _ e ⟨_, hlt⟩ rfl, hd e ⟨_, hlt⟩ rfl]

/-- A point's step. -/
theorem step_at (t : Fin (cfgM m hO).N) (j : ℕ) (ht : t.1 % 7 = j) (a : Vec Ideal S512x1024 .f32) (h : Vec Ideal S512x1024 .bf16) (r : Fin 512) (d : Fin 1024) (n : Fin 36864)
    (hh : ∀ k, h (ix2 r k) = arrX m c (ix2 n k)) (ha : a (ix2 r d) = psum m c (own m (rb t)) n d j) :
    k0_pay3 h (iblk m hO c 2 t) (iblk m hO c 3 t) a (iblk m hO c 4 t) (ix2 r d) = psum m c (own m (rb t)) n d (j + 1) := by
  subst ht
  exact step m c (own m (rb t)) (t.1 % 7) (Nat.mod_lt _ (by decide)) h (iblk m hO c 2 t) (iblk m hO c 3 t) a (iblk m hO c 4 t) r d n
    (blk_g m hO c t) (blk_u m hO c t) (fun e i hi => blk_d m hO c t e d i hi) hh ha

/-- What a block's first point keeps is its rows. -/
theorem row_at (t : Fin (cfgM m hO).N) (r : Fin 512) (k : Fin 1024) (n : Fin 36864) (hn : n.1 = t.1 / 7 * 512 + r.1) :
    k0_pay1 (iblk m hO c 0 t) (ix2 r k) = arrX m c (ix2 n k) :=
  (pay1_at (iblk m hO c 0 t) r k).trans (blk_x m hO c t r k n hn)

theorem both {α β γ : Type} {p : α × β × γ} {a : α} {b b' : β} {c c' : γ} (e : p = (a, b, c)) (hb : b = b') (hc : c = c') : p.2 = (b', c') := by
  subst e hb hc; rfl
theorem head {α β γ : Type} {p : α × β × γ} {a a' : α} {b : β} {c : γ} (e : p = (a, b, c)) (ha : a = a') : p.1 = a' := by
  subst e ha; rfl

/-- The scratch buffers after a block's first point. -/
theorem first_at (t : Fin (cfgM m hO).N) (ht : t.1 % 7 = 0) :
    (outsAt0 m hO c t.1 t.isLt).2 = (k0_pay1 (iblk m hO c 0 t), k0_pay3 (k0_pay1 (iblk m hO c 0 t)) (iblk m hO c 2 t) (iblk m hO c 3 t) (k0_pay2 (F := Ideal)) (iblk m hO c 4 t)) :=
  both (outsAt0_A m hO c t ht (by omega))
    (soutA0 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) ((hcond0_0 t).mpr ht) (fun h => (show ¬t.1 % 7 = 6 by omega) ((hcond0_1 t).mp h)))
    (soutA1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) ((hcond0_0 t).mpr ht) (fun h => (show ¬t.1 % 7 = 6 by omega) ((hcond0_1 t).mp h)))

/-- The scratch buffers after a middle point. -/
theorem middle_at (t : Fin (cfgM m hO).N) (h0 : ¬t.1 % 7 = 0) (h1 : ¬t.1 % 7 = 6) :
    (outsAt0 m hO c t.1 t.isLt).2 = ((outsAt0 m hO c (t.1 - 1) (Nat.lt_of_le_of_lt (Nat.sub_le _ _) t.isLt)).2.1,
      k0_pay3 (outsAt0 m hO c (t.1 - 1) (Nat.lt_of_le_of_lt (Nat.sub_le _ _) t.isLt)).2.1 (iblk m hO c 2 t) (iblk m hO c 3 t)
        (outsAt0 m hO c (t.1 - 1) (Nat.lt_of_le_of_lt (Nat.sub_le _ _) t.isLt)).2.2 (iblk m hO c 4 t)) :=
  both (outsAt0_B m hO c t h0 h1) rfl
    (soutB1 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) (outsAt0 m hO c (t.1 - 1) (Nat.lt_of_le_of_lt (Nat.sub_le _ _) t.isLt)).2.1 (outsAt0 m hO c (t.1 - 1) (Nat.lt_of_le_of_lt (Nat.sub_le _ _) t.isLt)).2.2 (fun h => h0 ((hcond0_0 t).mp h)) (fun h => h1 ((hcond0_1 t).mp h)))

/-- The output's block after a block's last point. -/
theorem last_at (t : Fin (cfgM m hO).N) (h0 : ¬t.1 % 7 = 0) (h1 : t.1 % 7 = 6) :
    (outsAt0 m hO c t.1 t.isLt).1 = k0_pay3 (outsAt0 m hO c (t.1 - 1) (Nat.lt_of_le_of_lt (Nat.sub_le _ _) t.isLt)).2.1 (iblk m hO c 2 t) (iblk m hO c 3 t)
        (outsAt0 m hO c (t.1 - 1) (Nat.lt_of_le_of_lt (Nat.sub_le _ _) t.isLt)).2.2 (iblk m hO c 4 t) :=
  head (outsAt0_C m hO c t h0 h1)
    (outC c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) scM0_0 (Memref.isWhole_whole _) scM0_1 (Memref.isWhole_whole _) (iblk m hO c 0 t) (iblk m hO c 1 t) (iblk m hO c 2 t) (iblk m hO c 3 t) (iblk m hO c 4 t) (tbl m 0) (outsAt0 m hO c (t.1 - 1) (Nat.lt_of_le_of_lt (Nat.sub_le _ _) t.isLt)).2.1 (outsAt0 m hO c (t.1 - 1) (Nat.lt_of_le_of_lt (Nat.sub_le _ _) t.isLt)).2.2 (fun h => h0 ((hcond0_0 t).mp h)) ((hcond0_1 t).mpr h1))

/-- Before a block's last point the scratch holds the rows and the sum so far. -/
theorem state_at : ∀ (j : ℕ) (t : Fin (cfgM m hO).N), t.1 % 7 = j → j < 6 → ∀ (b : Fin 72), b.1 = t.1 / 7 → ∀ (r : Fin 512) (n : Fin 36864), n.1 = t.1 / 7 * 512 + r.1 →
    (∀ k, (outsAt0 m hO c t.1 t.isLt).2.1 (ix2 r k) = arrX m c (ix2 n k)) ∧ (∀ d, (outsAt0 m hO c t.1 t.isLt).2.2 (ix2 r d) = psum m c (own m b) n d (j + 1))
  | 0, t, ht, _, b, hb, r, n, hn => by
    obtain rfl : rb t = b := Fin.ext hb.symm
    rw [first_at m hO c t ht]
    exact ⟨fun k => row_at m hO c t r k n hn, fun d => step_at m hO c t 0 ht (k0_pay2 (F := Ideal)) _ r d n (fun k => row_at m hO c t r k n hn)
      ((pay2_at r d).trans (part_zero ..).symm)⟩
  | j + 1, t, ht, hj, b, hb, r, n, hn => by
    have hprev := state_at j ⟨t.1 - 1, Nat.lt_of_le_of_lt (Nat.sub_le _ _) t.isLt⟩ (by dsimp only; omega) (by omega) b (by dsimp only; omega) r n (by dsimp only; omega)
    obtain rfl : rb t = b := Fin.ext hb.symm
    rw [middle_at m hO c t (by omega) (by omega)]
    exact ⟨fun k => hprev.1 k, fun d => step_at m hO c t (j + 1) ht _ _ r d n (fun k => hprev.1 k) (hprev.2 d)⟩

/-- What a block's last point stores. -/
theorem out_at (t : Fin (cfgM m hO).N) (ht : t.1 % 7 = 6) (r : Fin 512) (d : Fin 1024) (n : Fin 36864) (hn : n.1 = t.1 / 7 * 512 + r.1) :
    (outsAt0 m hO c t.1 t.isLt).1 (ix2 r d) = layer (own m) (arrX m c) (arrG m c) (arrU m c) (arrD m c) n d := by
  have hprev := state_at m hO c 5 ⟨t.1 - 1, Nat.lt_of_le_of_lt (Nat.sub_le _ _) t.isLt⟩ (by dsimp only; omega) (by omega) (rb t) (by dsimp only; omega) r n (by dsimp only; omega)
  rw [last_at m hO c t (by omega) ht]
  refine (step_at m hO c t 6 ht _ _ r d n (fun k => hprev.1 k) (hprev.2 d)).trans ?_
  unfold psum layer
  rw [part_full 512 _ _ _ _ (6 + 1) (by norm_num)]
  have hq : (⟨n.1 / 512, by omega⟩ : Fin 72) = rb t := Fin.ext (by show n.1 / 512 = t.1 / 7; have := r.2; omega)
  rw [hq]

/-- Every place of the output is written by its block's last point. -/
theorem cover (i : S36864x1024.Idx) : ∃ t : Fin (cfgM m hO).N, ((cfgM m hO).win 5).flush t = true ∧ i ∈ (((cfgM m hO).win 5).blk t).view.set := by
  obtain ⟨n, d, rfl⟩ : ∃ n d, i = ix2 n d := ⟨i 0, i 1, eq_ix2 i⟩
  obtain ⟨t, ht⟩ : ∃ t : Fin (cfgM m hO).N, t.1 = n.1 / 512 * 7 + 6 := ⟨⟨n.1 / 512 * 7 + 6, show n.1 / 512 * 7 + 6 < 504 by have := n.2; omega⟩, rfl⟩
  refine ⟨t, (flush0_5 _ t).mpr (by omega), ?_⟩
  rw [← place m hO t ⟨n.1 % 512, Nat.mod_lt _ (by decide)⟩ d n (by dsimp only; omega)]
  exact (((cfgM m hO).win 5).blk t).view.emb_mem_set _

/-- The layer as an array. -/
def target : S36864x1024.Idx → EReal := fun y => layer (own m) (arrX m c) (arrG m c) (arrU m c) (arrD m c) (y 0) (y 1)

/-- The output array after the launch. -/
theorem final_eq : ((dats m hO 0 c).arrAt 5 (cfgM m hO).N : S36864x1024.Idx → EReal) = target m c := by
  refine (dats m hO 0 c).arrAt_eq_of_emb 5 (target m c) (fun t hf y => ?_) (cover m hO)
  blk_simp
  rw [after0_5]
  have ht : t.1 % 7 = 6 := (flush0_5 _ t).mp hf
  have hN : t.1 < 504 := lt_pts t
  have hy : ∀ y : S512x1024.Idx, (outsAt0 m hO c t.1 t.isLt).1 y = target m c ((((cfgM m hO).win 5).blk t).view.emb y) := fun y => by
    obtain ⟨r, d, rfl⟩ : ∃ r d, y = ix2 r d := ⟨y 0, y 1, eq_ix2 y⟩
    have hlt : t.1 / 7 * 512 + r.1 < 36864 := by have := r.2; omega
    exact (out_at m hO c t ht r d ⟨_, hlt⟩ rfl).trans (congrArg (target m c) (place m hO t r d ⟨_, hlt⟩ rfl)).symm
  exact hy y

end Cert.ExpertsIdeal.Ffn
end
-- ==== Proof.ExpertsHost.lean ====
module

public import proofs.«01_k».proof.Proof.ExpertsBlk
public import proofs.«01_k».proof.Proof.Gen.ExpertsReferenceIdeal.Run
public import Idealize.ShloMosaic.Lib.SortFacts

/-!
The operations before the experts' launch over the extended reals, group by group: the order of the assignments by expert, the counts, the ends of the padded
groups, the destination of every assignment and the rows gathered there are the reference's, whatever the buffers held before.
-/

@[expose] public section
set_option maxRecDepth 16384
noncomputable section
open Idealize.ShloMosaic Idealize.ShloMosaic.TcCoe Idealize.SL.Sem
namespace Cert.ExpertsIdeal.Route
open Cert.ExpertsIdeal Cert.ExpertsIdeal.Gen

/-- The valuations of the reference's buffers. -/
abbrev RefVal := Valuation Cert.ExpertsReferenceIdeal.τ Cert.ExpertsReferenceIdeal.sig (Elt Ideal)
/-- The valuations of the kernel's buffers. -/
abbrev KerVal := Valuation τ sig (Elt Ideal)

/-- Half of every entry, rounded down, as the kernel computes it. -/
def half (x : IVec S32768 32) : IVec S32768 32 :=
  select (andi (cmpi .ne (signi x) (broadcastInDim S32768 ![] bcast_S_S32768 (signi (id (constantI S_ 32 2#32)))))
      (cmpi .ne (Host.remsi x (broadcastInDim S32768 ![] bcast_S_S32768 (id (constantI S_ 32 2#32)))) (broadcastInDim S32768 ![] bcast_S_S32768 (constantI S_ 32 0#32))))
    (subi (Host.divsi x (broadcastInDim S32768 ![] bcast_S_S32768 (id (constantI S_ 32 2#32)))) (broadcastInDim S32768 ![] bcast_S_S32768 (constantI S_ 32 1#32)))
    (Host.divsi x (broadcastInDim S32768 ![] bcast_S_S32768 (id (constantI S_ 32 2#32))))

/-- The buffers that group 0 of the host operations writes. -/
def w0 : List (Ref sig .tc) := [main_v0, main_v1, main_v2, main_v3, main_v4]

open StableHlo in
/-- Group 0 leaves every other buffer alone. -/
theorem keep0 (W : KerVal) (r : Ref sig .tc) (h : r ∉ w0) :
    after hostOps0 W (Proc.devRef .tc r) = W (Proc.devRef .tc r) :=
  after_of_writes_sub (W := w0) hostOps0 W (forall_writes_sub_of_map (by rfl)) h

/-- The buffers that group 1 of the host operations writes. -/
def w1 : List (Ref sig .tc) := [main_call0_v0, main_call0_v1_0, main_v5]

open StableHlo in
/-- Group 1 leaves every other buffer alone. -/
theorem keep1 (W : KerVal) (r : Ref sig .tc) (h : r ∉ w1) :
    after hostOps0_1 W (Proc.devRef .tc r) = W (Proc.devRef .tc r) :=
  after_of_writes_sub (W := w1) hostOps0_1 W (forall_writes_sub_of_map (by rfl)) h

/-- The buffers that group 2 of the host operations writes. -/
def w2 : List (Ref sig .tc) := [main_c, main_v6, main_v7, main_c_0, main_v8, main_v9, main_v10, main_v11, main_v12, main_c_1]

open StableHlo in
/-- Group 2 leaves every other buffer alone. -/
theorem keep2 (W : KerVal) (r : Ref sig .tc) (h : r ∉ w2) :
    after hostOps0_2 W (Proc.devRef .tc r) = W (Proc.devRef .tc r) :=
  after_of_writes_sub (W := w2) hostOps0_2 W (forall_writes_sub_of_map (by rfl)) h

/-- The buffers that group 3 of the host operations writes. -/
def w3 : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v13]

open StableHlo in
/-- Group 3 leaves every other buffer alone. -/
theorem keep3 (W : KerVal) (r : Ref sig .tc) (h : r ∉ w3) :
    after hostOps0_3 W (Proc.devRef .tc r) = W (Proc.devRef .tc r) :=
  after_of_writes_sub (W := w3) hostOps0_3 W (forall_writes_sub_of_map (by rfl)) h

/-- The buffers that group 4 of the host operations writes. -/
def w4 : List (Ref sig .tc) := [main_c_2, main_v14, main_c_3]

open StableHlo in
/-- Group 4 leaves every other buffer alone. -/
theorem keep4 (W : KerVal) (r : Ref sig .tc) (h : r ∉ w4) :
    after hostOps0_4 W (Proc.devRef .tc r) = W (Proc.devRef .tc r) :=
  after_of_writes_sub (W := w4) hostOps0_4 W (forall_writes_sub_of_map (by rfl)) h

/-- The buffers that group 5 of the host operations writes. -/
def w5 : List (Ref sig .tc) := [main_call2_v0, main_call2_v1, main_v15]

open StableHlo in
/-- Group 5 leaves every other buffer alone. -/
theorem keep5 (W : KerVal) (r : Ref sig .tc) (h : r ∉ w5) :
    after hostOps0_5 W (Proc.devRef .tc r) = W (Proc.devRef .tc r) :=
  after_of_writes_sub (W := w5) hostOps0_5 W (forall_writes_sub_of_map (by rfl)) h

/-- The buffers that group 6 of the host operations writes. -/
def w6 : List (Ref sig .tc) := [main_c_4, main_v16, main_v17, main_c_5, main_v18, main_v19, main_v20, main_v21, main_c_6, main_v22, main_v23, main_c_7, main_v24, main_v25, main_c_8, main_v26, main_v27, main_c_9]

open StableHlo in
/-- Group 6 leaves every other buffer alone. -/
theorem keep6 (W : KerVal) (r : Ref sig .tc) (h : r ∉ w6) :
    after hostOps0_6 W (Proc.devRef .tc r) = W (Proc.devRef .tc r) :=
  after_of_writes_sub (W := w6) hostOps0_6 W (forall_writes_sub_of_map (by rfl)) h

/-- The buffers that group 7 of the host operations writes. -/
def w7 : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v28]

open StableHlo in
/-- Group 7 leaves every other buffer alone. -/
theorem keep7 (W : KerVal) (r : Ref sig .tc) (h : r ∉ w7) :
    after hostOps0_7 W (Proc.devRef .tc r) = W (Proc.devRef .tc r) :=
  after_of_writes_sub (W := w7) hostOps0_7 W (forall_writes_sub_of_map (by rfl)) h

/-- The buffers that group 8 of the host operations writes. -/
def w8 : List (Ref sig .tc) := [main_c_10, main_v29, main_v30]

open StableHlo in
/-- Group 8 leaves every other buffer alone. -/
theorem keep8 (W : KerVal) (r : Ref sig .tc) (h : r ∉ w8) :
    after hostOps0_8 W (Proc.devRef .tc r) = W (Proc.devRef .tc r) :=
  after_of_writes_sub (W := w8) hostOps0_8 W (forall_writes_sub_of_map (by rfl)) h

/-- The buffers that group 9 of the host operations writes. -/
def w9 : List (Ref sig .tc) := [main_call4_call0_c, main_call4_call0_v0, main_v31]

open StableHlo in
/-- Group 9 leaves every other buffer alone. -/
theorem keep9 (W : KerVal) (r : Ref sig .tc) (h : r ∉ w9) :
    after hostOps0_9 W (Proc.devRef .tc r) = W (Proc.devRef .tc r) :=
  after_of_writes_sub (W := w9) hostOps0_9 W (forall_writes_sub_of_map (by rfl)) h

/-- The buffers that group 10 of the host operations writes. -/
def w10 : List (Ref sig .tc) := [main_v32]

open StableHlo in
/-- Group 10 leaves every other buffer alone. -/
theorem keep10 (W : KerVal) (r : Ref sig .tc) (h : r ∉ w10) :
    after hostOps0_10 W (Proc.devRef .tc r) = W (Proc.devRef .tc r) :=
  after_of_writes_sub (W := w10) hostOps0_10 W (forall_writes_sub_of_map (by rfl)) h

/-- The buffers that group 11 of the host operations writes. -/
def w11 : List (Ref sig .tc) := [main_call5_call0_c, main_call5_call0_v0, main_v33]

open StableHlo in
/-- Group 11 leaves every other buffer alone. -/
theorem keep11 (W : KerVal) (r : Ref sig .tc) (h : r ∉ w11) :
    after hostOps0_11 W (Proc.devRef .tc r) = W (Proc.devRef .tc r) :=
  after_of_writes_sub (W := w11) hostOps0_11 W (forall_writes_sub_of_map (by rfl)) h

/-- The buffers that group 12 of the host operations writes. -/
def w12 : List (Ref sig .tc) := [main_v34, main_c_11, main_v35, main_v36, main_c_12, main_v37, main_v38, main_v39, main_v40, main_v41, main_v42, main_v43, main_c_13, main_v44, main_v45, main_c_14, main_v46, main_v47, main_v48, main_v49, main_v50, main_v51, main_c_15, main_v52, main_c_16, main_v53, main_v54, main_c_17, main_v55, main_v56, main_v57, main_v58, main_v59, main_v60, main_c_18, main_v61, main_v62, main_v63, main_v64, main_v65, main_v66, main_v67, main_v68, main_c_19, main_v69, main_c_20, main_v70, main_v71, main_c_21, main_v72, main_v73, main_c_22, main_v74, main_v75, main_v76, main_v77, main_v78, main_v79]

open StableHlo in
/-- Group 12 leaves every other buffer alone. -/
theorem keep12 (W : KerVal) (r : Ref sig .tc) (h : r ∉ w12) :
    after hostOps0_12 W (Proc.devRef .tc r) = W (Proc.devRef .tc r) :=
  after_of_writes_sub (W := w12) hostOps0_12 W (forall_writes_sub_of_map (by rfl)) h

open StableHlo in
/-- The order of the assignments. -/
theorem order_eq (W : KerVal) (R : RefVal)
    (h0 : (W (Proc.devRef .tc main_v4) : IVec S32768 32) = Cert.ExpertsReferenceIdeal.Value.res_main_v0 R) :
    (after hostOps0_1 W (Proc.devRef .tc main_v5) : IVec S32768 32) = Cert.ExpertsReferenceIdeal.Value.res_main_v3 R := by
  simp only [hostOps0_1, StableHlo.TRef.nullary, StableHlo.TRef.unary, StableHlo.TRef.binary, StableHlo.TRef.ternary, StableHlo.TRef.toBuf, StableHlo.TRef.ofBuf, cast_eq]
  after_results_simp
  try rw [h0]
  all_goals rfl

open StableHlo in
/-- The experts in that order. -/
theorem expert_eq (W : KerVal) (R : RefVal)
    (h0 : (W (Proc.devRef .tc main_v4) : IVec S32768 32) = Cert.ExpertsReferenceIdeal.Value.res_main_v0 R)
    (h1 : (W (Proc.devRef .tc main_v5) : IVec S32768 32) = Cert.ExpertsReferenceIdeal.Value.res_main_v3 R) :
    (after hostOps0_2 W (Proc.devRef .tc main_v12) : IVec S32768 32) = Cert.ExpertsReferenceIdeal.Value.res_main_v10 R := by
  simp only [hostOps0_2]
  after_results_simp
  try rw [h0]
  try rw [h1]
  all_goals rfl

open StableHlo in
/-- The constant two. -/
theorem two_eq (W : KerVal) (R : RefVal) :
    (after hostOps0_2 W (Proc.devRef .tc main_c_1) : IVec S_ 32) = constantI S_ 32 2#32 := by
  simp only [hostOps0_2]
  after_results_simp
  all_goals rfl

open StableHlo in
/-- The tokens of the assignments in that order. -/
theorem half_eq (W : KerVal) (R : RefVal)
    (h0 : (W (Proc.devRef .tc main_v5) : IVec S32768 32) = Cert.ExpertsReferenceIdeal.Value.res_main_v3 R)
    (h1 : (W (Proc.devRef .tc main_c_1) : IVec S_ 32) = constantI S_ 32 2#32) :
    (after hostOps0_3 W (Proc.devRef .tc main_v13) : IVec S32768 32) = half (Cert.ExpertsReferenceIdeal.Value.res_main_v3 R) := by
  simp only [hostOps0_3, StableHlo.TRef.nullary, StableHlo.TRef.unary, StableHlo.TRef.binary, StableHlo.TRef.ternary, StableHlo.TRef.toBuf, StableHlo.TRef.ofBuf, cast_eq]
  after_results_simp
  try rw [h0]
  try rw [h1]
  all_goals rfl

open StableHlo in
/-- Zero for every expert. -/
theorem zeros_eq (W : KerVal) (R : RefVal) :
    (after hostOps0_4 W (Proc.devRef .tc main_v14) : IVec S8 32) = broadcastInDim S8 ![] bcast_S_S8 (constantI S_ 32 0#32) := by
  simp only [hostOps0_4]
  after_results_simp
  all_goals rfl

open StableHlo in
/-- The constant zero. -/
theorem zero_eq (W : KerVal) (R : RefVal) :
    (after hostOps0_4 W (Proc.devRef .tc main_c_3) : IVec S_ 32) = constantI S_ 32 0#32 := by
  simp only [hostOps0_4]
  after_results_simp
  all_goals rfl

open StableHlo in
/-- The experts cut off below at zero. -/
theorem clip_eq (W : KerVal) (R : RefVal)
    (h0 : (W (Proc.devRef .tc main_v4) : IVec S32768 32) = Cert.ExpertsReferenceIdeal.Value.res_main_v0 R)
    (h1 : (W (Proc.devRef .tc main_c_3) : IVec S_ 32) = constantI S_ 32 0#32) :
    (after hostOps0_5 W (Proc.devRef .tc main_v15) : IVec S32768 32) = Cert.ExpertsReferenceIdeal.Value.res_main_v19 R := by
  simp only [hostOps0_5, StableHlo.TRef.nullary, StableHlo.TRef.unary, StableHlo.TRef.binary, StableHlo.TRef.ternary, StableHlo.TRef.toBuf, StableHlo.TRef.ofBuf, cast_eq]
  after_results_simp
  try rw [h0]
  try rw [h1]
  all_goals rfl

open StableHlo in
/-- The counts. -/
theorem counts_eq (W : KerVal) (R : RefVal)
    (h0 : (W (Proc.devRef .tc main_v15) : IVec S32768 32) = Cert.ExpertsReferenceIdeal.Value.res_main_v19 R)
    (h1 : (W (Proc.devRef .tc main_v14) : IVec S8 32) = broadcastInDim S8 ![] bcast_S_S8 (constantI S_ 32 0#32)) :
    (after hostOps0_6 W (Proc.devRef .tc main_v23) : IVec S8 32) = Cert.ExpertsReferenceIdeal.Value.res_main_v27 R := by
  simp only [hostOps0_6]
  after_results_simp
  try rw [h0]
  try rw [h1]
  all_goals rfl

open StableHlo in
/-- The counts, raised by a block less one. -/
theorem raised_eq (W : KerVal) (R : RefVal)
    (h0 : (W (Proc.devRef .tc main_v15) : IVec S32768 32) = Cert.ExpertsReferenceIdeal.Value.res_main_v19 R)
    (h1 : (W (Proc.devRef .tc main_v14) : IVec S8 32) = broadcastInDim S8 ![] bcast_S_S8 (constantI S_ 32 0#32)) :
    (after hostOps0_6 W (Proc.devRef .tc main_v27) : IVec S8 32) = Cert.ExpertsReferenceIdeal.Value.res_main_v31 R := by
  simp only [hostOps0_6]
  after_results_simp
  try rw [h0]
  try rw [h1]
  all_goals rfl

open StableHlo in
/-- The constant block size. -/
theorem block_eq (W : KerVal) (R : RefVal) :
    (after hostOps0_6 W (Proc.devRef .tc main_c_9) : IVec S_ 32) = constantI S_ 32 512#32 := by
  simp only [hostOps0_6]
  after_results_simp
  all_goals rfl

/-- The number of blocks of every expert, from the reference's raised counts. -/
def blocks (R : RefVal) : IVec S8 32 :=
  select (andi (cmpi .ne (signi (Cert.ExpertsReferenceIdeal.Value.res_main_v31 R)) (broadcastInDim S8 ![] bcast_S_S8 (signi (id (constantI S_ 32 512#32))))) (cmpi .ne (Host.remsi (Cert.ExpertsReferenceIdeal.Value.res_main_v31 R) (broadcastInDim S8 ![] bcast_S_S8 (id (constantI S_ 32 512#32)))) (broadcastInDim S8 ![] bcast_S_S8 (constantI S_ 32 0#32)))) (subi (Host.divsi (Cert.ExpertsReferenceIdeal.Value.res_main_v31 R) (broadcastInDim S8 ![] bcast_S_S8 (id (constantI S_ 32 512#32)))) (broadcastInDim S8 ![] bcast_S_S8 (constantI S_ 32 1#32))) (Host.divsi (Cert.ExpertsReferenceIdeal.Value.res_main_v31 R) (broadcastInDim S8 ![] bcast_S_S8 (id (constantI S_ 32 512#32))))

open StableHlo in
/-- The number of blocks of every expert. -/
theorem blocks_eq (W : KerVal) (R : RefVal)
    (h0 : (W (Proc.devRef .tc main_v27) : IVec S8 32) = Cert.ExpertsReferenceIdeal.Value.res_main_v31 R)
    (h1 : (W (Proc.devRef .tc main_c_9) : IVec S_ 32) = constantI S_ 32 512#32) :
    (after hostOps0_7 W (Proc.devRef .tc main_v28) : IVec S8 32) = blocks R := by
  simp only [hostOps0_7, StableHlo.TRef.nullary, StableHlo.TRef.unary, StableHlo.TRef.binary, StableHlo.TRef.ternary, StableHlo.TRef.toBuf, StableHlo.TRef.ofBuf, cast_eq]
  after_results_simp
  try rw [h0]
  try rw [h1]
  all_goals rfl

open StableHlo in
/-- The padded counts. -/
theorem padded_eq (W : KerVal) (R : RefVal)
    (h0 : (W (Proc.devRef .tc main_v28) : IVec S8 32) = blocks R) :
    (after hostOps0_8 W (Proc.devRef .tc main_v30) : IVec S8 32) = Cert.ExpertsReferenceIdeal.Value.res_main_v34 R := by
  simp only [hostOps0_8]
  after_results_simp
  try rw [h0]
  all_goals rfl

open StableHlo in
/-- The ends of the padded groups. -/
theorem ends_eq (W : KerVal) (R : RefVal)
    (h0 : (W (Proc.devRef .tc main_v30) : IVec S8 32) = Cert.ExpertsReferenceIdeal.Value.res_main_v34 R) :
    (after hostOps0_9 W (Proc.devRef .tc main_v31) : IVec S8 32) = Cert.ExpertsReferenceIdeal.Value.res_main_v37 R := by
  simp only [hostOps0_9, StableHlo.TRef.nullary, StableHlo.TRef.unary, StableHlo.TRef.binary, StableHlo.TRef.ternary, StableHlo.TRef.toBuf, StableHlo.TRef.ofBuf, cast_eq]
  after_results_simp
  try rw [h0]
  all_goals rfl

open StableHlo in
/-- The starts of the padded groups. -/
theorem starts_eq (W : KerVal) (R : RefVal)
    (h0 : (W (Proc.devRef .tc main_v31) : IVec S8 32) = Cert.ExpertsReferenceIdeal.Value.res_main_v37 R)
    (h1 : (W (Proc.devRef .tc main_v30) : IVec S8 32) = Cert.ExpertsReferenceIdeal.Value.res_main_v34 R) :
    (after hostOps0_10 W (Proc.devRef .tc main_v32) : IVec S8 32) = subi (Cert.ExpertsReferenceIdeal.Value.res_main_v37 R) (Cert.ExpertsReferenceIdeal.Value.res_main_v34 R) := by
  simp only [hostOps0_10]
  after_results_simp
  try rw [h0]
  try rw [h1]
  all_goals rfl

open StableHlo in
/-- The sums of the counts so far. -/
theorem sums_eq (W : KerVal) (R : RefVal)
    (h0 : (W (Proc.devRef .tc main_v23) : IVec S8 32) = Cert.ExpertsReferenceIdeal.Value.res_main_v27 R) :
    (after hostOps0_11 W (Proc.devRef .tc main_v33) : IVec S8 32) = Host.reduceWindow IntOp.addi ![8] ![1] ![7] ![0] (Cert.ExpertsReferenceIdeal.Value.res_main_v27 R) (broadcastInDim S_ ![] bcast_S_S_ (constantI S_ 32 0#32)) reduceWindows_S8_S8_w8s1p7_0 h_S_ := by
  simp only [hostOps0_11, StableHlo.TRef.nullary, StableHlo.TRef.unary, StableHlo.TRef.binary, StableHlo.TRef.ternary, StableHlo.TRef.toBuf, StableHlo.TRef.ofBuf, cast_eq]
  after_results_simp
  try rw [h0]
  all_goals rfl

end Cert.ExpertsIdeal.Route
-- ==== Proof.ExpertsRoute.lean ====
module

public import proofs.«01_k».proof.Proof.ExpertsHost
public import Idealize.ShloMosaic.Lib.Routing.OpsSet

/-!
The three places where the two routings are written differently: the token of an assignment, the table of owners, and the rows themselves. The order of the
assignments is a permutation of their positions, so half of an entry of it is the entry of the halves that it points at.
-/

@[expose] public section
set_option maxRecDepth 16384
noncomputable section
open Idealize.ShloMosaic Idealize.ShloMosaic.TcCoe Idealize.SL.Sem
namespace Cert.ExpertsIdeal.Route
open Cert.ExpertsIdeal Cert.ExpertsIdeal.Gen

/-- A column of indices from a vector, a negative one raised by the extent `N`. -/
def fix (x : IVec S32768 32) (N : BitVec 32) : IVec S32768x1 32 :=
  broadcastInDim S32768x1 ![0] bcast_S32768_S32768x1_0 (select (cmpi .slt x (broadcastInDim S32768 ![] bcast_S_S32768 (constantI S_ 32 0#32)))
    (addi x (broadcastInDim S32768 ![] bcast_S_S32768 (constantI S_ 32 N))) x)

/-- An index that is not negative stays as it is. -/
theorem fix_at (x : IVec S32768 32) (N : BitVec 32) (p : Fin 32768) (a : Nat) (ha : a < 32768) (h : x (ix1 p) = BitVec.ofNat 32 a) :
    fix x N (ix2 p (0 : Fin 1)) = BitVec.ofNat 32 a := by
  unfold fix
  refine (Routing.bcCol _ _ p).trans ?_
  show Scalar.select (IntOp.cmpi .slt (x (ix1 p)) (BitVec.ofNat 32 0)) (IntOp.addi (x (ix1 p)) N) (x (ix1 p)) = _
  rw [h, WordCmp.cmpi_slt_ofNat (by omega) (by decide), decide_eq_false (Nat.not_lt_zero a)]
  rfl

/-- A sort of positions leaves a position everywhere. -/
theorem iota_sorted {n : ℕ} (cmp : BitVec 32 × BitVec 32 → BitVec 32 × BitVec 32 → BitVec 1) (x : IVec ⟨1, ![n]⟩ 32) (p : Fin n) :
    (Host.sort2 ⟨1, ![n]⟩ 0 cmp x (iotaInDim ⟨1, ![n]⟩ 32 0)).2 (ix1 p) =
      BitVec.ofNat 32 (sortedFrom (fun k k' => cmp (x (Shape.Idx.ofFin k), iotaInDim ⟨1, ![n]⟩ 32 0 (Shape.Idx.ofFin k))
        (x (Shape.Idx.ofFin k'), iotaInDim ⟨1, ![n]⟩ 32 0 (Shape.Idx.ofFin k')) == 1#1) p).1 := by
  unfold Host.sort2
  simp
  rfl

/-- The sort leaves positions in the second array. -/
theorem sorted_at (x : IVec S32768 32) (p : Fin 32768) :
    ∃ k : Fin 32768, (Host.sort2 S32768 0 comparator_i32_i32_d0 x (iotaInDim S32768 32 0)).2 (ix1 p) = BitVec.ofNat 32 k.1 :=
  ⟨_, iota_sorted comparator_i32_i32_d0 x p⟩

/-- Half of a number, rounded down, in the words that the program computes with. -/
def half1 (v : BitVec 32) : BitVec 32 :=
  Scalar.select (IntOp.andi (IntOp.cmpi .ne (if v = 0 then 0 else if v.msb then -1 else 1) (if (2#32 : BitVec 32) = 0 then 0 else if (2#32 : BitVec 32).msb then -1 else (1 : BitVec 32)))
      (IntOp.cmpi .ne (IntOp.remsi .host v 2#32) 0#32))
    (IntOp.subi (IntOp.divsi .host v 2#32) 1#32) (IntOp.divsi .host v 2#32)

theorem half_at (x : IVec S32768 32) (y : S32768.Idx) : half x y = half1 (x y) := rfl

/-- Half of every entry of an array of positions is the entry of the halves of all positions that it points at. -/
theorem half_take (x : IVec S32768 32) (h : ∀ p : Fin 32768, ∃ k : Fin 32768, x (ix1 p) = BitVec.ofNat 32 k.1) :
    Host.gather gather_S32768_S32768x1_S32768_n_0_n_n_0_1_1 (half (iotaInDim S32768 32 0)) (fix x 32768#32) = half x := by
  funext y
  obtain ⟨p, rfl⟩ : ∃ p : Fin 32768, y = ix1 p := ⟨y 0, eq_ix1 y⟩
  obtain ⟨k, hk⟩ := h p
  refine (Routing.gather_take1 _ rfl rfl rfl rfl _ (fix x 32768#32) p k (fix_at x _ p k.1 k.2 hk) (by decide)).trans ?_
  have e : (iotaInDim S32768 32 0 : IVec S32768 32) (ix1 k) = x (ix1 p) := hk.symm
  exact (half_at _ _).trans ((congrArg half1 e).trans (half_at x _).symm)

/-- The reference's tokens of the rows, with half of the order in place of the order into the halves. -/
theorem tokens_eq (R : RefVal) : (Cert.ExpertsReferenceIdeal.Value.res_main_v63 R : IVec S36864 32) =
    Host.scatter scatter_S36864_S32768x1_S32768_n_0_0_1 (fun _ b => b) (broadcastInDim S36864 ![] bcast_S_S36864 (constantI S_ 32 0#32))
      (fix (Cert.ExpertsReferenceIdeal.Value.res_main_v55 R) 36864#32) (half (Cert.ExpertsReferenceIdeal.Value.res_main_v3 R)) := by
  refine Eq.trans ?_ (congrArg (Host.scatter scatter_S36864_S32768x1_S32768_n_0_0_1 (fun _ b => b) (broadcastInDim S36864 ![] bcast_S_S36864 (constantI S_ 32 0#32))
      (fix (Cert.ExpertsReferenceIdeal.Value.res_main_v55 R) 36864#32)) (half_take _ (fun p => sorted_at _ p)))
  rfl

/-- The table of owners. -/
theorem owners_eq (R : RefVal) : Tab.cap (Cert.ExpertsReferenceIdeal.Value.res_main_v37 R) = Cert.ExpertsReferenceIdeal.Value.res_main_v75 R := by
  have e : (broadcastInDim S72x1 ![0] bcast_S72_S72x1_0 (muli (iotaInDim S72 32 0) (broadcastInDim S72 ![] bcast_S_S72 (constantI S_ 32 512#32))) : IVec S72x1 32) =
      muli (broadcastInDim S72x1 ![0] bcast_S72_S72x1_0 (iotaInDim S72 32 0)) (broadcastInDim S72x1 ![] Cert.ExpertsReferenceIdeal.Gen.facts.bcast_S_S72x1 (constantI S_ 32 512#32)) := rfl
  unfold Tab.cap
  rw [e]
  rfl

/-- The index column of the rows. -/
def fixRows (x : IVec S36864 32) : IVec S36864x1 32 :=
  broadcastInDim S36864x1 ![0] bcast_S36864_S36864x1_0 (select (cmpi .slt x (broadcastInDim S36864 ![] bcast_S_S36864 (constantI S_ 32 0#32)))
    (addi x (broadcastInDim S36864 ![] bcast_S_S36864 (constantI S_ 32 16384#32))) x)

/-- The rows, gathered by token. -/
def rows (h : S16384x1024.Idx → EReal) (R : RefVal) : S36864x1024.Idx → EReal :=
  Host.gather gather_S16384x1024_S36864x1_S36864x1024_1_0_n_n_0_1_11024 h (fixRows (Cert.ExpertsReferenceIdeal.Value.res_main_v63 R))

open StableHlo in
/-- The last group leaves the gathered rows. -/
theorem rows_eq (W : KerVal) (R : RefVal) (h : S16384x1024.Idx → EReal)
    (h0 : (W (Proc.devRef .tc main_v33) : IVec S8 32) = Host.reduceWindow IntOp.addi ![8] ![1] ![7] ![0] (Cert.ExpertsReferenceIdeal.Value.res_main_v27 R) (broadcastInDim S_ ![] bcast_S_S_ (constantI S_ 32 0#32)) reduceWindows_S8_S8_w8s1p7_0 h_S_)
    (h1 : (W (Proc.devRef .tc main_v23) : IVec S8 32) = Cert.ExpertsReferenceIdeal.Value.res_main_v27 R)
    (h2 : (W (Proc.devRef .tc main_v12) : IVec S32768 32) = Cert.ExpertsReferenceIdeal.Value.res_main_v10 R)
    (h3 : (W (Proc.devRef .tc main_v32) : IVec S8 32) = subi (Cert.ExpertsReferenceIdeal.Value.res_main_v37 R) (Cert.ExpertsReferenceIdeal.Value.res_main_v34 R))
    (h4 : (W (Proc.devRef .tc main_v13) : IVec S32768 32) = half (Cert.ExpertsReferenceIdeal.Value.res_main_v3 R))
    (h5 : (W (Proc.devRef .tc main_v3) : S16384x1024.Idx → EReal) = h) :
    (after hostOps0_12 W (Proc.devRef .tc main_v78) : S36864x1024.Idx → EReal) = rows h R := by
  unfold rows
  rw [tokens_eq]
  simp only [hostOps0_12]
  after_results_simp
  rw [h0, h1, h2, h3, h4, h5]
  rfl

end Cert.ExpertsIdeal.Route
end
-- ==== Proof.ExpertsFound.lean ====
module

public import proofs.«01_k».proof.Proof.ExpertsRoute

/-!
What the experts' launch finds, from the arguments: the table of owners, the gathered rows and the experts' matrices, the groups of host operations one after another.
-/

@[expose] public section
set_option maxRecDepth 16384
noncomputable section
open Idealize.ShloMosaic Idealize.ShloMosaic.TcCoe Idealize.SL.Sem
namespace Cert.ExpertsIdeal.Route
open Cert.ExpertsIdeal Cert.ExpertsIdeal.Gen

variable (W : KerVal) (R : RefVal)

/-- The buffers after group 0. -/
def st0 : KerVal := StableHlo.after hostOps0 W
/-- The buffers after group 1. -/
def st1 : KerVal := StableHlo.after hostOps0_1 (st0 W)
/-- The buffers after group 2. -/
def st2 : KerVal := StableHlo.after hostOps0_2 (st1 W)
/-- The buffers after group 3. -/
def st3 : KerVal := StableHlo.after hostOps0_3 (st2 W)
/-- The buffers after group 4. -/
def st4 : KerVal := StableHlo.after hostOps0_4 (st3 W)
/-- The buffers after group 5. -/
def st5 : KerVal := StableHlo.after hostOps0_5 (st4 W)
/-- The buffers after group 6. -/
def st6 : KerVal := StableHlo.after hostOps0_6 (st5 W)
/-- The buffers after group 7. -/
def st7 : KerVal := StableHlo.after hostOps0_7 (st6 W)
/-- The buffers after group 8. -/
def st8 : KerVal := StableHlo.after hostOps0_8 (st7 W)
/-- The buffers after group 9. -/
def st9 : KerVal := StableHlo.after hostOps0_9 (st8 W)
/-- The buffers after group 10. -/
def st10 : KerVal := StableHlo.after hostOps0_10 (st9 W)
/-- The buffers after group 11. -/
def st11 : KerVal := StableHlo.after hostOps0_11 (st10 W)

/-- The launch finds what the last group leaves. -/
theorem V_eq (m : (ℓ : Loc nD τ sig) → Buf (Elt Ideal) ℓ) (c : Dev nD) (b : Ref sig .tc) :
    V m c b = StableHlo.after hostOps0_12 (st11 fun b => m (c, b)) (Proc.devRef .tc b) := by
  show StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) (Proc.devRef .tc b) = _
  simp only [List.flatten_cons, List.flatten_nil, List.append_nil, StableHlo.after_append]
  rfl

open StableHlo in
theorem v0_0 : (st0 W (Proc.devRef .tc main_v0) : S8x1024x3584.Idx → EReal) = W (Proc.devRef .tc main_arg3) := by
  unfold st0
  simp only [hostOps0]
  after_results_simp
  all_goals rfl
open StableHlo in
theorem v1_0 : (st0 W (Proc.devRef .tc main_v1) : S8x1024x3584.Idx → EReal) = W (Proc.devRef .tc main_arg4) := by
  unfold st0
  simp only [hostOps0]
  after_results_simp
  all_goals rfl
open StableHlo in
theorem v2_0 : (st0 W (Proc.devRef .tc main_v2) : S8x3584x1024.Idx → EReal) = W (Proc.devRef .tc main_arg5) := by
  unfold st0
  simp only [hostOps0]
  after_results_simp
  all_goals rfl
open StableHlo in
theorem v3_0 : (st0 W (Proc.devRef .tc main_v3) : S16384x1024.Idx → EReal) = W (Proc.devRef .tc main_arg0) := by
  unfold st0
  simp only [hostOps0]
  after_results_simp
  all_goals rfl

open StableHlo in
theorem v4_0 (h : (W (Proc.devRef .tc main_arg2) : IVec S16384x2 32) = R (Proc.devRef .tc Cert.ExpertsReferenceIdeal.main_arg2)) :
    (st0 W (Proc.devRef .tc main_v4) : IVec S32768 32) = Cert.ExpertsReferenceIdeal.Value.res_main_v0 R := by
  unfold st0
  simp only [hostOps0]
  after_results_simp
  exact congrArg (fun x : IVec S16384x2 32 => (shapeCast S32768 x shapeCasts_S16384x2_S32768 : IVec S32768 32)) h

theorem v0_1 : (st1 W (Proc.devRef .tc main_v0) : S8x1024x3584.Idx → EReal) = W (Proc.devRef .tc main_arg3) := (keep1 _ main_v0 (by decide)).trans (v0_0 W)
theorem v1_1 : (st1 W (Proc.devRef .tc main_v1) : S8x1024x3584.Idx → EReal) = W (Proc.devRef .tc main_arg4) := (keep1 _ main_v1 (by decide)).trans (v1_0 W)
theorem v2_1 : (st1 W (Proc.devRef .tc main_v2) : S8x3584x1024.Idx → EReal) = W (Proc.devRef .tc main_arg5) := (keep1 _ main_v2 (by decide)).trans (v2_0 W)
theorem v3_1 : (st1 W (Proc.devRef .tc main_v3) : S16384x1024.Idx → EReal) = W (Proc.devRef .tc main_arg0) := (keep1 _ main_v3 (by decide)).trans (v3_0 W)
theorem v4_1 (h : (W (Proc.devRef .tc main_arg2) : IVec S16384x2 32) = R (Proc.devRef .tc Cert.ExpertsReferenceIdeal.main_arg2)) : (st1 W (Proc.devRef .tc main_v4) : IVec S32768 32) = Cert.ExpertsReferenceIdeal.Value.res_main_v0 R := (keep1 _ main_v4 (by decide)).trans (v4_0 W R h)
theorem v5_1 (h : (W (Proc.devRef .tc main_arg2) : IVec S16384x2 32) = R (Proc.devRef .tc Cert.ExpertsReferenceIdeal.main_arg2)) : (st1 W (Proc.devRef .tc main_v5) : IVec S32768 32) = Cert.ExpertsReferenceIdeal.Value.res_main_v3 R := order_eq _ R (v4_0 W R h)
theorem v0_2 : (st2 W (Proc.devRef .tc main_v0) : S8x1024x3584.Idx → EReal) = W (Proc.devRef .tc main_arg3) := (keep2 _ main_v0 (by decide)).trans (v0_1 W)
theorem v1_2 : (st2 W (Proc.devRef .tc main_v1) : S8x1024x3584.Idx → EReal) = W (Proc.devRef .tc main_arg4) := (keep2 _ main_v1 (by decide)).trans (v1_1 W)
theorem v2_2 : (st2 W (Proc.devRef .tc main_v2) : S8x3584x1024.Idx → EReal) = W (Proc.devRef .tc main_arg5) := (keep2 _ main_v2 (by decide)).trans (v2_1 W)
theorem v3_2 : (st2 W (Proc.devRef .tc main_v3) : S16384x1024.Idx → EReal) = W (Proc.devRef .tc main_arg0) := (keep2 _ main_v3 (by decide)).trans (v3_1 W)
theorem v4_2 (h : (W (Proc.devRef .tc main_arg2) : IVec S16384x2 32) = R (Proc.devRef .tc Cert.ExpertsReferenceIdeal.main_arg2)) : (st2 W (Proc.devRef .tc main_v4) : IVec S32768 32) = Cert.ExpertsReferenceIdeal.Value.res_main_v0 R := (keep2 _ main_v4 (by decide)).trans (v4_1 W R h)
theorem v5_2 (h : (W (Proc.devRef .tc main_arg2) : IVec S16384x2 32) = R (Proc.devRef .tc Cert.ExpertsReferenceIdeal.main_arg2)) : (st2 W (Proc.devRef .tc main_v5) : IVec S32768 32) = Cert.ExpertsReferenceIdeal.Value.res_main_v3 R := (keep2 _ main_v5 (by decide)).trans (v5_1 W R h)
theorem v12_2 (h : (W (Proc.devRef .tc main_arg2) : IVec S16384x2 32) = R (Proc.devRef .tc Cert.ExpertsReferenceIdeal.main_arg2)) : (st2 W (Proc.devRef .tc main_v12) : IVec S32768 32) = Cert.ExpertsReferenceIdeal.Value.res_main_v10 R := expert_eq _ R (v4_1 W R h) (v5_1 W R h)
theorem c_1_2 (h : (W (Proc.devRef .tc main_arg2) : IVec S16384x2 32) = R (Proc.devRef .tc Cert.ExpertsReferenceIdeal.main_arg2)) : (st2 W (Proc.devRef .tc main_c_1) : IVec S_ 32) = constantI S_ 32 2#32 := two_eq _ R
theorem v0_3 : (st3 W (Proc.devRef .tc main_v0) : S8x1024x3584.Idx → EReal) = W (Proc.devRef .tc main_arg3) := (keep3 _ main_v0 (by decide)).trans (v0_2 W)
theorem v1_3 : (st3 W (Proc.devRef .tc main_v1) : S8x1024x3584.Idx → EReal) = W (Proc.devRef .tc main_arg4) := (keep3 _ main_v1 (by decide)).trans (v1_2 W)
theorem v12_3 (h : (W (Proc.devRef .tc main_arg2) : IVec S16384x2 32) = R (Proc.devRef .tc Cert.ExpertsReferenceIdeal.main_arg2)) : (st3 W (Proc.devRef .tc main_v12) : IVec S32768 32) = Cert.ExpertsReferenceIdeal.Value.res_main_v10 R := (keep3 _ main_v12 (by decide)).trans (v12_2 W R h)
theorem v2_3 : (st3 W (Proc.devRef .tc main_v2) : S8x3584x1024.Idx → EReal) = W (Proc.devRef .tc main_arg5) := (keep3 _ main_v2 (by decide)).trans (v2_2 W)
theorem v3_3 : (st3 W (Proc.devRef .tc main_v3) : S16384x1024.Idx → EReal) = W (Proc.devRef .tc main_arg0) := (keep3 _ main_v3 (by decide)).trans (v3_2 W)
theorem v4_3 (h : (W (Proc.devRef .tc main_arg2) : IVec S16384x2 32) = R (Proc.devRef .tc Cert.ExpertsReferenceIdeal.main_arg2)) : (st3 W (Proc.devRef .tc main_v4) : IVec S32768 32) = Cert.ExpertsReferenceIdeal.Value.res_main_v0 R := (keep3 _ main_v4 (by decide)).trans (v4_2 W R h)
theorem v13_3 (h : (W (Proc.devRef .tc main_arg2) : IVec S16384x2 32) = R (Proc.devRef .tc Cert.ExpertsReferenceIdeal.main_arg2)) : (st3 W (Proc.devRef .tc main_v13) : IVec S32768 32) = half (Cert.ExpertsReferenceIdeal.Value.res_main_v3 R) := half_eq _ R (v5_2 W R h) (c_1_2 W R h)
theorem v0_4 : (st4 W (Proc.devRef .tc main_v0) : S8x1024x3584.Idx → EReal) = W (Proc.devRef .tc main_arg3) := (keep4 _ main_v0 (by decide)).trans (v0_3 W)
theorem v1_4 : (st4 W (Proc.devRef .tc main_v1) : S8x1024x3584.Idx → EReal) = W (Proc.devRef .tc main_arg4) := (keep4 _ main_v1 (by decide)).trans (v1_3 W)
theorem v12_4 (h : (W (Proc.devRef .tc main_arg2) : IVec S16384x2 32) = R (Proc.devRef .tc Cert.ExpertsReferenceIdeal.main_arg2)) : (st4 W (Proc.devRef .tc main_v12) : IVec S32768 32) = Cert.ExpertsReferenceIdeal.Value.res_main_v10 R := (keep4 _ main_v12 (by decide)).trans (v12_3 W R h)
theorem v13_4 (h : (W (Proc.devRef .tc main_arg2) : IVec S16384x2 32) = R (Proc.devRef .tc Cert.ExpertsReferenceIdeal.main_arg2)) : (st4 W (Proc.devRef .tc main_v13) : IVec S32768 32) = half (Cert.ExpertsReferenceIdeal.Value.res_main_v3 R) := (keep4 _ main_v13 (by decide)).trans (v13_3 W R h)
theorem v2_4 : (st4 W (Proc.devRef .tc main_v2) : S8x3584x1024.Idx → EReal) = W (Proc.devRef .tc main_arg5) := (keep4 _ main_v2 (by decide)).trans (v2_3 W)
theorem v3_4 : (st4 W (Proc.devRef .tc main_v3) : S16384x1024.Idx → EReal) = W (Proc.devRef .tc main_arg0) := (keep4 _ main_v3 (by decide)).trans (v3_3 W)
theorem v4_4 (h : (W (Proc.devRef .tc main_arg2) : IVec S16384x2 32) = R (Proc.devRef .tc Cert.ExpertsReferenceIdeal.main_arg2)) : (st4 W (Proc.devRef .tc main_v4) : IVec S32768 32) = Cert.ExpertsReferenceIdeal.Value.res_main_v0 R := (keep4 _ main_v4 (by decide)).trans (v4_3 W R h)
theorem v14_4 (h : (W (Proc.devRef .tc main_arg2) : IVec S16384x2 32) = R (Proc.devRef .tc Cert.ExpertsReferenceIdeal.main_arg2)) : (st4 W (Proc.devRef .tc main_v14) : IVec S8 32) = broadcastInDim S8 ![] bcast_S_S8 (constantI S_ 32 0#32) := zeros_eq _ R
theorem c_3_4 (h : (W (Proc.devRef .tc main_arg2) : IVec S16384x2 32) = R (Proc.devRef .tc Cert.ExpertsReferenceIdeal.main_arg2)) : (st4 W (Proc.devRef .tc main_c_3) : IVec S_ 32) = constantI S_ 32 0#32 := zero_eq _ R
theorem v0_5 : (st5 W (Proc.devRef .tc main_v0) : S8x1024x3584.Idx → EReal) = W (Proc.devRef .tc main_arg3) := (keep5 _ main_v0 (by decide)).trans (v0_4 W)
theorem v1_5 : (st5 W (Proc.devRef .tc main_v1) : S8x1024x3584.Idx → EReal) = W (Proc.devRef .tc main_arg4) := (keep5 _ main_v1 (by decide)).trans (v1_4 W)
theorem v12_5 (h : (W (Proc.devRef .tc main_arg2) : IVec S16384x2 32) = R (Proc.devRef .tc Cert.ExpertsReferenceIdeal.main_arg2)) : (st5 W (Proc.devRef .tc main_v12) : IVec S32768 32) = Cert.ExpertsReferenceIdeal.Value.res_main_v10 R := (keep5 _ main_v12 (by decide)).trans (v12_4 W R h)
theorem v13_5 (h : (W (Proc.devRef .tc main_arg2) : IVec S16384x2 32) = R (Proc.devRef .tc Cert.ExpertsReferenceIdeal.main_arg2)) : (st5 W (Proc.devRef .tc main_v13) : IVec S32768 32) = half (Cert.ExpertsReferenceIdeal.Value.res_main_v3 R) := (keep5 _ main_v13 (by decide)).trans (v13_4 W R h)
theorem v14_5 (h : (W (Proc.devRef .tc main_arg2) : IVec S16384x2 32) = R (Proc.devRef .tc Cert.ExpertsReferenceIdeal.main_arg2)) : (st5 W (Proc.devRef .tc main_v14) : IVec S8 32) = broadcastInDim S8 ![] bcast_S_S8 (constantI S_ 32 0#32) := (keep5 _ main_v14 (by decide)).trans (v14_4 W R h)
theorem v2_5 : (st5 W (Proc.devRef .tc main_v2) : S8x3584x1024.Idx → EReal) = W (Proc.devRef .tc main_arg5) := (keep5 _ main_v2 (by decide)).trans (v2_4 W)
theorem v3_5 : (st5 W (Proc.devRef .tc main_v3) : S16384x1024.Idx → EReal) = W (Proc.devRef .tc main_arg0) := (keep5 _ main_v3 (by decide)).trans (v3_4 W)
theorem v15_5 (h : (W (Proc.devRef .tc main_arg2) : IVec S16384x2 32) = R (Proc.devRef .tc Cert.ExpertsReferenceIdeal.main_arg2)) : (st5 W (Proc.devRef .tc main_v15) : IVec S32768 32) = Cert.ExpertsReferenceIdeal.Value.res_main_v19 R := clip_eq _ R (v4_4 W R h) (c_3_4 W R h)
theorem v0_6 : (st6 W (Proc.devRef .tc main_v0) : S8x1024x3584.Idx → EReal) = W (Proc.devRef .tc main_arg3) := (keep6 _ main_v0 (by decide)).trans (v0_5 W)
theorem v1_6 : (st6 W (Proc.devRef .tc main_v1) : S8x1024x3584.Idx → EReal) = W (Proc.devRef .tc main_arg4) := (keep6 _ main_v1 (by decide)).trans (v1_5 W)
theorem v12_6 (h : (W (Proc.devRef .tc main_arg2) : IVec S16384x2 32) = R (Proc.devRef .tc Cert.ExpertsReferenceIdeal.main_arg2)) : (st6 W (Proc.devRef .tc main_v12) : IVec S32768 32) = Cert.ExpertsReferenceIdeal.Value.res_main_v10 R := (keep6 _ main_v12 (by decide)).trans (v12_5 W R h)
theorem v13_6 (h : (W (Proc.devRef .tc main_arg2) : IVec S16384x2 32) = R (Proc.devRef .tc Cert.ExpertsReferenceIdeal.main_arg2)) : (st6 W (Proc.devRef .tc main_v13) : IVec S32768 32) = half (Cert.ExpertsReferenceIdeal.Value.res_main_v3 R) := (keep6 _ main_v13 (by decide)).trans (v13_5 W R h)
theorem v2_6 : (st6 W (Proc.devRef .tc main_v2) : S8x3584x1024.Idx → EReal) = W (Proc.devRef .tc main_arg5) := (keep6 _ main_v2 (by decide)).trans (v2_5 W)
theorem v3_6 : (st6 W (Proc.devRef .tc main_v3) : S16384x1024.Idx → EReal) = W (Proc.devRef .tc main_arg0) := (keep6 _ main_v3 (by decide)).trans (v3_5 W)
theorem v23_6 (h : (W (Proc.devRef .tc main_arg2) : IVec S16384x2 32) = R (Proc.devRef .tc Cert.ExpertsReferenceIdeal.main_arg2)) : (st6 W (Proc.devRef .tc main_v23) : IVec S8 32) = Cert.ExpertsReferenceIdeal.Value.res_main_v27 R := counts_eq _ R (v15_5 W R h) (v14_5 W R h)
theorem v27_6 (h : (W (Proc.devRef .tc main_arg2) : IVec S16384x2 32) = R (Proc.devRef .tc Cert.ExpertsReferenceIdeal.main_arg2)) : (st6 W (Proc.devRef .tc main_v27) : IVec S8 32) = Cert.ExpertsReferenceIdeal.Value.res_main_v31 R := raised_eq _ R (v15_5 W R h) (v14_5 W R h)
theorem c_9_6 (h : (W (Proc.devRef .tc main_arg2) : IVec S16384x2 32) = R (Proc.devRef .tc Cert.ExpertsReferenceIdeal.main_arg2)) : (st6 W (Proc.devRef .tc main_c_9) : IVec S_ 32) = constantI S_ 32 512#32 := block_eq _ R
theorem v0_7 : (st7 W (Proc.devRef .tc main_v0) : S8x1024x3584.Idx → EReal) = W (Proc.devRef .tc main_arg3) := (keep7 _ main_v0 (by decide)).trans (v0_6 W)
theorem v1_7 : (st7 W (Proc.devRef .tc main_v1) : S8x1024x3584.Idx → EReal) = W (Proc.devRef .tc main_arg4) := (keep7 _ main_v1 (by decide)).trans (v1_6 W)
theorem v12_7 (h : (W (Proc.devRef .tc main_arg2) : IVec S16384x2 32) = R (Proc.devRef .tc Cert.ExpertsReferenceIdeal.main_arg2)) : (st7 W (Proc.devRef .tc main_v12) : IVec S32768 32) = Cert.ExpertsReferenceIdeal.Value.res_main_v10 R := (keep7 _ main_v12 (by decide)).trans (v12_6 W R h)
theorem v13_7 (h : (W (Proc.devRef .tc main_arg2) : IVec S16384x2 32) = R (Proc.devRef .tc Cert.ExpertsReferenceIdeal.main_arg2)) : (st7 W (Proc.devRef .tc main_v13) : IVec S32768 32) = half (Cert.ExpertsReferenceIdeal.Value.res_main_v3 R) := (keep7 _ main_v13 (by decide)).trans (v13_6 W R h)
theorem v2_7 : (st7 W (Proc.devRef .tc main_v2) : S8x3584x1024.Idx → EReal) = W (Proc.devRef .tc main_arg5) := (keep7 _ main_v2 (by decide)).trans (v2_6 W)
theorem v23_7 (h : (W (Proc.devRef .tc main_arg2) : IVec S16384x2 32) = R (Proc.devRef .tc Cert.ExpertsReferenceIdeal.main_arg2)) : (st7 W (Proc.devRef .tc main_v23) : IVec S8 32) = Cert.ExpertsReferenceIdeal.Value.res_main_v27 R := (keep7 _ main_v23 (by decide)).trans (v23_6 W R h)
theorem v3_7 : (st7 W (Proc.devRef .tc main_v3) : S16384x1024.Idx → EReal) = W (Proc.devRef .tc main_arg0) := (keep7 _ main_v3 (by decide)).trans (v3_6 W)
theorem v28_7 (h : (W (Proc.devRef .tc main_arg2) : IVec S16384x2 32) = R (Proc.devRef .tc Cert.ExpertsReferenceIdeal.main_arg2)) : (st7 W (Proc.devRef .tc main_v28) : IVec S8 32) = blocks R := blocks_eq _ R (v27_6 W R h) (c_9_6 W R h)
theorem v0_8 : (st8 W (Proc.devRef .tc main_v0) : S8x1024x3584.Idx → EReal) = W (Proc.devRef .tc main_arg3) := (keep8 _ main_v0 (by decide)).trans (v0_7 W)
theorem v1_8 : (st8 W (Proc.devRef .tc main_v1) : S8x1024x3584.Idx → EReal) = W (Proc.devRef .tc main_arg4) := (keep8 _ main_v1 (by decide)).trans (v1_7 W)
theorem v12_8 (h : (W (Proc.devRef .tc main_arg2) : IVec S16384x2 32) = R (Proc.devRef .tc Cert.ExpertsReferenceIdeal.main_arg2)) : (st8 W (Proc.devRef .tc main_v12) : IVec S32768 32) = Cert.ExpertsReferenceIdeal.Value.res_main_v10 R := (keep8 _ main_v12 (by decide)).trans (v12_7 W R h)
theorem v13_8 (h : (W (Proc.devRef .tc main_arg2) : IVec S16384x2 32) = R (Proc.devRef .tc Cert.ExpertsReferenceIdeal.main_arg2)) : (st8 W (Proc.devRef .tc main_v13) : IVec S32768 32) = half (Cert.ExpertsReferenceIdeal.Value.res_main_v3 R) := (keep8 _ main_v13 (by decide)).trans (v13_7 W R h)
theorem v2_8 : (st8 W (Proc.devRef .tc main_v2) : S8x3584x1024.Idx → EReal) = W (Proc.devRef .tc main_arg5) := (keep8 _ main_v2 (by decide)).trans (v2_7 W)
theorem v23_8 (h : (W (Proc.devRef .tc main_arg2) : IVec S16384x2 32) = R (Proc.devRef .tc Cert.ExpertsReferenceIdeal.main_arg2)) : (st8 W (Proc.devRef .tc main_v23) : IVec S8 32) = Cert.ExpertsReferenceIdeal.Value.res_main_v27 R := (keep8 _ main_v23 (by decide)).trans (v23_7 W R h)
theorem v3_8 : (st8 W (Proc.devRef .tc main_v3) : S16384x1024.Idx → EReal) = W (Proc.devRef .tc main_arg0) := (keep8 _ main_v3 (by decide)).trans (v3_7 W)
theorem v30_8 (h : (W (Proc.devRef .tc main_arg2) : IVec S16384x2 32) = R (Proc.devRef .tc Cert.ExpertsReferenceIdeal.main_arg2)) : (st8 W (Proc.devRef .tc main_v30) : IVec S8 32) = Cert.ExpertsReferenceIdeal.Value.res_main_v34 R := padded_eq _ R (v28_7 W R h)
theorem v0_9 : (st9 W (Proc.devRef .tc main_v0) : S8x1024x3584.Idx → EReal) = W (Proc.devRef .tc main_arg3) := (keep9 _ main_v0 (by decide)).trans (v0_8 W)
theorem v1_9 : (st9 W (Proc.devRef .tc main_v1) : S8x1024x3584.Idx → EReal) = W (Proc.devRef .tc main_arg4) := (keep9 _ main_v1 (by decide)).trans (v1_8 W)
theorem v12_9 (h : (W (Proc.devRef .tc main_arg2) : IVec S16384x2 32) = R (Proc.devRef .tc Cert.ExpertsReferenceIdeal.main_arg2)) : (st9 W (Proc.devRef .tc main_v12) : IVec S32768 32) = Cert.ExpertsReferenceIdeal.Value.res_main_v10 R := (keep9 _ main_v12 (by decide)).trans (v12_8 W R h)
theorem v13_9 (h : (W (Proc.devRef .tc main_arg2) : IVec S16384x2 32) = R (Proc.devRef .tc Cert.ExpertsReferenceIdeal.main_arg2)) : (st9 W (Proc.devRef .tc main_v13) : IVec S32768 32) = half (Cert.ExpertsReferenceIdeal.Value.res_main_v3 R) := (keep9 _ main_v13 (by decide)).trans (v13_8 W R h)
theorem v2_9 : (st9 W (Proc.devRef .tc main_v2) : S8x3584x1024.Idx → EReal) = W (Proc.devRef .tc main_arg5) := (keep9 _ main_v2 (by decide)).trans (v2_8 W)
theorem v23_9 (h : (W (Proc.devRef .tc main_arg2) : IVec S16384x2 32) = R (Proc.devRef .tc Cert.ExpertsReferenceIdeal.main_arg2)) : (st9 W (Proc.devRef .tc main_v23) : IVec S8 32) = Cert.ExpertsReferenceIdeal.Value.res_main_v27 R := (keep9 _ main_v23 (by decide)).trans (v23_8 W R h)
theorem v3_9 : (st9 W (Proc.devRef .tc main_v3) : S16384x1024.Idx → EReal) = W (Proc.devRef .tc main_arg0) := (keep9 _ main_v3 (by decide)).trans (v3_8 W)
theorem v30_9 (h : (W (Proc.devRef .tc main_arg2) : IVec S16384x2 32) = R (Proc.devRef .tc Cert.ExpertsReferenceIdeal.main_arg2)) : (st9 W (Proc.devRef .tc main_v30) : IVec S8 32) = Cert.ExpertsReferenceIdeal.Value.res_main_v34 R := (keep9 _ main_v30 (by decide)).trans (v30_8 W R h)
theorem v31_9 (h : (W (Proc.devRef .tc main_arg2) : IVec S16384x2 32) = R (Proc.devRef .tc Cert.ExpertsReferenceIdeal.main_arg2)) : (st9 W (Proc.devRef .tc main_v31) : IVec S8 32) = Cert.ExpertsReferenceIdeal.Value.res_main_v37 R := ends_eq _ R (v30_8 W R h)
theorem v0_10 : (st10 W (Proc.devRef .tc main_v0) : S8x1024x3584.Idx → EReal) = W (Proc.devRef .tc main_arg3) := (keep10 _ main_v0 (by decide)).trans (v0_9 W)
theorem v1_10 : (st10 W (Proc.devRef .tc main_v1) : S8x1024x3584.Idx → EReal) = W (Proc.devRef .tc main_arg4) := (keep10 _ main_v1 (by decide)).trans (v1_9 W)
theorem v12_10 (h : (W (Proc.devRef .tc main_arg2) : IVec S16384x2 32) = R (Proc.devRef .tc Cert.ExpertsReferenceIdeal.main_arg2)) : (st10 W (Proc.devRef .tc main_v12) : IVec S32768 32) = Cert.ExpertsReferenceIdeal.Value.res_main_v10 R := (keep10 _ main_v12 (by decide)).trans (v12_9 W R h)
theorem v13_10 (h : (W (Proc.devRef .tc main_arg2) : IVec S16384x2 32) = R (Proc.devRef .tc Cert.ExpertsReferenceIdeal.main_arg2)) : (st10 W (Proc.devRef .tc main_v13) : IVec S32768 32) = half (Cert.ExpertsReferenceIdeal.Value.res_main_v3 R) := (keep10 _ main_v13 (by decide)).trans (v13_9 W R h)
theorem v2_10 : (st10 W (Proc.devRef .tc main_v2) : S8x3584x1024.Idx → EReal) = W (Proc.devRef .tc main_arg5) := (keep10 _ main_v2 (by decide)).trans (v2_9 W)
theorem v23_10 (h : (W (Proc.devRef .tc main_arg2) : IVec S16384x2 32) = R (Proc.devRef .tc Cert.ExpertsReferenceIdeal.main_arg2)) : (st10 W (Proc.devRef .tc main_v23) : IVec S8 32) = Cert.ExpertsReferenceIdeal.Value.res_main_v27 R := (keep10 _ main_v23 (by decide)).trans (v23_9 W R h)
theorem v3_10 : (st10 W (Proc.devRef .tc main_v3) : S16384x1024.Idx → EReal) = W (Proc.devRef .tc main_arg0) := (keep10 _ main_v3 (by decide)).trans (v3_9 W)
theorem v31_10 (h : (W (Proc.devRef .tc main_arg2) : IVec S16384x2 32) = R (Proc.devRef .tc Cert.ExpertsReferenceIdeal.main_arg2)) : (st10 W (Proc.devRef .tc main_v31) : IVec S8 32) = Cert.ExpertsReferenceIdeal.Value.res_main_v37 R := (keep10 _ main_v31 (by decide)).trans (v31_9 W R h)
theorem v32_10 (h : (W (Proc.devRef .tc main_arg2) : IVec S16384x2 32) = R (Proc.devRef .tc Cert.ExpertsReferenceIdeal.main_arg2)) : (st10 W (Proc.devRef .tc main_v32) : IVec S8 32) = subi (Cert.ExpertsReferenceIdeal.Value.res_main_v37 R) (Cert.ExpertsReferenceIdeal.Value.res_main_v34 R) := starts_eq _ R (v31_9 W R h) (v30_9 W R h)
theorem v0_11 : (st11 W (Proc.devRef .tc main_v0) : S8x1024x3584.Idx → EReal) = W (Proc.devRef .tc main_arg3) := (keep11 _ main_v0 (by decide)).trans (v0_10 W)
theorem v1_11 : (st11 W (Proc.devRef .tc main_v1) : S8x1024x3584.Idx → EReal) = W (Proc.devRef .tc main_arg4) := (keep11 _ main_v1 (by decide)).trans (v1_10 W)
theorem v12_11 (h : (W (Proc.devRef .tc main_arg2) : IVec S16384x2 32) = R (Proc.devRef .tc Cert.ExpertsReferenceIdeal.main_arg2)) : (st11 W (Proc.devRef .tc main_v12) : IVec S32768 32) = Cert.ExpertsReferenceIdeal.Value.res_main_v10 R := (keep11 _ main_v12 (by decide)).trans (v12_10 W R h)
theorem v13_11 (h : (W (Proc.devRef .tc main_arg2) : IVec S16384x2 32) = R (Proc.devRef .tc Cert.ExpertsReferenceIdeal.main_arg2)) : (st11 W (Proc.devRef .tc main_v13) : IVec S32768 32) = half (Cert.ExpertsReferenceIdeal.Value.res_main_v3 R) := (keep11 _ main_v13 (by decide)).trans (v13_10 W R h)
theorem v2_11 : (st11 W (Proc.devRef .tc main_v2) : S8x3584x1024.Idx → EReal) = W (Proc.devRef .tc main_arg5) := (keep11 _ main_v2 (by decide)).trans (v2_10 W)
theorem v23_11 (h : (W (Proc.devRef .tc main_arg2) : IVec S16384x2 32) = R (Proc.devRef .tc Cert.ExpertsReferenceIdeal.main_arg2)) : (st11 W (Proc.devRef .tc main_v23) : IVec S8 32) = Cert.ExpertsReferenceIdeal.Value.res_main_v27 R := (keep11 _ main_v23 (by decide)).trans (v23_10 W R h)
theorem v3_11 : (st11 W (Proc.devRef .tc main_v3) : S16384x1024.Idx → EReal) = W (Proc.devRef .tc main_arg0) := (keep11 _ main_v3 (by decide)).trans (v3_10 W)
theorem v31_11 (h : (W (Proc.devRef .tc main_arg2) : IVec S16384x2 32) = R (Proc.devRef .tc Cert.ExpertsReferenceIdeal.main_arg2)) : (st11 W (Proc.devRef .tc main_v31) : IVec S8 32) = Cert.ExpertsReferenceIdeal.Value.res_main_v37 R := (keep11 _ main_v31 (by decide)).trans (v31_10 W R h)
theorem v32_11 (h : (W (Proc.devRef .tc main_arg2) : IVec S16384x2 32) = R (Proc.devRef .tc Cert.ExpertsReferenceIdeal.main_arg2)) : (st11 W (Proc.devRef .tc main_v32) : IVec S8 32) = subi (Cert.ExpertsReferenceIdeal.Value.res_main_v37 R) (Cert.ExpertsReferenceIdeal.Value.res_main_v34 R) := (keep11 _ main_v32 (by decide)).trans (v32_10 W R h)
theorem v33_11 (h : (W (Proc.devRef .tc main_arg2) : IVec S16384x2 32) = R (Proc.devRef .tc Cert.ExpertsReferenceIdeal.main_arg2)) : (st11 W (Proc.devRef .tc main_v33) : IVec S8 32) = Host.reduceWindow IntOp.addi ![8] ![1] ![7] ![0] (Cert.ExpertsReferenceIdeal.Value.res_main_v27 R) (broadcastInDim S_ ![] bcast_S_S_ (constantI S_ 32 0#32)) reduceWindows_S8_S8_w8s1p7_0 h_S_ := sums_eq _ R (v23_10 W R h)

section
variable (m : (ℓ : Loc nD τ sig) → Buf (Elt Ideal) ℓ) (c : Dev nD)
/-- The table of owners is the reference's. -/
theorem table_eq (h : (m (c, Proc.devRef .tc main_arg2) : IVec S16384x2 32) = R (Proc.devRef .tc Cert.ExpertsReferenceIdeal.main_arg2)) :
    (V m c main_v71 : IVec S72 32) = Cert.ExpertsReferenceIdeal.Value.res_main_v75 R :=
  (V_eq m c main_v71).trans ((Tab.last_group _).trans ((congrArg Tab.cap (v31_11 (fun b => m (c, b)) R h)).trans (owners_eq R)))
/-- The rows are the reference's rows. -/
theorem found_rows (h : (m (c, Proc.devRef .tc main_arg2) : IVec S16384x2 32) = R (Proc.devRef .tc Cert.ExpertsReferenceIdeal.main_arg2)) :
    (V m c main_v78 : S36864x1024.Idx → EReal) = rows (m (c, Proc.devRef .tc main_arg0)) R :=
  (V_eq m c main_v78).trans (rows_eq _ R _ (v33_11 (fun b => m (c, b)) R h) (v23_11 (fun b => m (c, b)) R h) (v12_11 (fun b => m (c, b)) R h)
    (v32_11 (fun b => m (c, b)) R h) (v13_11 (fun b => m (c, b)) R h) (v3_11 (fun b => m (c, b))))
/-- The matrices are the arguments. -/
theorem found_g : (V m c main_v0 : S8x1024x3584.Idx → EReal) = m (c, Proc.devRef .tc main_arg3) :=
  (V_eq m c main_v0).trans ((keep12 _ main_v0 (by decide)).trans (v0_11 fun b => m (c, b)))
theorem found_u : (V m c main_v1 : S8x1024x3584.Idx → EReal) = m (c, Proc.devRef .tc main_arg4) :=
  (V_eq m c main_v1).trans ((keep12 _ main_v1 (by decide)).trans (v1_11 fun b => m (c, b)))
theorem found_d : (V m c main_v2 : S8x3584x1024.Idx → EReal) = m (c, Proc.devRef .tc main_arg5) :=
  (V_eq m c main_v2).trans ((keep12 _ main_v2 (by decide)).trans (v2_11 fun b => m (c, b)))
end

end Cert.ExpertsIdeal.Route
end
-- ==== Proof.ExpertsRef.lean ====
module

public import proofs.«01_k».proof.Proof.Swiglu
public import proofs.«01_k».proof.Proof.Gen.ExpertsReferenceIdeal.Run
public import Idealize.ShloMosaic.Lib.Routing.OpsSet

/-!
The experts' reference, read at an index: every row's layer with the matrices that the table names for the row's block.
-/

@[expose] public section
set_option maxRecDepth 16384
noncomputable section
open Idealize.ShloMosaic Idealize.ShloMosaic.TcCoe Idealize.SL.Sem
namespace Cert.ExpertsReferenceIdeal.Ffn
open Cert.ExpertsReferenceIdeal Cert.ExpertsReferenceIdeal.Gen Cert.Swiglu

/-- The column of matrix numbers, a negative one raised by eight. -/
def col (tab : IVec S72 32) : IVec S72x1 32 :=
  broadcastInDim S72x1 ![0] bcast_S72_S72x1_0 (select (cmpi .slt tab (broadcastInDim S72 ![] bcast_S_S72 (constantI S_ 32 0#32))) (addi tab (broadcastInDim S72 ![] bcast_S_S72 (constantI S_ 32 8#32))) tab)

/-- The matrices of the blocks, for the first two products. -/
def pick (tab : IVec S72 32) (w : FVec Ideal S8x1024x3584 .f32) : FVec Ideal S72x1024x3584 .f32 :=
  Host.gather gather_S8x1024x3584_S72x1_S72x1024x3584_12_0_n_n_0_1_110243584 w (col tab)
/-- The matrices of the blocks, for the last product. -/
def pick2 (tab : IVec S72 32) (w : FVec Ideal S8x3584x1024 .f32) : FVec Ideal S72x3584x1024 .f32 :=
  Host.gather gather_S8x3584x1024_S72x1_S72x3584x1024_12_0_n_n_0_1_135841024 w (col tab)

/-- The blocks of rows times the blocks' matrices. -/
def prod (X : FVec Ideal S36864x1024 .f32) (w : FVec Ideal S72x1024x3584 .f32) : FVec Ideal S72x512x3584 .f32 :=
  Host.dotGeneral (φ₁ := .f32) (φ₂ := .f32) dot_S72x512x1024_S72x1024x3584_S72x512x3584_2_1_1_2_0_0 none (shapeCast _ X shapeCasts_S36864x1024_S72x512x1024) w

/-- The activation. -/
def act (a : FVec Ideal S72x512x3584 .f32) : FVec Ideal S72x512x3584 .f32 :=
  mulf a (Host.divf (broadcastInDim S72x512x3584 ![] bcast_S_S72x512x3584 (constant S_ .f32 0x3F800000#32)) (addf (broadcastInDim S72x512x3584 ![] bcast_S_S72x512x3584 (constant S_ .f32 0x3F800000#32)) (Host.exp (Host.negf a))))

/-- The layer. -/
def layer (u : FVec Ideal S72x512x3584 .f32) (w : FVec Ideal S72x3584x1024 .f32) : FVec Ideal S36864x1024 .f32 :=
  shapeCast _ (Host.dotGeneral (φ₁ := .f32) (φ₂ := .f32) dot_S72x512x3584_S72x3584x1024_S72x512x1024_2_1_1_2_0_0 none u w) shapeCasts_S72x512x1024_S36864x1024

theorem prod_at (X : FVec Ideal S36864x1024 .f32) (w : FVec Ideal S72x1024x3584 .f32) (n : Fin 36864) (e : Fin 3584) :
    prod X w (ix3 ⟨n.1 / 512, by omega⟩ ⟨n.1 % 512, by omega⟩ e) = ∑ k : Fin 1024, X (ix2 n k) * w (ix3 ⟨n.1 / 512, by omega⟩ k e) := by
  unfold prod
  have hx : ∀ k : Fin 1024, shapeCast S72x512x1024 X shapeCasts_S36864x1024_S72x512x1024 (ix3 ⟨n.1 / 512, by omega⟩ ⟨n.1 % 512, by omega⟩ k) = X (ix2 n k) := fun k => by
    refine shapeCast_apply X _ _ _ ?_
    rw [Shape.rowMajor_val_two, Shape.rowMajor_val_three]
    show n.1 * 1024 + k.1 = (n.1 / 512 * 512 + n.1 % 512) * 1024 + k.1
    rw [Nat.div_add_mod']
  generalize shapeCast S72x512x1024 X shapeCasts_S36864x1024_S72x512x1024 = x at hx ⊢
  simp only [← hx]
  pointwise

theorem act_at (a b : FVec Ideal S72x512x3584 .f32) (x : Fin 72) (t : Fin 512) (e : Fin 3584) :
    mulf (act a) b (ix3 x t e) = unit (a (ix3 x t e)) (b (ix3 x t e)) := by
  unfold unit act
  pointwise

theorem layer_at (u : FVec Ideal S72x512x3584 .f32) (w : FVec Ideal S72x3584x1024 .f32) (n : Fin 36864) (d : Fin 1024) :
    layer u w (ix2 n d) = ∑ e : Fin 3584, u (ix3 ⟨n.1 / 512, by omega⟩ ⟨n.1 % 512, by omega⟩ e) * w (ix3 ⟨n.1 / 512, by omega⟩ e d) := by
  unfold layer
  pointwise

/-- A number from zero to seven in the table stays in the column. -/
theorem col_at (tab : IVec S72 32) (b : Fin 72) (q : Fin 8) (h : (tab (ix1 b)).toNat = q.1) : (col tab (ix2 b (0 : Fin 1)) : BitVec 32) = BitVec.ofNat 32 q.1 := by
  have hq := q.2
  have e : tab (ix1 b) = BitVec.ofNat 32 q.1 := BitVec.eq_of_toNat_eq (by rw [h, BitVec.toNat_ofNat, Nat.mod_eq_of_lt (by omega)])
  have hc : (col tab (ix2 b (0 : Fin 1)) : BitVec 32) = Scalar.select (IntOp.cmpi .slt (tab (ix1 b)) (BitVec.ofNat 32 0)) (IntOp.addi (tab (ix1 b)) 8#32) (tab (ix1 b)) := by
    unfold col
    exact (Routing.bcCol _ _ b).trans rfl
  rw [hc, e, WordCmp.cmpi_slt_ofNat (by omega) (by decide), decide_eq_false (Nat.not_lt_zero q.1)]
  rfl

/-- A take of matrices along their first axis, at an entry. -/
theorem take3 {α : Type} {N A B n : ℕ} (wf : GatherDims.WF ⟨3, ![N, A, B]⟩ ⟨2, ![n, 1]⟩ ⟨3, ![n, A, B]⟩ [1, 2] [0] [] [0] [] 1 ![1, A, B])
    (w : (⟨3, ![N, A, B]⟩ : Shape).Idx → α) (ix : IVec ⟨2, ![n, 1]⟩ 32) (b : Fin n) (i : Fin A) (j : Fin B) (q : Fin N) (hN : N < 2 ^ 31)
    (h : ix (ix2 b (0 : Fin 1)) = BitVec.ofNat 32 q.1) :
    Host.gather { offsetDims := [1, 2], collapsedSliceDims := [0], operandBatchingDims := [], startIndicesBatchingDims := [], startIndexMap := [0], indexVectorDim := 1, sliceSizes := ![1, A, B], wf := wf } w ix (ix3 b i j)
      = w (ix3 q i j) := by
  have hs : (ix (ix2 b (0 : Fin 1))).toInt.toNat = q.1 := by
    rw [h, WordCmp.toInt_ofNat_of_lt (by have := q.2; omega)]; rfl
  unfold Host.gather
  congr 1
  funext a
  refine Fin.ext ?_
  show GatherDims.start _ _ _ a + GatherDims.batchCoord _ _ a + GatherDims.offCoord _ _ a = _
  rw [GatherDims.batchCoord_eq_zero _ _ _ (by simp)]
  match a with
  | ⟨0, h0⟩ =>
    rw [GatherDims.offCoord_eq_zero _ _ _ (fun h => ((GatherDims.mem_sKept _ _).mp h).1 (List.mem_singleton.mpr rfl))]
    unfold GatherDims.start
    rw [dif_pos (show (⟨0, h0⟩ : Fin (⟨3, ![N, A, B]⟩ : Shape).rank) ∈ ([0] : List (Fin 3)) from List.mem_singleton.mpr rfl)]
    refine Eq.trans (b := min (ix (ix2 b (0 : Fin 1))).toInt.toNat (N - 1)) ?_ ?_
    · rw [Nat.add_zero]
      refine congrArg (fun z => min (ix z).toInt.toNat (N - 1)) ?_
      funext e
      match e with
      | ⟨0, _⟩ => rfl
      | ⟨1, _⟩ => exact Subsingleton.elim (α := Fin 1) _ _
    · rw [hs]
      have := q.2
      show min q.1 (N - 1) = q.1
      omega
  | ⟨1, h1⟩ =>
    unfold GatherDims.start
    rw [dif_neg (by simp)]
    exact (Nat.zero_add _).trans rfl
  | ⟨2, h2⟩ =>
    unfold GatherDims.start
    rw [dif_neg (by simp)]
    exact (Nat.zero_add _).trans rfl

theorem pick_at (tab : IVec S72 32) (w : FVec Ideal S8x1024x3584 .f32) (b : Fin 72) (q : Fin 8) (h : (tab (ix1 b)).toNat = q.1) (k : Fin 1024) (e : Fin 3584) :
    pick tab w (ix3 b k e) = w (ix3 q k e) := take3 _ w (col tab) b k e q (by decide) (col_at tab b q h)
theorem pick2_at (tab : IVec S72 32) (w : FVec Ideal S8x3584x1024 .f32) (b : Fin 72) (q : Fin 8) (h : (tab (ix1 b)).toNat = q.1) (e : Fin 3584) (d : Fin 1024) :
    pick2 tab w (ix3 b e d) = w (ix3 q e d) := take3 _ w (col tab) b e d q (by decide) (col_at tab b q h)

/-- The layer of every row at an entry, the table's numbers between zero and seven. -/
theorem ref_at (X : FVec Ideal S36864x1024 .f32) (tab : IVec S72 32) (wg wu : FVec Ideal S8x1024x3584 .f32) (wd : FVec Ideal S8x3584x1024 .f32)
    (n : Fin 36864) (d : Fin 1024) (q : Fin 8) (h : (tab (ix1 ⟨n.1 / 512, by omega⟩)).toNat = q.1) :
    layer (mulf (act (prod X (pick tab wg))) (prod X (pick tab wu))) (pick2 tab wd) (ix2 n d) =
      full (fun k => X (ix2 n k)) (fun k h => wg (ix3 q k h)) (fun k h => wu (ix3 q k h)) (fun h => wd (ix3 q h d)) := by
  rw [layer_at]
  unfold full
  simp only [act_at, prod_at, pick_at tab _ _ q h, pick2_at tab _ _ q h]

/-- The gathered rows. -/
def rows (h : FVec Ideal S16384x1024 .f32) (R : Valuation τ sig (Elt Ideal)) : FVec Ideal S36864x1024 .f32 :=
  Host.gather gather_S16384x1024_S36864x1_S36864x1024_1_0_n_n_0_1_11024 h (broadcastInDim S36864x1 ![0] bcast_S36864_S36864x1_0 (select (cmpi .slt (Value.res_main_v63 R) (broadcastInDim S36864 ![] bcast_S_S36864 (constantI S_ 32 0#32))) (addi (Value.res_main_v63 R) (broadcastInDim S36864 ![] bcast_S_S36864 (constantI S_ 32 16384#32))) (Value.res_main_v63 R)))

/-- The reference's result of the arguments. -/
def result (R : Valuation τ sig (Elt Ideal)) (x : FVec Ideal S16384x1024 .f32) (wg wu : FVec Ideal S8x1024x3584 .f32) (wd : FVec Ideal S8x3584x1024 .f32) : FVec Ideal S36864x1024 .f32 :=
  layer (mulf (act (prod (rows x R) (pick (Value.res_main_v75 R) wg))) (prod (rows x R) (pick (Value.res_main_v75 R) wu))) (pick2 (Value.res_main_v75 R) wd)

/-- On every device the reference ends with that layer of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v110) = result (StableHlo.launchContents m c) (m ((c.tc : Thread nD τ).loc main_arg0))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (by unfold result layer act prod pick pick2 rows col Value.res_main_v91 Value.res_main_v83; rfl), (h c).2⟩) (Cert.ExpertsReferenceIdeal.Value.run (F := Ideal) m ρ)

end Cert.ExpertsReferenceIdeal.Ffn
end
-- ==== Proof.ExpertsFinal.lean ====
module

public import proofs.«01_k».proof.Proof.ExpertsSum
public import proofs.«01_k».proof.Proof.ExpertsFound
public import proofs.«01_k».proof.Proof.ExpertsRef

/-!
The experts' output array is the reference's result of the same arguments.
-/

@[expose] public section
set_option maxRecDepth 16384
noncomputable section
open Idealize.ShloMosaic Idealize.ShloMosaic.TcCoe Idealize.SL.Sem
namespace Cert.ExpertsIdeal.Ffn
open Cert.ExpertsIdeal Cert.ExpertsIdeal.Gen Cert.Swiglu

variable (m : (ℓ : Loc nD τ sig) → Buf (Elt Ideal) ℓ) (ρ : Dev nD → PrngReg)

/-- Equal rows and equal matrices give equal layers. -/
theorem layer_congr (o : Fin 72 → Fin 8) {X X' : S36864x1024.Idx → EReal} {G G' U U' : S8x1024x3584.Idx → EReal} {D D' : S8x3584x1024.Idx → EReal}
    (hX : X = X') (hG : G = G') (hU : U = U') (hD : D = D') (n : Fin 36864) (d : Fin 1024) :
    layer o X G U D n d = layer o X' G' U' D' n d := by
  rw [hX, hG, hU, hD]

/-- The kernel's layer is the reference's. -/
theorem target_eq (R : Route.RefVal) (c : Dev nD)
    (h : (m (c, Proc.devRef .tc main_arg2) : IVec S16384x2 32) = R (Proc.devRef .tc Cert.ExpertsReferenceIdeal.main_arg2)) :
    target m c = Cert.ExpertsReferenceIdeal.Ffn.result R (m (c, Proc.devRef .tc main_arg0)) (m (c, Proc.devRef .tc main_arg3))
      (m (c, Proc.devRef .tc main_arg4)) (m (c, Proc.devRef .tc main_arg5)) := by
  obtain rfl : c = 0 := Subsingleton.elim (α := Fin 1) _ _
  funext y
  obtain ⟨n, d, rfl⟩ : ∃ (n : Fin 36864) (d : Fin 1024), y = ix2 n d := ⟨y 0, y 1, eq_ix2 y⟩
  refine (layer_congr (own m) (Route.found_rows R m 0 h) (Route.found_g m 0) (Route.found_u m 0) (Route.found_d m 0) n d).trans ?_
  refine Eq.symm ((Cert.ExpertsReferenceIdeal.Ffn.ref_at _ _ _ _ _ n d (own m ⟨n.1 / 512, by omega⟩) ?_).trans rfl)
  exact congrArg (fun T : IVec S72 32 => (T (ix1 ⟨n.1 / 512, by omega⟩)).toNat) (Route.table_eq R m 0 h).symm

/-- On every device the call ends with its layer in the output, and its arguments unchanged. -/
theorem run (hO : Ok m) : θ_run defs (onTc (τ := τ) (main (F := Ideal))) ⟨m, fun _ => 0, ρ⟩ fun r => ∀ c : Dev nD,
      r.2.mem ((c.tc : Thread nD τ).loc main_v80) = target m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).1 5).trans (final_eq m hO c), h.2 c⟩)
    (θ_run_and (run_main m ρ hO) (unchanged m ρ hO))

end Cert.ExpertsIdeal.Ffn
end
-- ==== Proof.MemoryBlk.lean ====
module

public import proofs.«01_k».proof.Proof.Swiglu
public import proofs.«01_k».proof.Proof.Gen.MemoryIdeal.Value

/-!
The memory's keys and values: the kernel's product at one index, what the host code hands to the kernel, and the blocks of a
grid point.
-/

@[expose] public section
set_option maxRecDepth 16384
noncomputable section
open Idealize.ShloMosaic Idealize.ShloMosaic.TcCoe Idealize.SL.Sem
namespace Cert.MemoryIdeal.Mem
open Cert.MemoryIdeal Cert.MemoryIdeal.Gen Cert.Swiglu

/-- The product of a row of the weights and a normalized row. -/
theorem pay1_at (w : Vec Ideal S512x1024 .bf16) (x : Vec Ideal S256x1024 .f32) (g : Vec Ideal S1x1024 .f32) (e : Fin 512) (r : Fin 256) :
    k0_pay1 w x g (ix2 e r) = ∑ k : Fin 1024, w (ix2 e k) * nrm (fun k => x (ix2 r k)) (fun k => g (ix2 0 k)) k := by
  unfold nrm
  pointwise [k0_pay1]

section
variable (m : (ℓ : Loc nD τ sig) → Buf (Elt Ideal) ℓ) (c : Dev nD)

/-- The memory. -/
abbrev argX : S4x256x1024.Idx → EReal := m ((c.tc : Thread nD τ).loc main_arg0)
/-- The scale of the norm. -/
abbrev argS : S1024.Idx → EReal := m ((c.tc : Thread nD τ).loc main_arg1)
/-- The weights. -/
abbrev argW : S1024x512.Idx → EReal := m ((c.tc : Thread nD τ).loc main_arg2)

theorem read_x (n : Fin 1024) (k : Fin 1024) : (V m c main_v0 : S1024x1024.Idx → Ideal .f32) (ix2 n k)
    = argX m c (ix3 ⟨n.1 / 256, by omega⟩ ⟨n.1 % 256, by omega⟩ k) := by
  simp only [V, List.flatten_cons, List.flatten_nil, hostOps0, List.cons_append, List.nil_append, List.append_nil]
  entry_read
  pointwise

theorem read_s (k : Fin 1024) : (V m c main_v1 : S1x1024.Idx → Ideal .f32) (ix2 0 k) = argS m c (ix1 k) := by
  simp only [V, List.flatten_cons, List.flatten_nil, hostOps0, List.cons_append, List.nil_append, List.append_nil]
  entry_read
  pointwise

theorem read_w (e : Fin 512) (k : Fin 1024) : (V m c main_v3 : S512x1024.Idx → Ideal .bf16) (ix2 e k) = argW m c (ix2 k e) := by
  simp only [V, List.flatten_cons, List.flatten_nil, hostOps0, List.cons_append, List.nil_append, List.append_nil]
  entry_read
  pointwise
end

/-- The windows' index maps over the grid of batches. -/
theorem idx : ∀ t : Fin cfg0.N,
    win0_0.index t = ![t.1, 0]
    ∧ win0_1.index t = ![0, 0]
    ∧ win0_2.index t = ![0, 0]
    ∧ win0_3.index t = ![t.1, 0, 0]
    ∧ win0_4.index t = ![t.1, 0, 0] :=
  (by decide +kernel : ∀ t : Fin grid0.N, _)

section
variable (m : (ℓ : Loc nD τ sig) → Buf (Elt Ideal) ℓ) (c : Dev nD) (t : Fin cfg0.N)

/-- The block of the memory's rows. -/
theorem blk_x (r : Fin 256) (k : Fin 1024) (n : Fin 1024) (hn : n.1 = t.1 * 256 + r.1) :
    (iblk m c 0 t : S256x1024.Idx → EReal) (ix2 r k) = (V m c main_v0 : S1024x1024.Idx → EReal) (ix2 n k) := by
  show (V m c main_v0 : S1024x1024.Idx → EReal) (((cfg0.win 0).blk t).view.emb (ix2 r k)) = _
  have h0 : ((((cfg0.win 0).blk t).view.emb (ix2 r k) : S1024x1024.Idx) 0).val = n.1 := by blk_simp [idx t]; rw [hn]
  have h1 : ((((cfg0.win 0).blk t).view.emb (ix2 r k) : S1024x1024.Idx) 1).val = k.1 := by blk_simp [idx t]
  exact congrArg _ (funext (Fin.forall_fin_two.2 ⟨Fin.ext h0, Fin.ext h1⟩))

/-- The scale. -/
theorem blk_s (k : Fin 1024) : (iblk m c 1 t : S1x1024.Idx → EReal) (ix2 0 k) = (V m c main_v1 : S1x1024.Idx → EReal) (ix2 0 k) := by
  show (V m c main_v1 : S1x1024.Idx → EReal) (((cfg0.win 1).blk t).view.emb (ix2 0 k)) = _
  have h0 : ((((cfg0.win 1).blk t).view.emb (ix2 0 k) : S1x1024.Idx) 0).val = 0 := by blk_simp [idx t]; rfl
  have h1 : ((((cfg0.win 1).blk t).view.emb (ix2 0 k) : S1x1024.Idx) 1).val = k.1 := by blk_simp [idx t]
  exact congrArg _ (funext (Fin.forall_fin_two.2 ⟨Fin.ext h0, Fin.ext h1⟩))

/-- The weights. -/
theorem blk_w (e : Fin 512) (k : Fin 1024) :
    (iblk m c 2 t : S512x1024.Idx → EReal) (ix2 e k) = (V m c main_v3 : S512x1024.Idx → EReal) (ix2 e k) := by
  show (V m c main_v3 : S512x1024.Idx → EReal) (((cfg0.win 2).blk t).view.emb (ix2 e k)) = _
  have h0 : ((((cfg0.win 2).blk t).view.emb (ix2 e k) : S512x1024.Idx) 0).val = e.1 := by blk_simp [idx t]
  have h1 : ((((cfg0.win 2).blk t).view.emb (ix2 e k) : S512x1024.Idx) 1).val = k.1 := by blk_simp [idx t]
  exact congrArg _ (funext (Fin.forall_fin_two.2 ⟨Fin.ext h0, Fin.ext h1⟩))

/-- The place of an entry of the first output. -/
theorem place3 (b : Fin 4) (hb : b.1 = t.1) (z : Fin 1) (e : Fin 512) (r : Fin 256) :
    (((cfg0.win 3).blk t).view.emb (ix3 z e r) : S4x512x256.Idx) = ix3 b e r := by
  have h0 : ((((cfg0.win 3).blk t).view.emb (ix3 z e r) : S4x512x256.Idx) 0).val = b.1 := by blk_simp [idx t]; omega
  have h1 : ((((cfg0.win 3).blk t).view.emb (ix3 z e r) : S4x512x256.Idx) 1).val = e.1 := by blk_simp [idx t]
  have h2 : ((((cfg0.win 3).blk t).view.emb (ix3 z e r) : S4x512x256.Idx) 2).val = r.1 := by blk_simp [idx t]
  exact funext (Fin.forall_fin_succ.2 ⟨Fin.ext h0, Fin.forall_fin_two.2 ⟨Fin.ext h1, Fin.ext h2⟩⟩)

/-- The place of an entry of the second output. -/
theorem place4 (b : Fin 4) (hb : b.1 = t.1) (z : Fin 1) (e : Fin 512) (r : Fin 256) :
    (((cfg0.win 4).blk t).view.emb (ix3 z e r) : S4x512x256.Idx) = ix3 b e r := by
  have h0 : ((((cfg0.win 4).blk t).view.emb (ix3 z e r) : S4x512x256.Idx) 0).val = b.1 := by blk_simp [idx t]; omega
  have h1 : ((((cfg0.win 4).blk t).view.emb (ix3 z e r) : S4x512x256.Idx) 1).val = e.1 := by blk_simp [idx t]
  have h2 : ((((cfg0.win 4).blk t).view.emb (ix3 z e r) : S4x512x256.Idx) 2).val = r.1 := by blk_simp [idx t]
  exact funext (Fin.forall_fin_succ.2 ⟨Fin.ext h0, Fin.forall_fin_two.2 ⟨Fin.ext h1, Fin.ext h2⟩⟩)

/-- A grid point's product in terms of the arguments. -/
theorem prod_at (b : Fin 4) (hb : b.1 = t.1) (e : Fin 512) (r : Fin 256) :
    k0_pay1 (iblk m c 2 t) (iblk m c 0 t) (iblk m c 1 t) (ix2 e r) =
      ∑ k : Fin 1024, nrm (fun k => argX m c (ix3 b r k)) (fun k => argS m c (ix1 k)) k * argW m c (ix2 k e) := by
  rw [pay1_at]
  have hx : ∀ k, (iblk m c 0 t : S256x1024.Idx → EReal) (ix2 r k) = argX m c (ix3 b r k) := fun k => by
    have hlt : t.1 * 256 + r.1 < 1024 := by have := r.2; have := b.2; omega
    refine (blk_x m c t r k ⟨_, hlt⟩ rfl).trans ((read_x m c _ k).trans ?_)
    congr 2
    · exact Fin.ext (by dsimp only; have := r.2; omega)
    · exact Fin.ext (by dsimp only; have := r.2; omega)
  have hs : ∀ k, (iblk m c 1 t : S1x1024.Idx → EReal) (ix2 0 k) = argS m c (ix1 k) := fun k => (blk_s m c t k).trans (read_s m c k)
  have hw : ∀ k, (iblk m c 2 t : S512x1024.Idx → EReal) (ix2 e k) = argW m c (ix2 k e) := fun k => (blk_w m c t e k).trans (read_w m c e k)
  refine Finset.sum_congr rfl fun k _ => ?_
  rw [mul_comm]
  exact congrArg₂ (· * ·) (congrArg₂ (fun a b => nrm a b k) (funext hx) (funext hs)) (hw k)
end

end Cert.MemoryIdeal.Mem
end
-- ==== Proof.MemoryRef.lean ====
module

public import proofs.«01_k».proof.Proof.Swiglu
public import proofs.«01_k».proof.Proof.Gen.MemoryReferenceIdeal.Run

/-!
The memory's keys and values of the reference, read at an index.
-/

@[expose] public section
set_option maxRecDepth 16384
noncomputable section
open Idealize.ShloMosaic Idealize.ShloMosaic.TcCoe Idealize.SL.Sem
namespace Cert.MemoryReferenceIdeal.Mem
open Cert.MemoryReferenceIdeal Cert.MemoryReferenceIdeal.Gen Cert.Swiglu

variable (X : FVec Ideal S4x256x1024 .f32) (s : FVec Ideal S1024 .f32) (w : FVec Ideal S1024x512 .f32)

/-- The normalized memory. -/
def hrow : FVec Ideal S4x256x1024 .f32 :=
  mulf (mulf X (broadcastInDim S4x256x1024 ![0, 1, 2] bcast_S4x256x1_S4x256x1024_0_1_2 (Host.rsqrt (addf (Host.divf (broadcastInDim S4x256x1 ![0, 1] bcast_S4x256_S4x256x1_0_1 (Host.reduceAdd (mulf X X) (constant S_ .f32 0x00000000#32) reducesTo_S4x256x1024_S4x256_d2 h_S_)) (broadcastInDim S4x256x1 ![] bcast_S_S4x256x1 (constant S_ .f32 0x44800000#32))) (broadcastInDim S4x256x1 ![] bcast_S_S4x256x1 (constant S_ .f32 0x358637BD#32)))))) (broadcastInDim S4x256x1024 ![0, 1, 2] bcast_S1x1x1024_S4x256x1024_0_1_2 (broadcastInDim S1x1x1024 ![2] bcast_S1024_S1x1x1024_2 s))

/-- The keys and values, the memory's tokens on the last axis. -/
def kv (h : FVec Ideal S4x256x1024 .f32) : FVec Ideal S4x512x256 .f32 :=
  transpose S4x512x256 [0, 2, 1] (Host.dotGeneral (φ₁ := .f32) (φ₂ := .f32) dot_S4x256x1024_S1024x512_S4x256x512_2_0_01_1_n_n none h w) transposes_S4x256x512_S4x512x256_0_2_1

/-- The same in the other format. -/
def kv16 (h : FVec Ideal S4x256x1024 .f32) : FVec Ideal S4x512x256 .bf16 := truncf .bf16 (kv w h) bitsLt_bf16_f32

theorem hrow_at (b : Fin 4) (t : Fin 256) (k : Fin 1024) : hrow X s (ix3 b t k) = nrm (fun k => X (ix3 b t k)) (fun k => s (ix1 k)) k := by
  unfold hrow nrm
  pointwise

theorem kv_at (h : FVec Ideal S4x256x1024 .f32) (b : Fin 4) (e : Fin 512) (t : Fin 256) :
    kv w h (ix3 b e t) = ∑ k : Fin 1024, h (ix3 b t k) * w (ix2 k e) := by
  unfold kv
  pointwise

/-- The reference's result at a batch, an entry and a token. -/
theorem ref_at (b : Fin 4) (e : Fin 512) (t : Fin 256) : kv w (hrow X s) (ix3 b e t) =
    ∑ k : Fin 1024, nrm (fun k => X (ix3 b t k)) (fun k => s (ix1 k)) k * w (ix2 k e) := by
  rw [kv_at]
  simp only [hrow_at]

/-- On every device the reference ends with those arrays of its arguments, which it leaves unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v14) = kv (m ((c.tc : Thread nD τ).loc main_arg2))
          (hrow (m ((c.tc : Thread nD τ).loc main_arg0)) (m ((c.tc : Thread nD τ).loc main_arg1)))
      ∧ r.2.mem ((c.tc : Thread nD τ).loc main_v15) = kv16 (m ((c.tc : Thread nD τ).loc main_arg2))
          (hrow (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (by unfold kv hrow; rfl), (h c).2.1.trans (by unfold kv16 kv hrow; rfl), (h c).2.2⟩)
    (Cert.MemoryReferenceIdeal.Value.run (F := Ideal) m ρ)

end Cert.MemoryReferenceIdeal.Mem
end
-- ==== Proof.MemoryFinal.lean ====
module

public import proofs.«01_k».proof.Proof.MemoryBlk
public import proofs.«01_k».proof.Proof.MemoryRef

/-!
The memory kernel's two output arrays are the reference's results.
-/

@[expose] public section
set_option maxRecDepth 16384
noncomputable section
open Idealize.ShloMosaic Idealize.ShloMosaic.TcCoe Idealize.SL.Sem
namespace Cert.MemoryIdeal.Mem
open Cert.MemoryIdeal Cert.MemoryIdeal.Gen Cert.Swiglu
open Cert.MemoryReferenceIdeal.Mem (kv kv16 hrow ref_at)

variable (m : (ℓ : Loc nD τ sig) → Buf (Elt Ideal) ℓ) (c : Dev nD)

/-- A point's first stored block. -/
theorem out3_at (x : Vec Ideal S256x1024 .f32) (g : Vec Ideal S1x1024 .f32) (w : Vec Ideal S512x1024 .bf16) (z : Fin 1) (e : Fin 512) (r : Fin 256) :
    out0_3 x g w (ix3 z e r) = k0_pay1 w x g (ix2 e r) := by
  have ex : View.ld x r0_1 = x := View.ld_unit_zero (by decide) _ _
  have eg : View.ld g r0_2 = g := View.ld_unit_zero (by decide) _ _
  have ew : View.ld w r0_0 = w := View.ld_unit_zero (by decide) _ _
  unfold out0_3
  rw [ex, eg, ew, Cert.MemoryIdeal.Value.canon3_eq]
  exact congrArg (k0_pay1 w x g) (funext (Fin.forall_fin_two.2 ⟨rfl, rfl⟩))

/-- A point's second stored block. -/
theorem out4_at (x : Vec Ideal S256x1024 .f32) (g : Vec Ideal S1x1024 .f32) (w : Vec Ideal S512x1024 .bf16) (z : Fin 1) (e : Fin 512) (r : Fin 256) :
    out0_4 x g w (ix3 z e r) = k0_pay1 w x g (ix2 e r) := by
  have ex : View.ld x r0_1 = x := View.ld_unit_zero (by decide) _ _
  have eg : View.ld g r0_2 = g := View.ld_unit_zero (by decide) _ _
  have ew : View.ld w r0_0 = w := View.ld_unit_zero (by decide) _ _
  unfold out0_4
  rw [ex, eg, ew, Cert.MemoryIdeal.Value.canon4_eq]
  exact congrArg (k0_pay1 w x g) (funext (Fin.forall_fin_two.2 ⟨rfl, rfl⟩))

/-- The reference's arrays of the arguments. -/
abbrev target : S4x512x256.Idx → EReal := kv (argW m c) (hrow (argX m c) (argS m c))
/-- The same in the other format. -/
abbrev target16 : S4x512x256.Idx → EReal := kv16 (argW m c) (hrow (argX m c) (argS m c))

/-- The first output array. -/
theorem final3_eq : ((dats m 0 c).arrAt 3 cfg0.N : S4x512x256.Idx → EReal) = target m c := by
  refine (dats m 0 c).arrAt_eq_of_covers 3 (target m c) (by decide +kernel) fun t hf y => ?_
  blk_simp
  rw [after0_3]
  have hN : t.1 < 4 := t.2
  have hy : ∀ y : S1x512x256.Idx, out0_3 (iblk m c 0 t) (iblk m c 1 t) (iblk m c 2 t) y = target m c (((cfg0.win 3).blk t).view.emb y) := fun y => by
    obtain ⟨z, e, r, rfl⟩ : ∃ z e r, y = ix3 z e r := ⟨y 0, y 1, y 2, eq_ix3 y⟩
    rw [place3 t ⟨t.1, hN⟩ rfl z e r]
    exact (out3_at _ _ _ z e r).trans ((prod_at m c t ⟨t.1, hN⟩ rfl e r).trans (ref_at (argX m c) (argS m c) (argW m c) _ e r).symm)
  exact hy y

/-- The second output array. -/
theorem final4_eq : ((dats m 0 c).arrAt 4 cfg0.N : S4x512x256.Idx → EReal) = target16 m c := by
  refine (dats m 0 c).arrAt_eq_of_covers 4 (target16 m c) (by decide +kernel) fun t hf y => ?_
  blk_simp
  rw [after0_4]
  have hN : t.1 < 4 := t.2
  have hy : ∀ y : S1x512x256.Idx, out0_4 (iblk m c 0 t) (iblk m c 1 t) (iblk m c 2 t) y = target16 m c (((cfg0.win 4).blk t).view.emb y) := fun y => by
    obtain ⟨z, e, r, rfl⟩ : ∃ z e r, y = ix3 z e r := ⟨y 0, y 1, y 2, eq_ix3 y⟩
    rw [place4 t ⟨t.1, hN⟩ rfl z e r]
    exact (out4_at _ _ _ z e r).trans ((prod_at m c t ⟨t.1, hN⟩ rfl e r).trans (ref_at (argX m c) (argS m c) (argW m c) _ e r).symm)
  exact hy y

end Cert.MemoryIdeal.Mem
end
-- ==== Proof.ProjHost.lean ====
module

public import proofs.«01_k».proof.Proof.Swiglu
public import proofs.«01_k».proof.Proof.Gen.ProjIdeal.Value

/-!
The input projection: what the host code hands to the kernel of the rows, the scale and the two arrays of weights.
-/

@[expose] public section
set_option maxRecDepth 16384
noncomputable section
open Idealize.ShloMosaic Idealize.ShloMosaic.TcCoe Idealize.SL.Sem
namespace Cert.ProjIdeal.Mix
open Cert.ProjIdeal Cert.ProjIdeal.Gen Cert.Swiglu

/-- The valuations of the buffers. -/
abbrev KerVal := Valuation τ sig (Elt Ideal)

/-- The buffers that the last group of the host operations writes. -/
def w24 : List (Ref sig .tc) := [main_v146, main_v147, main_v148, main_v149, main_cst_58, main_v150, main_v151, main_v152, main_v153, main_v154, main_v155, main_v156, main_v157, main_v158, main_v159, main_v160, main_v161, main_v162, main_v163, main_v164, main_cst_59, main_v165, main_c_60, main_v166, main_c_61, main_v167, main_v168, main_v169, main_v170, main_v171, main_v172]

open StableHlo in
/-- The last group leaves every other buffer alone. -/
theorem keep24 (W : KerVal) (r : Ref sig .tc) (h : r ∉ w24) :
    after hostOps0_24 W (Proc.devRef .tc r) = W (Proc.devRef .tc r) :=
  after_of_writes_sub (W := w24) hostOps0_24 W (forall_writes_sub_of_map (by rfl)) h

section
variable (W : KerVal)

/-- The rows as the last group leaves them. -/
theorem last_x (n : Fin 16384) (k : Fin 1024) : (StableHlo.after hostOps0_24 W (Proc.devRef .tc main_v170) : S16384x1024.Idx → Ideal .f32) (ix2 n k)
    = (W (Proc.devRef .tc main_arg0) : S4x4096x1024.Idx → Ideal .f32) (ix3 ⟨n.1 / 4096, by omega⟩ ⟨n.1 % 4096, by omega⟩ k) := by
  simp only [hostOps0_24]
  entry_read
  pointwise

/-- The scale as the last group leaves it. -/
theorem last_s (k : Fin 1024) : (StableHlo.after hostOps0_24 W (Proc.devRef .tc main_v171) : S1x1024.Idx → Ideal .f32) (ix2 0 k)
    = (W (Proc.devRef .tc main_arg1) : S1024.Idx → Ideal .f32) (ix1 k) := by
  simp only [hostOps0_24]
  entry_read
  pointwise

/-- The first array of weights. -/
def wq (w : FVec Ideal S1024x2864 .f32) : FVec Ideal S1024x1792 .f32 :=
  concatenate S1024x1792 1 [⟨S1024x512, extractStridedSlice S1024x512 ![0, 0] w slices_S1024x2864_S1024x512_0_0⟩, ⟨S1024x256, extractStridedSlice S1024x256 ![0, 1544] w slices_S1024x2864_S1024x256_0_1544⟩, ⟨S1024x256, extractStridedSlice S1024x256 ![0, 2312] w slices_S1024x2864_S1024x256_0_2312⟩, ⟨S1024x256, extractStridedSlice S1024x256 ![0, 2608] w slices_S1024x2864_S1024x256_0_2608⟩, ⟨S1024x256, extractStridedSlice S1024x256 ![0, 1800] w slices_S1024x2864_S1024x256_0_1800⟩, ⟨S1024x32, extractStridedSlice S1024x32 ![0, 2568] w slices_S1024x2864_S1024x32_0_2568⟩, ⟨S1024x32, extractStridedSlice S1024x32 ![0, 2568] w slices_S1024x2864_S1024x32_0_2568⟩, ⟨S1024x32, extractStridedSlice S1024x32 ![0, 2568] w slices_S1024x2864_S1024x32_0_2568⟩, ⟨S1024x32, extractStridedSlice S1024x32 ![0, 2568] w slices_S1024x2864_S1024x32_0_2568⟩, ⟨S1024x32, extractStridedSlice S1024x32 ![0, 2568] w slices_S1024x2864_S1024x32_0_2568⟩, ⟨S1024x32, extractStridedSlice S1024x32 ![0, 2568] w slices_S1024x2864_S1024x32_0_2568⟩, ⟨S1024x32, extractStridedSlice S1024x32 ![0, 2568] w slices_S1024x2864_S1024x32_0_2568⟩, ⟨S1024x32, extractStridedSlice S1024x32 ![0, 2568] w slices_S1024x2864_S1024x32_0_2568⟩] concatenates_S1024x512_S1024x256_S1024x256_S1024x256_S1024x256_S1024x32_S1024x32_S1024x32_S1024x32_S1024x32_S1024x32_S1024x32_S1024x32_S1024x1792_d1

/-- The last rows of the second array of weights. -/
def wm (w : FVec Ideal S1024x2864 .f32) : FVec Ideal S1024x128 .f32 :=
  concatenate S1024x128 1 [⟨S1024x32, extractStridedSlice S1024x32 ![0, 2568] w slices_S1024x2864_S1024x32_0_2568⟩, ⟨S1024x8, extractStridedSlice S1024x8 ![0, 1536] w slices_S1024x2864_S1024x8_0_1536⟩, ⟨S1024x8, extractStridedSlice S1024x8 ![0, 2600] w slices_S1024x2864_S1024x8_0_2600⟩, ⟨S1024x80, broadcastInDim S1024x80 ![] bcast_S_S1024x80 (constant S_ .f32 0x00000000#32)⟩] concatenates_S1024x32_S1024x8_S1024x8_S1024x80_S1024x128_d1

/-- The second array of weights, its columns side by side. -/
def wt (w : FVec Ideal S1024x2864 .f32) : FVec Ideal S1024x1664 .f32 :=
  concatenate S1024x1664 1 [⟨S1024x1024, extractStridedSlice S1024x1024 ![0, 512] w slices_S1024x2864_S1024x1024_0_512⟩, ⟨S1024x512, extractStridedSlice S1024x512 ![0, 1800] w slices_S1024x2864_S1024x512_0_1800⟩, ⟨S1024x128, wm w⟩] concatenates_S1024x1024_S1024x512_S1024x128_S1024x1664_d1

set_option maxHeartbeats 2000000 in
open StableHlo in
/-- The first array of weights as the last group leaves it. -/
theorem last_wq : (StableHlo.after hostOps0_24 W (Proc.devRef .tc main_v159) : S1024x1792.Idx → Ideal .bf16)
    = truncf .bf16 (wq (W (Proc.devRef .tc main_arg2))) bitsLt_bf16_f32 := by
  simp only [hostOps0_24]
  after_results_simp
  all_goals rfl

set_option maxHeartbeats 2000000 in
open StableHlo in
/-- The second array of weights as the last group leaves it. -/
theorem last_wt : (StableHlo.after hostOps0_24 W (Proc.devRef .tc main_v164) : S1664x1024.Idx → Ideal .bf16)
    = truncf .bf16 (transpose S1664x1024 [1, 0] (wt (W (Proc.devRef .tc main_arg2))) transposes_S1024x1664_S1664x1024_1_0) bitsLt_bf16_f32 := by
  simp only [hostOps0_24]
  after_results_simp
  all_goals rfl
end

section
variable (w : FVec Ideal S1024x2864 .f32)

theorem wq_q (k : Fin 1024) (e : Fin 512) : wq w (ix2 k ⟨e.1, by omega⟩) = w (ix2 k ⟨e.1, by omega⟩) := by
  unfold wq
  pointwise

theorem wq_u (k : Fin 1024) (e : Fin 256) : wq w (ix2 k ⟨1024 + e.1, by omega⟩) = w (ix2 k ⟨2608 + e.1, by omega⟩) := by
  unfold wq
  refine Eq.trans (b := extractStridedSlice S1024x256 ![0, 2608] w slices_S1024x2864_S1024x256_0_2608 (ix2 k e))
    (concatenate_apply_piece (t := S1024x1792) (1 : Fin 2) _ _ _ 3 ?_ S1024x256 _ ?_ rfl 1024 ?_ (ix2 k e) ?_ ?_) ?_
  · show 3 < 13
    omega
  · rfl
  · rfl
  · intro b hb
    obtain rfl | rfl : b = 0 ∨ b = 1 := by revert b; decide
    · rfl
    · exact absurd rfl hb
  · rfl
  · pointwise

theorem wt_kv (k : Fin 1024) (e : Fin 1024) : wt w (ix2 k ⟨e.1, by omega⟩) = w (ix2 k ⟨512 + e.1, by omega⟩) := by
  unfold wt
  generalize wm w = y
  pointwise

theorem wt_b (k : Fin 1024) (e : Fin 256) : wt w (ix2 k ⟨1280 + e.1, by omega⟩) = w (ix2 k ⟨2056 + e.1, by omega⟩) := by
  unfold wt
  generalize wm w = y
  pointwise
  rw [dif_neg (by omega), dif_pos (by omega)]
  exact congrArg (fun j => w (ix2 k j)) (Fin.ext (by dsimp only; omega))
end

section
variable (W : KerVal)
/-- The weights of the queries. -/
theorem last_q (k : Fin 1024) (e : Fin 512) : (StableHlo.after hostOps0_24 W (Proc.devRef .tc main_v159) : S1024x1792.Idx → Ideal .bf16) (ix2 k ⟨e.1, by omega⟩)
    = (W (Proc.devRef .tc main_arg2) : S1024x2864.Idx → Ideal .f32) (ix2 k ⟨e.1, by omega⟩) :=
  (congrFun (last_wq W) _).trans (wq_q _ k e)

/-- The weights of the rows to be pooled. -/
theorem last_u (k : Fin 1024) (e : Fin 256) : (StableHlo.after hostOps0_24 W (Proc.devRef .tc main_v159) : S1024x1792.Idx → Ideal .bf16) (ix2 k ⟨1024 + e.1, by omega⟩)
    = (W (Proc.devRef .tc main_arg2) : S1024x2864.Idx → Ideal .f32) (ix2 k ⟨2608 + e.1, by omega⟩) :=
  (congrFun (last_wq W) _).trans (wq_u _ k e)

theorem turn_at (y : FVec Ideal S1024x1664 .f32) (j : Fin 1664) (k : Fin 1024) :
    (truncf .bf16 (transpose S1664x1024 [1, 0] y transposes_S1024x1664_S1664x1024_1_0) bitsLt_bf16_f32 : S1664x1024.Idx → Ideal .bf16) (ix2 j k) = y (ix2 k j) := by
  pointwise

/-- The weights of the keys and the values. -/
theorem last_kv (k : Fin 1024) (e : Fin 1024) : (StableHlo.after hostOps0_24 W (Proc.devRef .tc main_v164) : S1664x1024.Idx → Ideal .bf16) (ix2 ⟨e.1, by omega⟩ k)
    = (W (Proc.devRef .tc main_arg2) : S1024x2864.Idx → Ideal .f32) (ix2 k ⟨512 + e.1, by omega⟩) :=
  (congrFun (last_wt W) _).trans ((turn_at _ _ k).trans (wt_kv _ k e))

/-- The weights of the values of the sparse attention. -/
theorem last_b (k : Fin 1024) (e : Fin 256) : (StableHlo.after hostOps0_24 W (Proc.devRef .tc main_v164) : S1664x1024.Idx → Ideal .bf16) (ix2 ⟨1280 + e.1, by omega⟩ k)
    = (W (Proc.devRef .tc main_arg2) : S1024x2864.Idx → Ideal .f32) (ix2 k ⟨2056 + e.1, by omega⟩) :=
  (congrFun (last_wt W) _).trans ((turn_at _ _ k).trans (wt_b _ k e))
end

section
variable (m : (ℓ : Loc nD τ sig) → Buf (Elt Ideal) ℓ) (c : Dev nD)

/-- The rows. -/
abbrev argX : S4x4096x1024.Idx → EReal := m ((c.tc : Thread nD τ).loc main_arg0)
/-- The scale of the norm. -/
abbrev argS : S1024.Idx → EReal := m ((c.tc : Thread nD τ).loc main_arg1)
/-- The weights. -/
abbrev argW : S1024x2864.Idx → EReal := m ((c.tc : Thread nD τ).loc main_arg2)

/-- The buffers before the last group. -/
def mid : KerVal := StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23]) fun b => m (c, b)

/-- The launch finds what the last group leaves. -/
theorem V_eq (b : Ref sig .tc) : V m c b = StableHlo.after hostOps0_24 (mid m c) (Proc.devRef .tc b) := by
  show StableHlo.after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24]) (fun b => m (c, b)) (Proc.devRef .tc b) = _
  unfold mid
  simp only [List.flatten_cons, List.flatten_nil, List.append_nil, StableHlo.after_append]

theorem mid_0 : (mid m c (Proc.devRef .tc main_arg0) : S4x4096x1024.Idx → EReal) = argX m c :=
  (keep24 _ main_arg0 (by decide)).symm.trans ((V_eq m c main_arg0).symm.trans (V_main_arg0 m c))
theorem mid_1 : (mid m c (Proc.devRef .tc main_arg1) : S1024.Idx → EReal) = argS m c :=
  (keep24 _ main_arg1 (by decide)).symm.trans ((V_eq m c main_arg1).symm.trans (V_main_arg1 m c))
theorem mid_2 : (mid m c (Proc.devRef .tc main_arg2) : S1024x2864.Idx → EReal) = argW m c :=
  (keep24 _ main_arg2 (by decide)).symm.trans ((V_eq m c main_arg2).symm.trans (V_main_arg2 m c))

theorem read_x (n : Fin 16384) (k : Fin 1024) : (V m c main_v170 : S16384x1024.Idx → EReal) (ix2 n k)
    = argX m c (ix3 ⟨n.1 / 4096, by omega⟩ ⟨n.1 % 4096, by omega⟩ k) :=
  (congrFun (V_eq m c main_v170) (ix2 n k)).trans ((last_x _ n k).trans (congrFun (mid_0 m c) _))

theorem read_s (k : Fin 1024) : (V m c main_v171 : S1x1024.Idx → EReal) (ix2 0 k) = argS m c (ix1 k) :=
  (congrFun (V_eq m c main_v171) (ix2 0 k)).trans ((last_s _ k).trans (congrFun (mid_1 m c) _))

theorem read_q (k : Fin 1024) (e : Fin 512) : (V m c main_v159 : S1024x1792.Idx → EReal) (ix2 k ⟨e.1, by omega⟩) = argW m c (ix2 k ⟨e.1, by omega⟩) :=
  (congrFun (V_eq m c main_v159) (ix2 k ⟨e.1, by omega⟩)).trans ((last_q _ k e).trans (congrFun (mid_2 m c) _))

theorem read_u (k : Fin 1024) (e : Fin 256) : (V m c main_v159 : S1024x1792.Idx → EReal) (ix2 k ⟨1024 + e.1, by omega⟩) = argW m c (ix2 k ⟨2608 + e.1, by omega⟩) :=
  (congrFun (V_eq m c main_v159) (ix2 k ⟨1024 + e.1, by omega⟩)).trans ((last_u _ k e).trans (congrFun (mid_2 m c) _))

theorem read_kv (k : Fin 1024) (e : Fin 1024) : (V m c main_v164 : S1664x1024.Idx → EReal) (ix2 ⟨e.1, by omega⟩ k) = argW m c (ix2 k ⟨512 + e.1, by omega⟩) :=
  (congrFun (V_eq m c main_v164) (ix2 ⟨e.1, by omega⟩ k)).trans ((last_kv _ k e).trans (congrFun (mid_2 m c) _))

theorem read_b (k : Fin 1024) (e : Fin 256) : (V m c main_v164 : S1664x1024.Idx → EReal) (ix2 ⟨1280 + e.1, by omega⟩ k) = argW m c (ix2 k ⟨2056 + e.1, by omega⟩) :=
  (congrFun (V_eq m c main_v164) (ix2 ⟨1280 + e.1, by omega⟩ k)).trans ((last_b _ k e).trans (congrFun (mid_2 m c) _))
end

end Cert.ProjIdeal.Mix
end
-- ==== Proof.ProjPay.lean ====
module

public import proofs.«01_k».proof.Proof.Swiglu
public import proofs.«01_k».proof.Proof.Gen.ProjIdeal.Value

/-!
The input projection: what a grid point stores into the five outputs, read at an index of the blocks that it loads.
-/

@[expose] public section
set_option maxRecDepth 16384
noncomputable section
open Idealize.ShloMosaic Idealize.ShloMosaic.TcCoe Idealize.SL.Sem
namespace Cert.ProjIdeal.Mix
open Cert.ProjIdeal Cert.ProjIdeal.Gen Cert.Swiglu

variable (x : Vec Ideal S512x1024 .f32) (g : Vec Ideal S1x1024 .f32)

/-- A normalized row of the block. -/
def row (r : Fin 512) (k : Fin 1024) : EReal := nrm (fun k => x (ix2 r k)) (fun k => g (ix2 0 k)) k

theorem pay2_at (r : Fin 512) (k : Fin 1024) : k0_pay2 x g (ix2 r k) = row x g r k := by
  unfold row nrm
  pointwise [k0_pay2]

theorem pay5_at (w : Vec Ideal S1024x512 .bf16) (r e : Fin 512) :
    k0_pay5 x g w (ix2 r e) = (∑ k : Fin 1024, row x g r k * w (ix2 k e)) * Ideal.ofBits .f32 0x3E000000#32 := by
  simp only [← pay2_at]
  generalize hh : k0_pay2 x g = h
  unfold k0_pay5
  rw [hh]
  pointwise

theorem pay12_at (h : FVec Ideal S512x1024 .bf16) (w : Vec Ideal S1024x256 .bf16) (r : Fin 512) (e : Fin 256) :
    k0_pay12 h w (ix2 r e) = ∑ k : Fin 1024, h (ix2 r k) * w (ix2 k e) := by
  pointwise [k0_pay12]

theorem pay18_at (h : FVec Ideal S512x1024 .bf16) (w : Vec Ideal S512x1024 .bf16) (z : Fin 1) (e r : Fin 512) :
    k0_pay18 h w (ix3 z e r) = ∑ k : Fin 1024, w (ix2 e k) * h (ix2 r k) := by
  obtain rfl : z = 0 := Subsingleton.elim _ _
  pointwise [k0_pay18, k0_pay17]

theorem pay22_at (h : FVec Ideal S512x1024 .bf16) (w : Vec Ideal S512x1024 .bf16) (z : Fin 1) (e r : Fin 512) :
    k0_pay22 h w (ix3 z e r) = ∑ k : Fin 1024, w (ix2 e k) * h (ix2 r k) := by
  obtain rfl : z = 0 := Subsingleton.elim _ _
  pointwise [k0_pay22, k0_pay21]

theorem pay27_at (h : FVec Ideal S512x1024 .bf16) (w : Vec Ideal S256x1024 .bf16) (z : Fin 1) (e : Fin 256) (r : Fin 512) :
    k0_pay27 h w (ix3 z e r) = ∑ k : Fin 1024, w (ix2 e k) * h (ix2 r k) := by
  obtain rfl : z = 0 := Subsingleton.elim _ _
  pointwise [k0_pay27, k0_pay26]

/-! The parts of the weights that a grid point loads. -/

theorem ld_q (w : Vec Ideal S1024x1792 .bf16) (k : Fin 1024) (e : Fin 512) : View.ld w r0_3 (ix2 k e) = w (ix2 k ⟨e.1, by omega⟩) :=
  congrArg w (funext (Fin.forall_fin_two.2 ⟨Fin.ext (show 0 + 1 * k.1 = k.1 by omega), Fin.ext (show 0 + 1 * e.1 = e.1 by omega)⟩))

theorem ld_u (w : Vec Ideal S1024x1792 .bf16) (k : Fin 1024) (e : Fin 256) : View.ld w r0_8 (ix2 k e) = w (ix2 k ⟨1024 + e.1, by omega⟩) :=
  congrArg w (funext (Fin.forall_fin_two.2 ⟨Fin.ext (show 0 + 1 * k.1 = k.1 by omega), Fin.ext (show 1024 + 1 * e.1 = 1024 + e.1 by omega)⟩))

theorem ld_k (w : Vec Ideal S1664x1024 .bf16) (e : Fin 512) (k : Fin 1024) : View.ld w r0_11 (ix2 e k) = w (ix2 ⟨e.1, by omega⟩ k) :=
  congrArg w (funext (Fin.forall_fin_two.2 ⟨Fin.ext (show 0 + 1 * e.1 = e.1 by omega), Fin.ext (show 0 + 1 * k.1 = k.1 by omega)⟩))

theorem ld_v (w : Vec Ideal S1664x1024 .bf16) (e : Fin 512) (k : Fin 1024) : View.ld w r0_14 (ix2 e k) = w (ix2 ⟨512 + e.1, by omega⟩ k) :=
  congrArg w (funext (Fin.forall_fin_two.2 ⟨Fin.ext (show 512 + 1 * e.1 = 512 + e.1 by omega), Fin.ext (show 0 + 1 * k.1 = k.1 by omega)⟩))

theorem ld_b (w : Vec Ideal S1664x1024 .bf16) (e : Fin 256) (k : Fin 1024) : View.ld w r0_18 (ix2 e k) = w (ix2 ⟨1280 + e.1, by omega⟩ k) :=
  congrArg w (funext (Fin.forall_fin_two.2 ⟨Fin.ext (show 1280 + 1 * e.1 = 1280 + e.1 by omega), Fin.ext (show 0 + 1 * k.1 = k.1 by omega)⟩))

/-! What a grid point stores. -/

section
variable (a : Vec Ideal S1024x1792 .bf16) (w : Vec Ideal S1664x1024 .bf16) (x4 x5 : Vec Ideal S512x384 .f32) (x6 : Vec Ideal S192x512 .f32)
  (x7 : Vec Ideal S96x512 .f32) (x8 : Vec Ideal S128x1 .f32)

theorem ld_x : View.ld x r0_0 = x := View.ld_unit_zero (by decide) _ _
theorem ld_g : View.ld g r0_1 = g := View.ld_unit_zero (by decide) _ _

theorem pay32_eq : k0_pay32 x g a w x4 x5 x6 x7 x8 = k0_pay2 x g := by
  unfold k0_pay32
  rw [ld_x, ld_g]

theorem out9_at (r e : Fin 512) : out0_9 x g a w x4 x5 x6 x7 x8 (ix2 r e)
    = (∑ k : Fin 1024, row x g r k * a (ix2 k ⟨e.1, by omega⟩)) * Ideal.ofBits .f32 0x3E000000#32 := by
  unfold out0_9
  rw [ld_x, ld_g]
  refine (congrFun (View.canon_unit_zero (by decide) _ _) (ix2 r e)).trans ((pay5_at x g _ r e).trans ?_)
  exact congrArg (· * _) (Finset.sum_congr rfl fun k _ => congrArg (_ * ·) (ld_q a k e))

theorem out12_at (r : Fin 512) (e : Fin 256) : out0_12 x g a w x4 x5 x6 x7 x8 (ix2 r e)
    = ∑ k : Fin 1024, row x g r k * a (ix2 k ⟨1024 + e.1, by omega⟩) := by
  unfold out0_12
  rw [pay32_eq]
  refine (congrFun (View.canon_unit_zero (by decide) _ _) (ix2 r e)).trans ((pay12_at _ _ r e).trans ?_)
  exact Finset.sum_congr rfl fun k _ => congrArg₂ (· * ·) (pay2_at x g r k) (ld_u a k e)

theorem out15_at (z : Fin 1) (e r : Fin 512) : out0_15 x g a w x4 x5 x6 x7 x8 (ix3 z e r)
    = ∑ k : Fin 1024, row x g r k * w (ix2 ⟨e.1, by omega⟩ k) := by
  unfold out0_15
  rw [pay32_eq]
  refine (congrFun (View.canon_unit_zero (by decide) _ _) (ix3 z e r)).trans ((pay18_at _ _ z e r).trans ?_)
  exact Finset.sum_congr rfl fun k _ => (congrArg₂ (· * ·) (ld_k w e k) (pay2_at x g r k)).trans (mul_comm _ _)

theorem out16_at (z : Fin 1) (e r : Fin 512) : out0_16 x g a w x4 x5 x6 x7 x8 (ix3 z e r)
    = ∑ k : Fin 1024, row x g r k * w (ix2 ⟨512 + e.1, by omega⟩ k) := by
  unfold out0_16
  rw [pay32_eq]
  refine (congrFun (View.canon_unit_zero (by decide) _ _) (ix3 z e r)).trans ((pay22_at _ _ z e r).trans ?_)
  exact Finset.sum_congr rfl fun k _ => (congrArg₂ (· * ·) (ld_v w e k) (pay2_at x g r k)).trans (mul_comm _ _)

theorem out18_at (z : Fin 1) (e : Fin 256) (r : Fin 512) : out0_18 x g a w x4 x5 x6 x7 x8 (ix3 z e r)
    = ∑ k : Fin 1024, row x g r k * w (ix2 ⟨1280 + e.1, by omega⟩ k) := by
  unfold out0_18
  rw [pay32_eq]
  refine (congrFun (View.canon_unit_zero (by decide) _ _) (ix3 z e r)).trans ((pay27_at _ _ z e r).trans ?_)
  exact Finset.sum_congr rfl fun k _ => (congrArg₂ (· * ·) (ld_b w e k) (pay2_at x g r k)).trans (mul_comm _ _)
end

end Cert.ProjIdeal.Mix
end
-- ==== Proof.ProjRef.lean ====
module

public import proofs.«01_k».proof.Proof.Swiglu
public import proofs.«01_k».proof.Proof.Gen.ProjReferenceIdeal.Run

/-!
The input projection of the reference, read at an index: five of the parts that it is split into.
-/

@[expose] public section
set_option maxRecDepth 16384
noncomputable section
open Idealize.ShloMosaic Idealize.ShloMosaic.TcCoe Idealize.SL.Sem
namespace Cert.ProjReferenceIdeal.Mix
open Cert.ProjReferenceIdeal Cert.ProjReferenceIdeal.Gen Cert.Swiglu

variable (X : FVec Ideal S4x4096x1024 .f32) (s : FVec Ideal S1024 .f32) (w : FVec Ideal S1024x2864 .f32)

/-- The normalized rows. -/
def hrow : FVec Ideal S4x4096x1024 .f32 :=
  mulf (mulf X (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf X X) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 s))

/-- The projection of rows. -/
def prod (h : FVec Ideal S4x4096x1024 .f32) : FVec Ideal S4x4096x2864 .f32 :=
  Host.dotGeneral (φ₁ := .f32) (φ₂ := .f32) dot_S4x4096x1024_S1024x2864_S4x4096x2864_2_0_01_1_n_n none h w

/-- The scaled queries. -/
def partQ (z : FVec Ideal S4x4096x2864 .f32) : FVec Ideal S16384x512 .bf16 :=
  shapeCast _ (truncf .bf16 (mulf (extractStridedSlice S4x4096x512 ![0, 0, 0] z slices_S4x4096x2864_S4x4096x512_0_0_0) (broadcastInDim S4x4096x512 ![] bcast_S_S4x4096x512 (constant S_ .f32 0x3E000000#32))) bitsLt_bf16_f32) shapeCasts_S4x4096x512_S16384x512

/-- The rows to be pooled. -/
def partU (z : FVec Ideal S4x4096x2864 .f32) : FVec Ideal S16384x256 .f32 :=
  shapeCast _ (extractStridedSlice S4x4096x256 ![0, 0, 2608] z slices_S4x4096x2864_S4x4096x256_0_0_2608) shapeCasts_S4x4096x256_S16384x256

/-- The keys. -/
def partK (z : FVec Ideal S4x4096x2864 .f32) : FVec Ideal S4x512x4096 .f32 :=
  transpose S4x512x4096 [0, 2, 1] (extractStridedSlice S4x4096x512 ![0, 0, 512] z slices_S4x4096x2864_S4x4096x512_0_0_512) transposes_S4x4096x512_S4x512x4096_0_2_1

/-- The values. -/
def partV (z : FVec Ideal S4x4096x2864 .f32) : FVec Ideal S4x512x4096 .f32 :=
  transpose S4x512x4096 [0, 2, 1] (extractStridedSlice S4x4096x512 ![0, 0, 1024] z slices_S4x4096x2864_S4x4096x512_0_0_1024) transposes_S4x4096x512_S4x512x4096_0_2_1

/-- The values of the sparse attention. -/
def partB (z : FVec Ideal S4x4096x2864 .f32) : FVec Ideal S4x256x4096 .f32 :=
  transpose S4x256x4096 [0, 2, 1] (extractStridedSlice S4x4096x256 ![0, 0, 2056] z slices_S4x4096x2864_S4x4096x256_0_0_2056) transposes_S4x4096x256_S4x256x4096_0_2_1

/-- A normalized row times a column of the weights. -/
def val (b : Fin 4) (t : Fin 4096) (j : Fin 2864) : EReal :=
  ∑ k : Fin 1024, nrm (fun k => X (ix3 b t k)) (fun k => s (ix1 k)) k * w (ix2 k j)

/-- The scale of the queries. -/
def scl : EReal := Ideal.ofBits .f32 0x3E000000#32

theorem hrow_at (b : Fin 4) (t : Fin 4096) (k : Fin 1024) : hrow X s (ix3 b t k) = nrm (fun k => X (ix3 b t k)) (fun k => s (ix1 k)) k := by
  unfold hrow nrm
  pointwise

theorem prod_at (h : FVec Ideal S4x4096x1024 .f32) (b : Fin 4) (t : Fin 4096) (j : Fin 2864) :
    prod w h (ix3 b t j) = ∑ k : Fin 1024, h (ix3 b t k) * w (ix2 k j) := by
  unfold prod
  pointwise

/-- The projection at an index. -/
theorem val_at (b : Fin 4) (t : Fin 4096) (j : Fin 2864) : prod w (hrow X s) (ix3 b t j) = val X s w b t j := by
  rw [prod_at]
  unfold val
  simp only [hrow_at]

variable (z : FVec Ideal S4x4096x2864 .f32)

theorem partQ_at (n : Fin 16384) (e : Fin 512) :
    partQ z (ix2 n e) = z (ix3 ⟨n.1 / 4096, by omega⟩ ⟨n.1 % 4096, by omega⟩ ⟨e.1, by omega⟩) * scl := by
  unfold partQ scl
  pointwise

theorem partU_at (n : Fin 16384) (e : Fin 256) :
    partU z (ix2 n e) = z (ix3 ⟨n.1 / 4096, by omega⟩ ⟨n.1 % 4096, by omega⟩ ⟨2608 + e.1, by omega⟩) := by
  unfold partU
  pointwise

theorem partK_at (b : Fin 4) (e : Fin 512) (t : Fin 4096) : partK z (ix3 b e t) = z (ix3 b t ⟨512 + e.1, by omega⟩) := by
  unfold partK
  pointwise

theorem partV_at (b : Fin 4) (e : Fin 512) (t : Fin 4096) : partV z (ix3 b e t) = z (ix3 b t ⟨1024 + e.1, by omega⟩) := by
  unfold partV
  pointwise

theorem partB_at (b : Fin 4) (e : Fin 256) (t : Fin 4096) : partB z (ix3 b e t) = z (ix3 b t ⟨2056 + e.1, by omega⟩) := by
  unfold partB
  pointwise

/-- On every device the reference ends with those parts of its arguments' projection, and leaves its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = partQ (prod (m ((c.tc : Thread nD τ).loc main_arg2))
          (hrow (m ((c.tc : Thread nD τ).loc main_arg0)) (m ((c.tc : Thread nD τ).loc main_arg1))))
      ∧ r.2.mem ((c.tc : Thread nD τ).loc main_v29) = partU (prod (m ((c.tc : Thread nD τ).loc main_arg2))
          (hrow (m ((c.tc : Thread nD τ).loc main_arg0)) (m ((c.tc : Thread nD τ).loc main_arg1))))
      ∧ r.2.mem ((c.tc : Thread nD τ).loc main_v30) = partK (prod (m ((c.tc : Thread nD τ).loc main_arg2))
          (hrow (m ((c.tc : Thread nD τ).loc main_arg0)) (m ((c.tc : Thread nD τ).loc main_arg1))))
      ∧ r.2.mem ((c.tc : Thread nD τ).loc main_v31) = partV (prod (m ((c.tc : Thread nD τ).loc main_arg2))
          (hrow (m ((c.tc : Thread nD τ).loc main_arg0)) (m ((c.tc : Thread nD τ).loc main_arg1))))
      ∧ r.2.mem ((c.tc : Thread nD τ).loc main_v32) = partB (prod (m ((c.tc : Thread nD τ).loc main_arg2))
          (hrow (m ((c.tc : Thread nD τ).loc main_arg0)) (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by unfold partQ prod hrow; rfl), (h c).2.1.trans (by unfold partU prod hrow; rfl),
      (h c).2.2.1.trans (by unfold partK prod hrow; rfl), (h c).2.2.2.1.trans (by unfold partV prod hrow; rfl),
      (h c).2.2.2.2.1.trans (by unfold partB prod hrow; rfl), (h c).2.2.2.2.2⟩)
    (Cert.ProjReferenceIdeal.Value.run (F := Ideal) m ρ)

end Cert.ProjReferenceIdeal.Mix
end
-- ==== Proof.ProjFinal.lean ====
module

public import proofs.«01_k».proof.Proof.ProjHost
public import proofs.«01_k».proof.Proof.ProjPay
public import proofs.«01_k».proof.Proof.ProjRef

/-!
The input projection: the blocks of a grid point, and five output arrays of the kernel, which are the reference's parts.
-/

@[expose] public section
set_option maxRecDepth 16384
noncomputable section
open Idealize.ShloMosaic Idealize.ShloMosaic.TcCoe Idealize.SL.Sem
namespace Cert.ProjIdeal.Mix
open Cert.ProjIdeal Cert.ProjIdeal.Gen Cert.Swiglu
open Cert.ProjReferenceIdeal.Mix (val val_at scl prod hrow partQ partU partK partV partB partQ_at partU_at partK_at partV_at partB_at)

/-- The windows' index maps over the grid of batches and row blocks. -/
theorem idx : ∀ t : Fin cfg0.N,
    win0_0.index t = ![t.1, 0]
    ∧ win0_1.index t = ![0, 0]
    ∧ win0_2.index t = ![0, 0]
    ∧ win0_3.index t = ![0, 0]
    ∧ win0_9.index t = ![t.1, 0]
    ∧ win0_12.index t = ![t.1, 0]
    ∧ win0_15.index t = ![t.1 / 8, 0, t.1 % 8]
    ∧ win0_16.index t = ![t.1 / 8, 0, t.1 % 8]
    ∧ win0_18.index t = ![t.1 / 8, 0, t.1 % 8] :=
  (by decide +kernel : ∀ t : Fin grid0.N, _)

section
variable (m : (ℓ : Loc nD τ sig) → Buf (Elt Ideal) ℓ) (c : Dev nD) (t : Fin cfg0.N)

/-- The block of the rows. -/
theorem blk_x (r : Fin 512) (k : Fin 1024) (n : Fin 16384) (hn : n.1 = t.1 * 512 + r.1) :
    (iblk m c 0 t : S512x1024.Idx → EReal) (ix2 r k) = (V m c main_v170 : S16384x1024.Idx → EReal) (ix2 n k) := by
  show (V m c main_v170 : S16384x1024.Idx → EReal) (((cfg0.win 0).blk t).view.emb (ix2 r k)) = _
  have h0 : ((((cfg0.win 0).blk t).view.emb (ix2 r k) : S16384x1024.Idx) 0).val = n.1 := by blk_simp [idx t]; rw [hn]
  have h1 : ((((cfg0.win 0).blk t).view.emb (ix2 r k) : S16384x1024.Idx) 1).val = k.1 := by blk_simp [idx t]
  exact congrArg _ (funext (Fin.forall_fin_two.2 ⟨Fin.ext h0, Fin.ext h1⟩))

/-- The scale. -/
theorem blk_s (k : Fin 1024) : (iblk m c 1 t : S1x1024.Idx → EReal) (ix2 0 k) = (V m c main_v171 : S1x1024.Idx → EReal) (ix2 0 k) := by
  show (V m c main_v171 : S1x1024.Idx → EReal) (((cfg0.win 1).blk t).view.emb (ix2 0 k)) = _
  have h0 : ((((cfg0.win 1).blk t).view.emb (ix2 0 k) : S1x1024.Idx) 0).val = 0 := by blk_simp [idx t]; rfl
  have h1 : ((((cfg0.win 1).blk t).view.emb (ix2 0 k) : S1x1024.Idx) 1).val = k.1 := by blk_simp [idx t]
  exact congrArg _ (funext (Fin.forall_fin_two.2 ⟨Fin.ext h0, Fin.ext h1⟩))

/-- The first array of weights. -/
theorem blk_a (k : Fin 1024) (j : Fin 1792) :
    (iblk m c 2 t : S1024x1792.Idx → EReal) (ix2 k j) = (V m c main_v159 : S1024x1792.Idx → EReal) (ix2 k j) := by
  show (V m c main_v159 : S1024x1792.Idx → EReal) (((cfg0.win 2).blk t).view.emb (ix2 k j)) = _
  have h0 : ((((cfg0.win 2).blk t).view.emb (ix2 k j) : S1024x1792.Idx) 0).val = k.1 := by blk_simp [idx t]
  have h1 : ((((cfg0.win 2).blk t).view.emb (ix2 k j) : S1024x1792.Idx) 1).val = j.1 := by blk_simp [idx t]
  exact congrArg _ (funext (Fin.forall_fin_two.2 ⟨Fin.ext h0, Fin.ext h1⟩))

/-- The second array of weights. -/
theorem blk_w (j : Fin 1664) (k : Fin 1024) :
    (iblk m c 3 t : S1664x1024.Idx → EReal) (ix2 j k) = (V m c main_v164 : S1664x1024.Idx → EReal) (ix2 j k) := by
  show (V m c main_v164 : S1664x1024.Idx → EReal) (((cfg0.win 3).blk t).view.emb (ix2 j k)) = _
  have h0 : ((((cfg0.win 3).blk t).view.emb (ix2 j k) : S1664x1024.Idx) 0).val = j.1 := by blk_simp [idx t]
  have h1 : ((((cfg0.win 3).blk t).view.emb (ix2 j k) : S1664x1024.Idx) 1).val = k.1 := by blk_simp [idx t]
  exact congrArg _ (funext (Fin.forall_fin_two.2 ⟨Fin.ext h0, Fin.ext h1⟩))

/-- A normalized row of a grid point's block in terms of the arguments. -/
theorem row_at (r : Fin 512) (k : Fin 1024) (b : Fin 4) (p : Fin 4096) (h : b.1 * 4096 + p.1 = t.1 * 512 + r.1) :
    row (iblk m c 0 t) (iblk m c 1 t) r k = nrm (fun k => argX m c (ix3 b p k)) (fun k => argS m c (ix1 k)) k := by
  have hx : ∀ k, (iblk m c 0 t : S512x1024.Idx → EReal) (ix2 r k) = argX m c (ix3 b p k) := fun k => by
    have hlt : t.1 * 512 + r.1 < 16384 := by have := p.2; have := b.2; omega
    refine (blk_x m c t r k ⟨_, hlt⟩ rfl).trans ((read_x m c _ k).trans ?_)
    congr 2
    · exact Fin.ext (by dsimp only; have := p.2; omega)
    · exact Fin.ext (by dsimp only; have := p.2; omega)
  have hs : ∀ k, (iblk m c 1 t : S1x1024.Idx → EReal) (ix2 0 k) = argS m c (ix1 k) := fun k => (blk_s m c t k).trans (read_s m c k)
  exact congrArg₂ (fun a b => nrm a b k) (funext hx) (funext hs)
end

variable (m : (ℓ : Loc nD τ sig) → Buf (Elt Ideal) ℓ) (c : Dev nD)

/-- The reference's projection of the arguments. -/
abbrev proj : Cert.ProjReferenceIdeal.S4x4096x2864.Idx → EReal := prod (argW m c) (hrow (argX m c) (argS m c))

/-- The place of an entry of the output of the scaled queries. -/
theorem place9 (t : Fin cfg0.N) (r : Fin 512) (e : Fin 512) (n : Fin 16384) (hn : n.1 = t.1 * 512 + r.1) :
    (((cfg0.win 9).blk t).view.emb (ix2 r e) : S16384x512.Idx) = ix2 n e := by
  have h0 : ((((cfg0.win 9).blk t).view.emb (ix2 r e) : S16384x512.Idx) 0).val = n.1 := by blk_simp [idx t]; rw [hn]
  have h1 : ((((cfg0.win 9).blk t).view.emb (ix2 r e) : S16384x512.Idx) 1).val = e.1 := by blk_simp [idx t]
  exact funext (Fin.forall_fin_two.2 ⟨Fin.ext h0, Fin.ext h1⟩)

/-- An entry of the output of the scaled queries. -/
theorem at9 (t : Fin cfg0.N) (r : Fin 512) (e : Fin 512) (n : Fin 16384) (hn : n.1 = t.1 * 512 + r.1) :
    out0_9 (iblk m c 0 t) (iblk m c 1 t) (iblk m c 2 t) (iblk m c 3 t) (iblk m c 4 t) (iblk m c 5 t) (iblk m c 6 t) (iblk m c 7 t) (iblk m c 8 t) (ix2 r e) = partQ (proj m c) (ix2 n e) := by
  refine (out9_at _ _ _ _ _ _ _ _ _ r e).trans (Eq.symm ((partQ_at _ n e).trans ?_))
  refine congrArg (· * scl) ((val_at _ _ _ _ _ _).trans (Finset.sum_congr rfl fun k _ => congrArg₂ (· * ·)
    (row_at m c t r k ⟨n.1 / 4096, by omega⟩ ⟨n.1 % 4096, by omega⟩ (by dsimp only; omega)).symm ((blk_a m c t k _).trans (read_q m c k e)).symm))

/-- The output of the scaled queries. -/
theorem final9_eq : ((dats m 0 c).arrAt 9 cfg0.N : S16384x512.Idx → EReal) = partQ (proj m c) := by
  refine (dats m 0 c).arrAt_eq_of_covers 9 (partQ (proj m c)) (by decide +kernel) fun t hf y => ?_
  blk_simp
  rw [after0_9]
  have hN : t.1 < 32 := t.2
  have hy : ∀ y : S512x512.Idx, out0_9 (iblk m c 0 t) (iblk m c 1 t) (iblk m c 2 t) (iblk m c 3 t) (iblk m c 4 t) (iblk m c 5 t) (iblk m c 6 t) (iblk m c 7 t) (iblk m c 8 t) y = partQ (proj m c) (((cfg0.win 9).blk t).view.emb y) := fun y => by
    obtain ⟨r, e, rfl⟩ : ∃ r e, y = ix2 r e := ⟨y 0, y 1, eq_ix2 y⟩
    have hlt : t.1 * 512 + r.1 < 16384 := by have := r.2; omega
    rw [place9 t r e ⟨_, hlt⟩ rfl]
    exact at9 m c t r e ⟨_, hlt⟩ rfl
  exact hy y

/-- The place of an entry of the output of the rows to be pooled. -/
theorem place12 (t : Fin cfg0.N) (r : Fin 512) (e : Fin 256) (n : Fin 16384) (hn : n.1 = t.1 * 512 + r.1) :
    (((cfg0.win 12).blk t).view.emb (ix2 r e) : S16384x256.Idx) = ix2 n e := by
  have h0 : ((((cfg0.win 12).blk t).view.emb (ix2 r e) : S16384x256.Idx) 0).val = n.1 := by blk_simp [idx t]; rw [hn]
  have h1 : ((((cfg0.win 12).blk t).view.emb (ix2 r e) : S16384x256.Idx) 1).val = e.1 := by blk_simp [idx t]
  exact funext (Fin.forall_fin_two.2 ⟨Fin.ext h0, Fin.ext h1⟩)

/-- An entry of the output of the rows to be pooled. -/
theorem at12 (t : Fin cfg0.N) (r : Fin 512) (e : Fin 256) (n : Fin 16384) (hn : n.1 = t.1 * 512 + r.1) :
    out0_12 (iblk m c 0 t) (iblk m c 1 t) (iblk m c 2 t) (iblk m c 3 t) (iblk m c 4 t) (iblk m c 5 t) (iblk m c 6 t) (iblk m c 7 t) (iblk m c 8 t) (ix2 r e) = partU (proj m c) (ix2 n e) := by
  refine (out12_at _ _ _ _ _ _ _ _ _ r e).trans (Eq.symm ((partU_at _ n e).trans ?_))
  refine (val_at _ _ _ _ _ _).trans (Finset.sum_congr rfl fun k _ => congrArg₂ (· * ·)
    (row_at m c t r k ⟨n.1 / 4096, by omega⟩ ⟨n.1 % 4096, by omega⟩ (by dsimp only; omega)).symm ((blk_a m c t k _).trans (read_u m c k e)).symm)

/-- The output of the rows to be pooled. -/
theorem final12_eq : ((dats m 0 c).arrAt 12 cfg0.N : S16384x256.Idx → EReal) = partU (proj m c) := by
  refine (dats m 0 c).arrAt_eq_of_covers 12 (partU (proj m c)) (by decide +kernel) fun t hf y => ?_
  blk_simp
  rw [after0_12]
  have hN : t.1 < 32 := t.2
  have hy : ∀ y : S512x256.Idx, out0_12 (iblk m c 0 t) (iblk m c 1 t) (iblk m c 2 t) (iblk m c 3 t) (iblk m c 4 t) (iblk m c 5 t) (iblk m c 6 t) (iblk m c 7 t) (iblk m c 8 t) y = partU (proj m c) (((cfg0.win 12).blk t).view.emb y) := fun y => by
    obtain ⟨r, e, rfl⟩ : ∃ r e, y = ix2 r e := ⟨y 0, y 1, eq_ix2 y⟩
    have hlt : t.1 * 512 + r.1 < 16384 := by have := r.2; omega
    rw [place12 t r e ⟨_, hlt⟩ rfl]
    exact at12 m c t r e ⟨_, hlt⟩ rfl
  exact hy y

/-- The place of an entry of the output of the keys. -/
theorem place15 (t : Fin cfg0.N) (z : Fin 1) (e : Fin 512) (r : Fin 512) (b : Fin 4) (p : Fin 4096) (hb : b.1 = t.1 / 8) (hp : p.1 = t.1 % 8 * 512 + r.1) :
    (((cfg0.win 15).blk t).view.emb (ix3 z e r) : S4x512x4096.Idx) = ix3 b e p := by
  have h0 : ((((cfg0.win 15).blk t).view.emb (ix3 z e r) : S4x512x4096.Idx) 0).val = b.1 := by blk_simp [idx t]; omega
  have h1 : ((((cfg0.win 15).blk t).view.emb (ix3 z e r) : S4x512x4096.Idx) 1).val = e.1 := by blk_simp [idx t]
  have h2 : ((((cfg0.win 15).blk t).view.emb (ix3 z e r) : S4x512x4096.Idx) 2).val = p.1 := by blk_simp [idx t]; rw [hp]
  exact funext (Fin.forall_fin_succ.2 ⟨Fin.ext h0, Fin.forall_fin_two.2 ⟨Fin.ext h1, Fin.ext h2⟩⟩)

/-- An entry of the output of the keys. -/
theorem at15 (t : Fin cfg0.N) (z : Fin 1) (e : Fin 512) (r : Fin 512) (b : Fin 4) (p : Fin 4096) (hb : b.1 = t.1 / 8) (hp : p.1 = t.1 % 8 * 512 + r.1) :
    out0_15 (iblk m c 0 t) (iblk m c 1 t) (iblk m c 2 t) (iblk m c 3 t) (iblk m c 4 t) (iblk m c 5 t) (iblk m c 6 t) (iblk m c 7 t) (iblk m c 8 t) (ix3 z e r) = partK (proj m c) (ix3 b e p) := by
  refine (out15_at _ _ _ _ _ _ _ _ _ z e r).trans (Eq.symm ((partK_at _ b e p).trans ?_))
  refine (val_at _ _ _ _ _ _).trans (Finset.sum_congr rfl fun k _ => congrArg₂ (· * ·)
    (row_at m c t r k b p (by omega)).symm ?_)
  refine (((blk_w m c t _ k).trans (read_kv m c k ⟨e.1, by omega⟩)).trans ?_).symm
  rfl

/-- The output of the keys. -/
theorem final15_eq : ((dats m 0 c).arrAt 15 cfg0.N : S4x512x4096.Idx → EReal) = partK (proj m c) := by
  refine (dats m 0 c).arrAt_eq_of_covers 15 (partK (proj m c)) (by decide +kernel) fun t hf y => ?_
  blk_simp
  rw [after0_15]
  have hN : t.1 < 32 := t.2
  have hy : ∀ y : S1x512x512.Idx, out0_15 (iblk m c 0 t) (iblk m c 1 t) (iblk m c 2 t) (iblk m c 3 t) (iblk m c 4 t) (iblk m c 5 t) (iblk m c 6 t) (iblk m c 7 t) (iblk m c 8 t) y = partK (proj m c) (((cfg0.win 15).blk t).view.emb y) := fun y => by
    obtain ⟨z, e, r, rfl⟩ : ∃ z e r, y = ix3 z e r := ⟨y 0, y 1, y 2, eq_ix3 y⟩
    have hb : t.1 / 8 < 4 := by omega
    have hp : t.1 % 8 * 512 + r.1 < 4096 := by have := r.2; omega
    rw [place15 t z e r ⟨_, hb⟩ ⟨_, hp⟩ rfl rfl]
    exact at15 m c t z e r ⟨_, hb⟩ ⟨_, hp⟩ rfl rfl
  exact hy y

/-- The place of an entry of the output of the values. -/
theorem place16 (t : Fin cfg0.N) (z : Fin 1) (e : Fin 512) (r : Fin 512) (b : Fin 4) (p : Fin 4096) (hb : b.1 = t.1 / 8) (hp : p.1 = t.1 % 8 * 512 + r.1) :
    (((cfg0.win 16).blk t).view.emb (ix3 z e r) : S4x512x4096.Idx) = ix3 b e p := by
  have h0 : ((((cfg0.win 16).blk t).view.emb (ix3 z e r) : S4x512x4096.Idx) 0).val = b.1 := by blk_simp [idx t]; omega
  have h1 : ((((cfg0.win 16).blk t).view.emb (ix3 z e r) : S4x512x4096.Idx) 1).val = e.1 := by blk_simp [idx t]
  have h2 : ((((cfg0.win 16).blk t).view.emb (ix3 z e r) : S4x512x4096.Idx) 2).val = p.1 := by blk_simp [idx t]; rw [hp]
  exact funext (Fin.forall_fin_succ.2 ⟨Fin.ext h0, Fin.forall_fin_two.2 ⟨Fin.ext h1, Fin.ext h2⟩⟩)

/-- An entry of the output of the values. -/
theorem at16 (t : Fin cfg0.N) (z : Fin 1) (e : Fin 512) (r : Fin 512) (b : Fin 4) (p : Fin 4096) (hb : b.1 = t.1 / 8) (hp : p.1 = t.1 % 8 * 512 + r.1) :
    out0_16 (iblk m c 0 t) (iblk m c 1 t) (iblk m c 2 t) (iblk m c 3 t) (iblk m c 4 t) (iblk m c 5 t) (iblk m c 6 t) (iblk m c 7 t) (iblk m c 8 t) (ix3 z e r) = partV (proj m c) (ix3 b e p) := by
  refine (out16_at _ _ _ _ _ _ _ _ _ z e r).trans (Eq.symm ((partV_at _ b e p).trans ?_))
  refine (val_at _ _ _ _ _ _).trans (Finset.sum_congr rfl fun k _ => congrArg₂ (· * ·)
    (row_at m c t r k b p (by omega)).symm ?_)
  refine (((blk_w m c t _ k).trans (read_kv m c k ⟨512 + e.1, by omega⟩)).trans ?_).symm
  exact congrArg (fun j => argW m c (ix2 k j)) (Fin.ext (by dsimp only; omega))

/-- The output of the values. -/
theorem final16_eq : ((dats m 0 c).arrAt 16 cfg0.N : S4x512x4096.Idx → EReal) = partV (proj m c) := by
  refine (dats m 0 c).arrAt_eq_of_covers 16 (partV (proj m c)) (by decide +kernel) fun t hf y => ?_
  blk_simp
  rw [after0_16]
  have hN : t.1 < 32 := t.2
  have hy : ∀ y : S1x512x512.Idx, out0_16 (iblk m c 0 t) (iblk m c 1 t) (iblk m c 2 t) (iblk m c 3 t) (iblk m c 4 t) (iblk m c 5 t) (iblk m c 6 t) (iblk m c 7 t) (iblk m c 8 t) y = partV (proj m c) (((cfg0.win 16).blk t).view.emb y) := fun y => by
    obtain ⟨z, e, r, rfl⟩ : ∃ z e r, y = ix3 z e r := ⟨y 0, y 1, y 2, eq_ix3 y⟩
    have hb : t.1 / 8 < 4 := by omega
    have hp : t.1 % 8 * 512 + r.1 < 4096 := by have := r.2; omega
    rw [place16 t z e r ⟨_, hb⟩ ⟨_, hp⟩ rfl rfl]
    exact at16 m c t z e r ⟨_, hb⟩ ⟨_, hp⟩ rfl rfl
  exact hy y

/-- The place of an entry of the output of the sparse attention's values. -/
theorem place18 (t : Fin cfg0.N) (z : Fin 1) (e : Fin 256) (r : Fin 512) (b : Fin 4) (p : Fin 4096) (hb : b.1 = t.1 / 8) (hp : p.1 = t.1 % 8 * 512 + r.1) :
    (((cfg0.win 18).blk t).view.emb (ix3 z e r) : S4x256x4096.Idx) = ix3 b e p := by
  have h0 : ((((cfg0.win 18).blk t).view.emb (ix3 z e r) : S4x256x4096.Idx) 0).val = b.1 := by blk_simp [idx t]; omega
  have h1 : ((((cfg0.win 18).blk t).view.emb (ix3 z e r) : S4x256x4096.Idx) 1).val = e.1 := by blk_simp [idx t]
  have h2 : ((((cfg0.win 18).blk t).view.emb (ix3 z e r) : S4x256x4096.Idx) 2).val = p.1 := by blk_simp [idx t]; rw [hp]
  exact funext (Fin.forall_fin_succ.2 ⟨Fin.ext h0, Fin.forall_fin_two.2 ⟨Fin.ext h1, Fin.ext h2⟩⟩)

/-- An entry of the output of the sparse attention's values. -/
theorem at18 (t : Fin cfg0.N) (z : Fin 1) (e : Fin 256) (r : Fin 512) (b : Fin 4) (p : Fin 4096) (hb : b.1 = t.1 / 8) (hp : p.1 = t.1 % 8 * 512 + r.1) :
    out0_18 (iblk m c 0 t) (iblk m c 1 t) (iblk m c 2 t) (iblk m c 3 t) (iblk m c 4 t) (iblk m c 5 t) (iblk m c 6 t) (iblk m c 7 t) (iblk m c 8 t) (ix3 z e r) = partB (proj m c) (ix3 b e p) := by
  refine (out18_at _ _ _ _ _ _ _ _ _ z e r).trans (Eq.symm ((partB_at _ b e p).trans ?_))
  refine (val_at _ _ _ _ _ _).trans (Finset.sum_congr rfl fun k _ => congrArg₂ (· * ·)
    (row_at m c t r k b p (by omega)).symm ?_)
  refine (((blk_w m c t _ k).trans (read_b m c k e)).trans ?_).symm
  rfl

/-- The output of the sparse attention's values. -/
theorem final18_eq : ((dats m 0 c).arrAt 18 cfg0.N : S4x256x4096.Idx → EReal) = partB (proj m c) := by
  refine (dats m 0 c).arrAt_eq_of_covers 18 (partB (proj m c)) (by decide +kernel) fun t hf y => ?_
  blk_simp
  rw [after0_18]
  have hN : t.1 < 32 := t.2
  have hy : ∀ y : S1x256x512.Idx, out0_18 (iblk m c 0 t) (iblk m c 1 t) (iblk m c 2 t) (iblk m c 3 t) (iblk m c 4 t) (iblk m c 5 t) (iblk m c 6 t) (iblk m c 7 t) (iblk m c 8 t) y = partB (proj m c) (((cfg0.win 18).blk t).view.emb y) := fun y => by
    obtain ⟨z, e, r, rfl⟩ : ∃ z e r, y = ix3 z e r := ⟨y 0, y 1, y 2, eq_ix3 y⟩
    have hb : t.1 / 8 < 4 := by omega
    have hp : t.1 % 8 * 512 + r.1 < 4096 := by have := r.2; omega
    rw [place18 t z e r ⟨_, hb⟩ ⟨_, hp⟩ rfl rfl]
    exact at18 m c t z e r ⟨_, hb⟩ ⟨_, hp⟩ rfl rfl
  exact hy y

end Cert.ProjIdeal.Mix
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.DenseIdeal.Value
public import proofs.«01_k».proof.Proof.Gen.DenseReferenceIdeal
public import proofs.«01_k».proof.Proof.Gen.DenseReferenceIdeal.Run
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsReferenceIdeal
public import proofs.«01_k».proof.Proof.Gen.ExpertsReferenceIdeal.Run
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryIdeal.Value
public import proofs.«01_k».proof.Proof.Gen.MemoryReferenceIdeal
public import proofs.«01_k».proof.Proof.Gen.MemoryReferenceIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Final
public import proofs.«01_k».proof.Proof.Pre
public import proofs.«01_k».proof.Proof.DenseFinal
public import proofs.«01_k».proof.Proof.DenseRef
public import proofs.«01_k».proof.Proof.ExpertsFrame
public import proofs.«01_k».proof.Proof.ExpertsTable
public import proofs.«01_k».proof.Proof.ExpertsFinal
public import proofs.«01_k».proof.Proof.MemoryFinal
public import proofs.«01_k».proof.Proof.ProjFinal
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's run, read at its argument arrays and at the counters, of which a host-only program has none. -/
theorem reference_frame : Cert.quiescent_ReferenceIdeal (hReferenceIdeal := Cert.ReferenceIdeal.Gen.facts) := fun m g _ =>
  (θ_run _ _ _).mono (fun r h => ⟨fun c => (h c).2, sem_eq_zero_of_no_sems (by decide) r.2⟩)
    (Cert.ReferenceIdeal.Value.run (F := Ideal) m g)

/-- The same of the dense layer's reference. -/
theorem dense_reference_frame : Cert.quiescent_DenseReferenceIdeal (hDenseReferenceIdeal := Cert.DenseReferenceIdeal.Gen.facts) := fun m g _ =>
  (θ_run _ _ _).mono (fun r h => ⟨fun c => (h c).2, sem_eq_zero_of_no_sems (by decide) r.2⟩)
    (Cert.DenseReferenceIdeal.Value.run (F := Ideal) m g)

/-- The forgetting attention's result and its reference's are equal. -/
theorem fox_equal : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Value.run_blocks m g
  · refine (θ_run _ _ _).mono (fun r h c => ?_) (Cert.ReferenceIdeal.Value.run (F := Ideal) m' g')
    obtain ⟨hQ, hK, hL⟩ := Cert.Fox.pre_real _ _ _ _ (hpre c)
    exact ⟨(h c).1.trans (Cert.KernelIdeal.Fox.final_eq m c m' (hagree c).1 (hagree c).2.1 (hagree c).2.2.1 (hagree c).2.2.2 hQ hK hL).symm, (h c).2⟩

/-- The dense layer's result and its reference's are equal. -/
theorem dense_equal : Cert.algebraic_DenseIdeal_DenseReferenceIdeal (hDenseIdeal := Cert.DenseIdeal.Gen.facts)
    (hDenseReferenceIdeal := Cert.DenseReferenceIdeal.Gen.facts) := by
  pair_intro
  · run_from Cert.DenseIdeal.Value.run_blocks m g
  · refine (θ_run _ _ _).mono (fun r h c => ?_) (Cert.DenseReferenceIdeal.Ffn.run m' g')
    refine ⟨(h c).1.trans ((Cert.DenseIdeal.Ffn.final_eq m c).trans ?_).symm, (h c).2⟩
    obtain ⟨h0, h1, h2, h3, h4⟩ := hagree c
    rw [h0, h1, h2, h3, h4]

/-- The same of the experts' reference. -/
theorem experts_reference_frame : Cert.quiescent_ExpertsReferenceIdeal (hExpertsReferenceIdeal := Cert.ExpertsReferenceIdeal.Gen.facts) := fun m g _ =>
  (θ_run _ _ _).mono (fun r h => ⟨fun c => (h c).2, sem_eq_zero_of_no_sems (by decide) r.2⟩)
    (Cert.ExpertsReferenceIdeal.Value.run (F := Ideal) m g)

/-- The experts' result and its reference's are equal. -/
theorem experts_equal : Cert.algebraic_ExpertsIdeal_ExpertsReferenceIdeal (hExpertsIdeal := Cert.ExpertsIdeal.Gen.facts)
    (hExpertsReferenceIdeal := Cert.ExpertsReferenceIdeal.Gen.facts) := fun m g m' g' _ hagree => by
  refine ⟨fun c => Cert.ExpertsIdeal.Ffn.target m c, Cert.ExpertsIdeal.Ffn.run m g (Cert.ExpertsIdeal.Tab.ok m), ?_⟩
  refine (θ_run _ _ _).mono (fun r h c => ?_) (Cert.ExpertsReferenceIdeal.Ffn.run m' g')
  obtain ⟨h0, h1, h2, h3, h4, h5⟩ := hagree c
  refine ⟨(h c).1.trans ?_, (h c).2⟩
  rw [h0, h3, h4, h5]
  exact (Cert.ExpertsIdeal.Ffn.target_eq m (StableHlo.launchContents m' c) c h2.symm).symm

/-- The same of the memory's reference. -/
theorem memory_reference_frame : Cert.quiescent_MemoryReferenceIdeal (hMemoryReferenceIdeal := Cert.MemoryReferenceIdeal.Gen.facts) := fun m g _ =>
  (θ_run _ _ _).mono (fun r h => ⟨fun c => (h c).2.2, sem_eq_zero_of_no_sems (by decide) r.2⟩)
    (Cert.MemoryReferenceIdeal.Value.run (F := Ideal) m g)

/-- The memory's keys and values and their reference's are equal, in both formats. -/
theorem memory_equal : Cert.algebraic_MemoryIdeal_MemoryReferenceIdeal (hMemoryIdeal := Cert.MemoryIdeal.Gen.facts)
    (hMemoryReferenceIdeal := Cert.MemoryReferenceIdeal.Gen.facts) := by
  pair_intro
  · run_from Cert.MemoryIdeal.Value.run_blocks m g
  · refine (θ_run _ _ _).mono (fun r h c => ?_) (Cert.MemoryReferenceIdeal.Mem.run m' g')
    obtain ⟨h0, h1, h2⟩ := hagree c
    refine ⟨(h c).1.trans ((Cert.MemoryIdeal.Mem.final3_eq m c).trans ?_).symm,
      (h c).2.1.trans ((Cert.MemoryIdeal.Mem.final4_eq m c).trans ?_).symm, (h c).2.2⟩
    · rw [h0, h1, h2]
    · rw [h0, h1, h2]

/-- The same of the projection's reference. -/
theorem proj_reference_frame : Cert.quiescent_ProjReferenceIdeal (hProjReferenceIdeal := Cert.ProjReferenceIdeal.Gen.facts) := fun m g _ =>
  (θ_run _ _ _).mono (fun r h => ⟨fun c => (h c).2.2.2.2.2, sem_eq_zero_of_no_sems (by decide) r.2⟩)
    (Cert.ProjReferenceIdeal.Value.run (F := Ideal) m g)

/-- Five parts of the input projection and their reference's are equal. -/
theorem proj_equal : Cert.algebraic_ProjIdeal_ProjReferenceIdeal (hProjIdeal := Cert.ProjIdeal.Gen.facts)
    (hProjReferenceIdeal := Cert.ProjReferenceIdeal.Gen.facts) := fun m g m' g' _ hagree => by
  refine ⟨fun c => (Cert.ProjIdeal.Gen.dats m 0 c).arrAt 9 Cert.ProjIdeal.cfg0.N,
    fun c => (Cert.ProjIdeal.Gen.dats m 0 c).arrAt 12 Cert.ProjIdeal.cfg0.N,
    fun c => (Cert.ProjIdeal.Gen.dats m 0 c).arrAt 15 Cert.ProjIdeal.cfg0.N,
    fun c => (Cert.ProjIdeal.Gen.dats m 0 c).arrAt 16 Cert.ProjIdeal.cfg0.N,
    fun c => (Cert.ProjIdeal.Gen.dats m 0 c).arrAt 18 Cert.ProjIdeal.cfg0.N, ?_, ?_⟩
  · exact (θ_run _ _ _).mono (fun r h c => ⟨(h c).1, (h c).2.2.2.1, (h c).2.2.2.2.2.2.1, (h c).2.2.2.2.2.2.2.1, (h c).2.2.2.2.2.2.2.2.2.1, (h c).2.2.2.2.2.2.2.2.2.2.2.2.2.2⟩)
      (Cert.ProjIdeal.Value.run_blocks m g)
  · refine (θ_run _ _ _).mono (fun r h c => ?_) (Cert.ProjReferenceIdeal.Mix.run m' g')
    obtain ⟨h0, h1, h2, h3⟩ := hagree c
    refine ⟨(h c).1.trans ((Cert.ProjIdeal.Mix.final9_eq m c).trans ?_).symm,
      (h c).2.1.trans ((Cert.ProjIdeal.Mix.final12_eq m c).trans ?_).symm,
      (h c).2.2.1.trans ((Cert.ProjIdeal.Mix.final15_eq m c).trans ?_).symm,
      (h c).2.2.2.1.trans ((Cert.ProjIdeal.Mix.final16_eq m c).trans ?_).symm,
      (h c).2.2.2.2.1.trans ((Cert.ProjIdeal.Mix.final18_eq m c).trans ?_).symm, (h c).2.2.2.2.2⟩
    all_goals rw [h0, h1, h2]

/-- All claims of the five calls: the frames, the named mask constant, and the equalities of the results. -/
theorem claim : Cert.Claim := ⟨Cert.Kernel.Gen.facts, Cert.KernelIdeal.Gen.facts, Cert.ReferenceIdeal.Gen.facts,
    Cert.Dense.Gen.facts, Cert.DenseIdeal.Gen.facts, Cert.DenseReferenceIdeal.Gen.facts,
    Cert.Experts.Gen.facts, Cert.ExpertsIdeal.Gen.facts, Cert.ExpertsReferenceIdeal.Gen.facts,
    Cert.Memory.Gen.facts, Cert.MemoryIdeal.Gen.facts, Cert.MemoryReferenceIdeal.Gen.facts,
    Cert.Proj.Gen.facts, Cert.ProjIdeal.Gen.facts, Cert.ProjReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  fun m ρ _ => Cert.Dense.Gen.frame m ρ, fun m ρ _ => Cert.DenseIdeal.Gen.frame m ρ, dense_reference_frame,
  fun m ρ _ => Cert.Experts.Gen.frame m ρ (Cert.Experts.Tab.ok m), fun m ρ _ => Cert.ExpertsIdeal.Gen.frame m ρ (Cert.ExpertsIdeal.Tab.ok m),
  experts_reference_frame,
  fun m ρ _ => Cert.Memory.Gen.frame m ρ, fun m ρ _ => Cert.MemoryIdeal.Gen.frame m ρ, memory_reference_frame,
  fun m ρ _ => Cert.Proj.Gen.frame m ρ, fun m ρ _ => Cert.ProjIdeal.Gen.frame m ρ, proj_reference_frame,
  IdealRules.named_const.statement Cert.KernelIdeal.κ "mask" .f32 0xF149F2CA#32 ⊥ rfl, fox_equal, trivial, dense_equal, trivial, experts_equal,
  trivial, memory_equal, trivial, proj_equal⟩

end Cert.Proof

end
